-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨3, ![1024, 8, 128]⟩ ⟨3, ![1024, 64, 128]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![1024, 8, 128]⟩ ⟨3, ![1024, 64, 128]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v42) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S1024x1024 : Shape := ⟨2, ![1024, 1024]⟩
abbrev S1024x8x128 : Shape := ⟨3, ![1024, 8, 128]⟩
abbrev S_ : Shape := ⟨0, ![]⟩

class Facts : Prop where
  bcast_S_S1024x1024 : S_.BroadcastsInDim S1024x1024 (![] : Fin 0 → Fin S1024x1024.rank)
  bcast_S_S1024x8x128 : S_.BroadcastsInDim S1024x8x128 (![] : Fin 0 → Fin S1024x8x128.rank)

variable [Facts]

def fn {F : FTy → Type} [FloatOps F] (main_arg0 : FVec F S1024x1024 .f32) (main_arg1 : FVec F S1024x1024 .f32) (main_arg2 : FVec F S1024x8x128 .f32) (main_arg3 : FVec F S1024x8x128 .f32) (main_arg4 : FVec F S1024x1024 .f32) : IVec S1024x1024 1 × IVec S1024x1024 1 × IVec S1024x8x128 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S1024x8x128 .f32 := Host.absf main_arg2
  let main_cst_1 : FVec F S_ .f32 := constant S_ .f32 0x7F800000#32
  let main_v7 : FVec F S1024x8x128 .f32 := broadcastInDim S1024x8x128 ![] bcast_S_S1024x8x128 main_cst_1
  let main_v8 : IVec S1024x8x128 1 := cmpf .olt main_v6 main_v7
  (main_v2, main_v5, main_v8)
-- ==== Pre_finite_scores_ReferenceIdeal.lean ====
abbrev S1024x1024 : Shape := ⟨2, ![1024, 1024]⟩
abbrev S1024x8192 : Shape := ⟨2, ![1024, 8192]⟩
abbrev S1024x64x128 : Shape := ⟨3, ![1024, 64, 128]⟩
abbrev S8192x1024 : Shape := ⟨2, ![8192, 1024]⟩
abbrev S_ : Shape := ⟨0, ![]⟩

class Facts : Prop where
  bcast_S_S1024x1024 : S_.BroadcastsInDim S1024x1024 (![] : Fin 0 → Fin S1024x1024.rank)
  bcast_S_S1024x8192 : S_.BroadcastsInDim S1024x8192 (![] : Fin 0 → Fin S1024x8192.rank)
  bcast_S_S1024x64x128 : S_.BroadcastsInDim S1024x64x128 (![] : Fin 0 → Fin S1024x64x128.rank)

variable [Facts]

def fn {F : FTy → Type} [FloatOps F] (main_arg0 : FVec F S1024x1024 .f32) (main_arg1 : FVec F S1024x8192 .f32) (main_arg2 : FVec F S1024x64x128 .f32) (main_arg3 : FVec F S1024x64x128 .f32) (main_arg4 : FVec F S8192x1024 .f32) : IVec S1024x1024 1 × IVec S1024x8192 1 × IVec S1024x64x128 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_v3 : FVec F S1024x8192 .f32 := Host.absf main_arg1
  let main_cst_0 : FVec F S_ .f32 := constant S_ .f32 0x7F800000#32
  let main_v4 : FVec F S1024x8192 .f32 := broadcastInDim S1024x8192 ![] bcast_S_S1024x8192 main_cst_0
  let main_v5 : IVec S1024x8192 1 := cmpf .olt main_v3 main_v4
  let main_v6 : FVec F S1024x64x128 .f32 := Host.absf main_arg2
  let main_cst_1 : FVec F S_ .f32 := constant S_ .f32 0x7F800000#32
  let main_v7 : FVec F S1024x64x128 .f32 := broadcastInDim S1024x64x128 ![] bcast_S_S1024x64x128 main_cst_1
  let main_v8 : IVec S1024x64x128 1 := cmpf .olt main_v6 main_v7
  (main_v2, main_v5, main_v8)
-- ==== Kernel.lean ====
abbrev S1024x1024 : Shape := ⟨2, ![1024, 1024]⟩
abbrev S1024x8x128 : Shape := ⟨3, ![1024, 8, 128]⟩
abbrev S336x1024 : Shape := ⟨2, ![336, 1024]⟩
abbrev S224x1024 : Shape := ⟨2, ![224, 1024]⟩
abbrev S3x3 : Shape := ⟨2, ![3, 3]⟩
abbrev S_ : Shape := ⟨0, ![]⟩
abbrev S1024x128 : Shape := ⟨2, ![1024, 128]⟩
abbrev S1024x1x128 : Shape := ⟨3, ![1024, 1, 128]⟩
abbrev S1024 : Shape := ⟨1, ![1024]⟩
abbrev S1024x1 : Shape := ⟨2, ![1024, 1]⟩
abbrev S384x1024 : Shape := ⟨2, ![384, 1024]⟩
abbrev S1x1 : Shape := ⟨2, ![1, 1]⟩
abbrev S192x1024 : Shape := ⟨2, ![192, 1024]⟩
abbrev S256x1024 : Shape := ⟨2, ![256, 1024]⟩
abbrev S128x1024 : Shape := ⟨2, ![128, 1024]⟩
abbrev S96x1024 : Shape := ⟨2, ![96, 1024]⟩
abbrev S64x1024 : Shape := ⟨2, ![64, 1024]⟩
abbrev S48x1024 : Shape := ⟨2, ![48, 1024]⟩
abbrev S32x1024 : Shape := ⟨2, ![32, 1024]⟩

abbrev nBuf : Space → Nat
  | .hbm => 6
  | .vmem => 10
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x8x128, .f32⟩
  | .hbm, ⟨3, _⟩ => ⟨S1024x8x128, .f32⟩
  | .hbm, ⟨4, _⟩ => ⟨S1024x1024, .f32⟩
  | .hbm, ⟨5, _⟩ => ⟨S1024x1024, .f32⟩
  | .local _ .vmem, ⟨0, _⟩ => ⟨S1024x1024, .f32⟩
  | .local _ .vmem, ⟨1, _⟩ => ⟨S1024x1024, .f32⟩
  | .local _ .vmem, ⟨2, _⟩ => ⟨S1024x8x128, .f32⟩
  | .local _ .vmem, ⟨3, _⟩ => ⟨S1024x8x128, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S336x1024, .f32⟩
  | .local _ .vmem, ⟨8, _⟩ => ⟨S336x1024, .f32⟩
  | .local _ .vmem, ⟨9, _⟩ => ⟨S224x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  (ofTc nBuf bufTy 1 42 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := ⟨1, ![1], ![false]⟩

def k0_dev1 (d0 : Dev nD) : Nat :=
  let c0_i32_34 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_21 : BitVec 32 := 1#32
  let v51 : BitVec 32 := Scalar.addi v2 c1_i32_21
  let c2_i32_28 : BitVec 32 := 2#32
  let c2_i32_22 : BitVec 32 := 2#32
  let c0_i32_23 : BitVec 32 := 0#32
  let v52 : BitVec 1 := Scalar.cmpi .eq c2_i32_22 c0_i32_23
  let c1_i32_24 : BitVec 32 := 1#32
  let v53 : BitVec 32 := Scalar.select v52 c1_i32_24 c2_i32_22
  let v54 : BitVec 32 := Scalar.remsi v2 v53
  let c0_i32_26 : BitVec 32 := 0#32
  let v56 : BitVec 1 := Scalar.cmpi .slt v54 c0_i32_26
  let c0_i32_27 : BitVec 32 := 0#32
  let v57 : BitVec 1 := Scalar.cmpi .slt v53 c0_i32_27
  let v58 : BitVec 1 := Scalar.xori v56 v57
  let c0_i32_25 : BitVec 32 := 0#32
  let v55 : BitVec 1 := Scalar.cmpi .ne v54 c0_i32_25
  let v59 : BitVec 1 := Scalar.andi v58 v55
  let v60 : BitVec 32 := Scalar.addi v54 v53
  let v61 : BitVec 32 := Scalar.select v59 v60 v54
  let v62 : BitVec 32 := Scalar.muli c2_i32_28 v61
  let v63 : BitVec 32 := Scalar.subi v51 v62
  let c1_i32_33 : BitVec 32 := 1#32
  let v71 : BitVec 32 := Scalar.muli v63 c1_i32_33
  let v72 : BitVec 32 := Scalar.addi c0_i32_34 v71
  v72.toNat
def k0_dev2 (d0 : Dev nD) : Nat :=
  let c0_i32_37 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v64 : BitVec 32 := Scalar.addi v2 c3_i32
  let c2_i32_29 : BitVec 32 := 2#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v65 : BitVec 32 := Scalar.muli c2_i32_29 v12
  let v66 : BitVec 32 := Scalar.subi v64 v65
  let c1_i32_36 : BitVec 32 := 1#32
  let v73 : BitVec 32 := Scalar.muli v66 c1_i32_36
  let v74 : BitVec 32 := Scalar.addi c0_i32_37 v73
  v74.toNat
def k0_dev3 (d0 : Dev nD) : Nat :=
  let c0_i32_40 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_30 : BitVec 32 := 4#32
  let v67 : BitVec 32 := Scalar.addi v2 c4_i32_30
  let c8_i32_31 : BitVec 32 := 8#32
  let c0_i32_15 : BitVec 32 := 0#32
  let v35 : BitVec 1 := Scalar.cmpi .sgt v2 c0_i32_15
  let v36 : BitVec 32 := Scalar.extui v35
  let c0_i32_16 : BitVec 32 := 0#32
  let v37 : BitVec 1 := Scalar.cmpi .slt v2 c0_i32_16
  let v38 : BitVec 32 := Scalar.extui v37
  let v39 : BitVec 32 := Scalar.subi v36 v38
  let c4_i32_14 : BitVec 32 := 4#32
  let c0_i32_17 : BitVec 32 := 0#32
  let v40 : BitVec 1 := Scalar.cmpi .sgt c4_i32_14 c0_i32_17
  let v41 : BitVec 32 := Scalar.extui v40
  let c0_i32_18 : BitVec 32 := 0#32
  let v42 : BitVec 1 := Scalar.cmpi .slt c4_i32_14 c0_i32_18
  let v43 : BitVec 32 := Scalar.extui v42
  let v44 : BitVec 32 := Scalar.subi v41 v43
  let v45 : BitVec 1 := Scalar.cmpi .ne v39 v44
  let v46 : BitVec 32 := Scalar.remsi v2 c4_i32_14
  let c0_i32_19 : BitVec 32 := 0#32
  let v47 : BitVec 1 := Scalar.cmpi .ne v46 c0_i32_19
  let v48 : BitVec 1 := Scalar.andi v45 v47
  let v34 : BitVec 32 := Scalar.divsi v2 c4_i32_14
  let c1_i32_20 : BitVec 32 := 1#32
  let v49 : BitVec 32 := Scalar.subi v34 c1_i32_20
  let v50 : BitVec 32 := Scalar.select v48 v49 v34
  let v68 : BitVec 32 := Scalar.muli c8_i32_31 v50
  let v69 : BitVec 32 := Scalar.subi v67 v68
  let c1_i32_39 : BitVec 32 := 1#32
  let v75 : BitVec 32 := Scalar.muli v69 c1_i32_39
  let v76 : BitVec 32 := Scalar.addi c0_i32_40 v75
  v76.toNat
def k0_off1 (d0 : Dev nD) : Fin 2 → Nat :=
  let c0_i32_133 : BitVec 32 := 0#32
  let c1_i32_132 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let c1_i32_5 : BitVec 32 := 1#32
  let c0_i32_6 : BitVec 32 := 0#32
  let v16 : BitVec 32 := Scalar.select v15 c1_i32_5 c0_i32_6
  let v230 : BitVec 32 := Scalar.subi c1_i32_132 v16
  let c192_i32 : BitVec 32 := 192#32
  let v231 : BitVec 32 := Scalar.muli v230 c192_i32
  let v232 : BitVec 32 := Scalar.addi c0_i32_133 v231
  let c0_i32_142 : BitVec 32 := 0#32
  ![v232.toNat, 0]
def k0_dev4 (d0 : Dev nD) : Nat :=
  let c0_i32_139 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_21 : BitVec 32 := 1#32
  let v51 : BitVec 32 := Scalar.addi v2 c1_i32_21
  let c2_i32_28 : BitVec 32 := 2#32
  let c2_i32_22 : BitVec 32 := 2#32
  let c0_i32_23 : BitVec 32 := 0#32
  let v52 : BitVec 1 := Scalar.cmpi .eq c2_i32_22 c0_i32_23
  let c1_i32_24 : BitVec 32 := 1#32
  let v53 : BitVec 32 := Scalar.select v52 c1_i32_24 c2_i32_22
  let v54 : BitVec 32 := Scalar.remsi v2 v53
  let c0_i32_26 : BitVec 32 := 0#32
  let v56 : BitVec 1 := Scalar.cmpi .slt v54 c0_i32_26
  let c0_i32_27 : BitVec 32 := 0#32
  let v57 : BitVec 1 := Scalar.cmpi .slt v53 c0_i32_27
  let v58 : BitVec 1 := Scalar.xori v56 v57
  let c0_i32_25 : BitVec 32 := 0#32
  let v55 : BitVec 1 := Scalar.cmpi .ne v54 c0_i32_25
  let v59 : BitVec 1 := Scalar.andi v58 v55
  let v60 : BitVec 32 := Scalar.addi v54 v53
  let v61 : BitVec 32 := Scalar.select v59 v60 v54
  let v62 : BitVec 32 := Scalar.muli c2_i32_28 v61
  let v63 : BitVec 32 := Scalar.subi v51 v62
  let c1_i32_138 : BitVec 32 := 1#32
  let v233 : BitVec 32 := Scalar.muli v63 c1_i32_138
  let v234 : BitVec 32 := Scalar.addi c0_i32_139 v233
  v234.toNat
def k0_off2 (d0 : Dev nD) : Fin 2 → Nat :=
  let c384_i32 : BitVec 32 := 384#32
  let c1_i32_147 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_8 : BitVec 32 := 0#32
  let v18 : BitVec 1 := Scalar.cmpi .sgt v12 c0_i32_8
  let v19 : BitVec 32 := Scalar.extui v18
  let c0_i32_9 : BitVec 32 := 0#32
  let v20 : BitVec 1 := Scalar.cmpi .slt v12 c0_i32_9
  let v21 : BitVec 32 := Scalar.extui v20
  let v22 : BitVec 32 := Scalar.subi v19 v21
  let c2_i32_7 : BitVec 32 := 2#32
  let c0_i32_10 : BitVec 32 := 0#32
  let v23 : BitVec 1 := Scalar.cmpi .sgt c2_i32_7 c0_i32_10
  let v24 : BitVec 32 := Scalar.extui v23
  let c0_i32_11 : BitVec 32 := 0#32
  let v25 : BitVec 1 := Scalar.cmpi .slt c2_i32_7 c0_i32_11
  let v26 : BitVec 32 := Scalar.extui v25
  let v27 : BitVec 32 := Scalar.subi v24 v26
  let v28 : BitVec 1 := Scalar.cmpi .ne v22 v27
  let v29 : BitVec 32 := Scalar.remsi v12 c2_i32_7
  let c0_i32_12 : BitVec 32 := 0#32
  let v30 : BitVec 1 := Scalar.cmpi .ne v29 c0_i32_12
  let v31 : BitVec 1 := Scalar.andi v28 v30
  let v17 : BitVec 32 := Scalar.divsi v12 c2_i32_7
  let c1_i32_13 : BitVec 32 := 1#32
  let v32 : BitVec 32 := Scalar.subi v17 c1_i32_13
  let v33 : BitVec 32 := Scalar.select v31 v32 v17
  let v248 : BitVec 32 := Scalar.subi c1_i32_147 v33
  let c192_i32_148 : BitVec 32 := 192#32
  let v249 : BitVec 32 := Scalar.muli v248 c192_i32_148
  let v250 : BitVec 32 := Scalar.addi c384_i32 v249
  let c0_i32_157 : BitVec 32 := 0#32
  ![v250.toNat, 0]
def k0_dev5 (d0 : Dev nD) : Nat :=
  let c0_i32_154 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v64 : BitVec 32 := Scalar.addi v2 c3_i32
  let c2_i32_29 : BitVec 32 := 2#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v65 : BitVec 32 := Scalar.muli c2_i32_29 v12
  let v66 : BitVec 32 := Scalar.subi v64 v65
  let c1_i32_153 : BitVec 32 := 1#32
  let v251 : BitVec 32 := Scalar.muli v66 c1_i32_153
  let v252 : BitVec 32 := Scalar.addi c0_i32_154 v251
  v252.toNat
def k0_off3 (d0 : Dev nD) : Fin 2 → Nat :=
  let c768_i32 : BitVec 32 := 768#32
  let c1_i32_162 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_15 : BitVec 32 := 0#32
  let v35 : BitVec 1 := Scalar.cmpi .sgt v2 c0_i32_15
  let v36 : BitVec 32 := Scalar.extui v35
  let c0_i32_16 : BitVec 32 := 0#32
  let v37 : BitVec 1 := Scalar.cmpi .slt v2 c0_i32_16
  let v38 : BitVec 32 := Scalar.extui v37
  let v39 : BitVec 32 := Scalar.subi v36 v38
  let c4_i32_14 : BitVec 32 := 4#32
  let c0_i32_17 : BitVec 32 := 0#32
  let v40 : BitVec 1 := Scalar.cmpi .sgt c4_i32_14 c0_i32_17
  let v41 : BitVec 32 := Scalar.extui v40
  let c0_i32_18 : BitVec 32 := 0#32
  let v42 : BitVec 1 := Scalar.cmpi .slt c4_i32_14 c0_i32_18
  let v43 : BitVec 32 := Scalar.extui v42
  let v44 : BitVec 32 := Scalar.subi v41 v43
  let v45 : BitVec 1 := Scalar.cmpi .ne v39 v44
  let v46 : BitVec 32 := Scalar.remsi v2 c4_i32_14
  let c0_i32_19 : BitVec 32 := 0#32
  let v47 : BitVec 1 := Scalar.cmpi .ne v46 c0_i32_19
  let v48 : BitVec 1 := Scalar.andi v45 v47
  let v34 : BitVec 32 := Scalar.divsi v2 c4_i32_14
  let c1_i32_20 : BitVec 32 := 1#32
  let v49 : BitVec 32 := Scalar.subi v34 c1_i32_20
  let v50 : BitVec 32 := Scalar.select v48 v49 v34
  let v266 : BitVec 32 := Scalar.subi c1_i32_162 v50
  let c128_i32_163 : BitVec 32 := 128#32
  let v267 : BitVec 32 := Scalar.muli v266 c128_i32_163
  let v268 : BitVec 32 := Scalar.addi c768_i32 v267
  let c0_i32_172 : BitVec 32 := 0#32
  ![v268.toNat, 0]
def k0_dev6 (d0 : Dev nD) : Nat :=
  let c0_i32_169 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_30 : BitVec 32 := 4#32
  let v67 : BitVec 32 := Scalar.addi v2 c4_i32_30
  let c8_i32_31 : BitVec 32 := 8#32
  let c0_i32_15 : BitVec 32 := 0#32
  let v35 : BitVec 1 := Scalar.cmpi .sgt v2 c0_i32_15
  let v36 : BitVec 32 := Scalar.extui v35
  let c0_i32_16 : BitVec 32 := 0#32
  let v37 : BitVec 1 := Scalar.cmpi .slt v2 c0_i32_16
  let v38 : BitVec 32 := Scalar.extui v37
  let v39 : BitVec 32 := Scalar.subi v36 v38
  let c4_i32_14 : BitVec 32 := 4#32
  let c0_i32_17 : BitVec 32 := 0#32
  let v40 : BitVec 1 := Scalar.cmpi .sgt c4_i32_14 c0_i32_17
  let v41 : BitVec 32 := Scalar.extui v40
  let c0_i32_18 : BitVec 32 := 0#32
  let v42 : BitVec 1 := Scalar.cmpi .slt c4_i32_14 c0_i32_18
  let v43 : BitVec 32 := Scalar.extui v42
  let v44 : BitVec 32 := Scalar.subi v41 v43
  let v45 : BitVec 1 := Scalar.cmpi .ne v39 v44
  let v46 : BitVec 32 := Scalar.remsi v2 c4_i32_14
  let c0_i32_19 : BitVec 32 := 0#32
  let v47 : BitVec 1 := Scalar.cmpi .ne v46 c0_i32_19
  let v48 : BitVec 1 := Scalar.andi v45 v47
  let v34 : BitVec 32 := Scalar.divsi v2 c4_i32_14
  let c1_i32_20 : BitVec 32 := 1#32
  let v49 : BitVec 32 := Scalar.subi v34 c1_i32_20
  let v50 : BitVec 32 := Scalar.select v48 v49 v34
  let v68 : BitVec 32 := Scalar.muli c8_i32_31 v50
  let v69 : BitVec 32 := Scalar.subi v67 v68
  let c1_i32_168 : BitVec 32 := 1#32
  let v269 : BitVec 32 := Scalar.muli v69 c1_i32_168
  let v270 : BitVec 32 := Scalar.addi c0_i32_169 v269
  v270.toNat
def k0_off4 (d0 : Dev nD) : Fin 2 → Nat :=
  let c0_i32_174 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let c1_i32_5 : BitVec 32 := 1#32
  let c0_i32_6 : BitVec 32 := 0#32
  let v16 : BitVec 32 := Scalar.select v15 c1_i32_5 c0_i32_6
  let c192_i32_173 : BitVec 32 := 192#32
  let v277 : BitVec 32 := Scalar.muli v16 c192_i32_173
  let v278 : BitVec 32 := Scalar.addi c0_i32_174 v277
  let v285 : Index := Scalar.indexCast v278
  let c0_184 : Index := 0#32
  ![v285.toNat, 0]
def k0_off5 (d0 : Dev nD) : Fin 2 → Nat :=
  let c0_i32_174 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let c1_i32_5 : BitVec 32 := 1#32
  let c0_i32_6 : BitVec 32 := 0#32
  let v16 : BitVec 32 := Scalar.select v15 c1_i32_5 c0_i32_6
  let c192_i32_173 : BitVec 32 := 192#32
  let v277 : BitVec 32 := Scalar.muli v16 c192_i32_173
  let v278 : BitVec 32 := Scalar.addi c0_i32_174 v277
  let c1_i32_188 : BitVec 32 := 1#32
  let c0_i32_8 : BitVec 32 := 0#32
  let v18 : BitVec 1 := Scalar.cmpi .sgt v12 c0_i32_8
  let v19 : BitVec 32 := Scalar.extui v18
  let c0_i32_9 : BitVec 32 := 0#32
  let v20 : BitVec 1 := Scalar.cmpi .slt v12 c0_i32_9
  let v21 : BitVec 32 := Scalar.extui v20
  let v22 : BitVec 32 := Scalar.subi v19 v21
  let c2_i32_7 : BitVec 32 := 2#32
  let c0_i32_10 : BitVec 32 := 0#32
  let v23 : BitVec 1 := Scalar.cmpi .sgt c2_i32_7 c0_i32_10
  let v24 : BitVec 32 := Scalar.extui v23
  let c0_i32_11 : BitVec 32 := 0#32
  let v25 : BitVec 1 := Scalar.cmpi .slt c2_i32_7 c0_i32_11
  let v26 : BitVec 32 := Scalar.extui v25
  let v27 : BitVec 32 := Scalar.subi v24 v26
  let v28 : BitVec 1 := Scalar.cmpi .ne v22 v27
  let v29 : BitVec 32 := Scalar.remsi v12 c2_i32_7
  let c0_i32_12 : BitVec 32 := 0#32
  let v30 : BitVec 1 := Scalar.cmpi .ne v29 c0_i32_12
  let v31 : BitVec 1 := Scalar.andi v28 v30
  let v17 : BitVec 32 := Scalar.divsi v12 c2_i32_7
  let c1_i32_13 : BitVec 32 := 1#32
  let v32 : BitVec 32 := Scalar.subi v17 c1_i32_13
  let v33 : BitVec 32 := Scalar.select v31 v32 v17
  let v293 : BitVec 32 := Scalar.subi c1_i32_188 v33
  let c96_i32 : BitVec 32 := 96#32
  let v294 : BitVec 32 := Scalar.muli v293 c96_i32
  let v295 : BitVec 32 := Scalar.addi v278 v294
  let c0_i32_197 : BitVec 32 := 0#32
  ![v295.toNat, 0]
def k0_dev7 (d0 : Dev nD) : Nat :=
  let c0_i32_194 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v64 : BitVec 32 := Scalar.addi v2 c3_i32
  let c2_i32_29 : BitVec 32 := 2#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v65 : BitVec 32 := Scalar.muli c2_i32_29 v12
  let v66 : BitVec 32 := Scalar.subi v64 v65
  let c1_i32_193 : BitVec 32 := 1#32
  let v296 : BitVec 32 := Scalar.muli v66 c1_i32_193
  let v297 : BitVec 32 := Scalar.addi c0_i32_194 v296
  v297.toNat
def k0_off6 (d0 : Dev nD) : Fin 2 → Nat :=
  let c384_i32_199 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_8 : BitVec 32 := 0#32
  let v18 : BitVec 1 := Scalar.cmpi .sgt v12 c0_i32_8
  let v19 : BitVec 32 := Scalar.extui v18
  let c0_i32_9 : BitVec 32 := 0#32
  let v20 : BitVec 1 := Scalar.cmpi .slt v12 c0_i32_9
  let v21 : BitVec 32 := Scalar.extui v20
  let v22 : BitVec 32 := Scalar.subi v19 v21
  let c2_i32_7 : BitVec 32 := 2#32
  let c0_i32_10 : BitVec 32 := 0#32
  let v23 : BitVec 1 := Scalar.cmpi .sgt c2_i32_7 c0_i32_10
  let v24 : BitVec 32 := Scalar.extui v23
  let c0_i32_11 : BitVec 32 := 0#32
  let v25 : BitVec 1 := Scalar.cmpi .slt c2_i32_7 c0_i32_11
  let v26 : BitVec 32 := Scalar.extui v25
  let v27 : BitVec 32 := Scalar.subi v24 v26
  let v28 : BitVec 1 := Scalar.cmpi .ne v22 v27
  let v29 : BitVec 32 := Scalar.remsi v12 c2_i32_7
  let c0_i32_12 : BitVec 32 := 0#32
  let v30 : BitVec 1 := Scalar.cmpi .ne v29 c0_i32_12
  let v31 : BitVec 1 := Scalar.andi v28 v30
  let v17 : BitVec 32 := Scalar.divsi v12 c2_i32_7
  let c1_i32_13 : BitVec 32 := 1#32
  let v32 : BitVec 32 := Scalar.subi v17 c1_i32_13
  let v33 : BitVec 32 := Scalar.select v31 v32 v17
  let c192_i32_198 : BitVec 32 := 192#32
  let v304 : BitVec 32 := Scalar.muli v33 c192_i32_198
  let v305 : BitVec 32 := Scalar.addi c384_i32_199 v304
  let v312 : Index := Scalar.indexCast v305
  let c0_209 : Index := 0#32
  ![v312.toNat, 0]
def k0_off7 (d0 : Dev nD) : Fin 2 → Nat :=
  let c384_i32_199 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_8 : BitVec 32 := 0#32
  let v18 : BitVec 1 := Scalar.cmpi .sgt v12 c0_i32_8
  let v19 : BitVec 32 := Scalar.extui v18
  let c0_i32_9 : BitVec 32 := 0#32
  let v20 : BitVec 1 := Scalar.cmpi .slt v12 c0_i32_9
  let v21 : BitVec 32 := Scalar.extui v20
  let v22 : BitVec 32 := Scalar.subi v19 v21
  let c2_i32_7 : BitVec 32 := 2#32
  let c0_i32_10 : BitVec 32 := 0#32
  let v23 : BitVec 1 := Scalar.cmpi .sgt c2_i32_7 c0_i32_10
  let v24 : BitVec 32 := Scalar.extui v23
  let c0_i32_11 : BitVec 32 := 0#32
  let v25 : BitVec 1 := Scalar.cmpi .slt c2_i32_7 c0_i32_11
  let v26 : BitVec 32 := Scalar.extui v25
  let v27 : BitVec 32 := Scalar.subi v24 v26
  let v28 : BitVec 1 := Scalar.cmpi .ne v22 v27
  let v29 : BitVec 32 := Scalar.remsi v12 c2_i32_7
  let c0_i32_12 : BitVec 32 := 0#32
  let v30 : BitVec 1 := Scalar.cmpi .ne v29 c0_i32_12
  let v31 : BitVec 1 := Scalar.andi v28 v30
  let v17 : BitVec 32 := Scalar.divsi v12 c2_i32_7
  let c1_i32_13 : BitVec 32 := 1#32
  let v32 : BitVec 32 := Scalar.subi v17 c1_i32_13
  let v33 : BitVec 32 := Scalar.select v31 v32 v17
  let c192_i32_198 : BitVec 32 := 192#32
  let v304 : BitVec 32 := Scalar.muli v33 c192_i32_198
  let v305 : BitVec 32 := Scalar.addi c384_i32_199 v304
  let c1_i32_213 : BitVec 32 := 1#32
  let c0_i32_15 : BitVec 32 := 0#32
  let v35 : BitVec 1 := Scalar.cmpi .sgt v2 c0_i32_15
  let v36 : BitVec 32 := Scalar.extui v35
  let c0_i32_16 : BitVec 32 := 0#32
  let v37 : BitVec 1 := Scalar.cmpi .slt v2 c0_i32_16
  let v38 : BitVec 32 := Scalar.extui v37
  let v39 : BitVec 32 := Scalar.subi v36 v38
  let c4_i32_14 : BitVec 32 := 4#32
  let c0_i32_17 : BitVec 32 := 0#32
  let v40 : BitVec 1 := Scalar.cmpi .sgt c4_i32_14 c0_i32_17
  let v41 : BitVec 32 := Scalar.extui v40
  let c0_i32_18 : BitVec 32 := 0#32
  let v42 : BitVec 1 := Scalar.cmpi .slt c4_i32_14 c0_i32_18
  let v43 : BitVec 32 := Scalar.extui v42
  let v44 : BitVec 32 := Scalar.subi v41 v43
  let v45 : BitVec 1 := Scalar.cmpi .ne v39 v44
  let v46 : BitVec 32 := Scalar.remsi v2 c4_i32_14
  let c0_i32_19 : BitVec 32 := 0#32
  let v47 : BitVec 1 := Scalar.cmpi .ne v46 c0_i32_19
  let v48 : BitVec 1 := Scalar.andi v45 v47
  let v34 : BitVec 32 := Scalar.divsi v2 c4_i32_14
  let c1_i32_20 : BitVec 32 := 1#32
  let v49 : BitVec 32 := Scalar.subi v34 c1_i32_20
  let v50 : BitVec 32 := Scalar.select v48 v49 v34
  let v320 : BitVec 32 := Scalar.subi c1_i32_213 v50
  let c96_i32_214 : BitVec 32 := 96#32
  let v321 : BitVec 32 := Scalar.muli v320 c96_i32_214
  let v322 : BitVec 32 := Scalar.addi v305 v321
  let c0_i32_223 : BitVec 32 := 0#32
  ![v322.toNat, 0]
def k0_dev8 (d0 : Dev nD) : Nat :=
  let c0_i32_220 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_30 : BitVec 32 := 4#32
  let v67 : BitVec 32 := Scalar.addi v2 c4_i32_30
  let c8_i32_31 : BitVec 32 := 8#32
  let c0_i32_15 : BitVec 32 := 0#32
  let v35 : BitVec 1 := Scalar.cmpi .sgt v2 c0_i32_15
  let v36 : BitVec 32 := Scalar.extui v35
  let c0_i32_16 : BitVec 32 := 0#32
  let v37 : BitVec 1 := Scalar.cmpi .slt v2 c0_i32_16
  let v38 : BitVec 32 := Scalar.extui v37
  let v39 : BitVec 32 := Scalar.subi v36 v38
  let c4_i32_14 : BitVec 32 := 4#32
  let c0_i32_17 : BitVec 32 := 0#32
  let v40 : BitVec 1 := Scalar.cmpi .sgt c4_i32_14 c0_i32_17
  let v41 : BitVec 32 := Scalar.extui v40
  let c0_i32_18 : BitVec 32 := 0#32
  let v42 : BitVec 1 := Scalar.cmpi .slt c4_i32_14 c0_i32_18
  let v43 : BitVec 32 := Scalar.extui v42
  let v44 : BitVec 32 := Scalar.subi v41 v43
  let v45 : BitVec 1 := Scalar.cmpi .ne v39 v44
  let v46 : BitVec 32 := Scalar.remsi v2 c4_i32_14
  let c0_i32_19 : BitVec 32 := 0#32
  let v47 : BitVec 1 := Scalar.cmpi .ne v46 c0_i32_19
  let v48 : BitVec 1 := Scalar.andi v45 v47
  let v34 : BitVec 32 := Scalar.divsi v2 c4_i32_14
  let c1_i32_20 : BitVec 32 := 1#32
  let v49 : BitVec 32 := Scalar.subi v34 c1_i32_20
  let v50 : BitVec 32 := Scalar.select v48 v49 v34
  let v68 : BitVec 32 := Scalar.muli c8_i32_31 v50
  let v69 : BitVec 32 := Scalar.subi v67 v68
  let c1_i32_219 : BitVec 32 := 1#32
  let v323 : BitVec 32 := Scalar.muli v69 c1_i32_219
  let v324 : BitVec 32 := Scalar.addi c0_i32_220 v323
  v324.toNat
def k0_off8 (d0 : Dev nD) : Fin 2 → Nat :=
  let c768_i32_225 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_15 : BitVec 32 := 0#32
  let v35 : BitVec 1 := Scalar.cmpi .sgt v2 c0_i32_15
  let v36 : BitVec 32 := Scalar.extui v35
  let c0_i32_16 : BitVec 32 := 0#32
  let v37 : BitVec 1 := Scalar.cmpi .slt v2 c0_i32_16
  let v38 : BitVec 32 := Scalar.extui v37
  let v39 : BitVec 32 := Scalar.subi v36 v38
  let c4_i32_14 : BitVec 32 := 4#32
  let c0_i32_17 : BitVec 32 := 0#32
  let v40 : BitVec 1 := Scalar.cmpi .sgt c4_i32_14 c0_i32_17
  let v41 : BitVec 32 := Scalar.extui v40
  let c0_i32_18 : BitVec 32 := 0#32
  let v42 : BitVec 1 := Scalar.cmpi .slt c4_i32_14 c0_i32_18
  let v43 : BitVec 32 := Scalar.extui v42
  let v44 : BitVec 32 := Scalar.subi v41 v43
  let v45 : BitVec 1 := Scalar.cmpi .ne v39 v44
  let v46 : BitVec 32 := Scalar.remsi v2 c4_i32_14
  let c0_i32_19 : BitVec 32 := 0#32
  let v47 : BitVec 1 := Scalar.cmpi .ne v46 c0_i32_19
  let v48 : BitVec 1 := Scalar.andi v45 v47
  let v34 : BitVec 32 := Scalar.divsi v2 c4_i32_14
  let c1_i32_20 : BitVec 32 := 1#32
  let v49 : BitVec 32 := Scalar.subi v34 c1_i32_20
  let v50 : BitVec 32 := Scalar.select v48 v49 v34
  let c128_i32_224 : BitVec 32 := 128#32
  let v331 : BitVec 32 := Scalar.muli v50 c128_i32_224
  let v332 : BitVec 32 := Scalar.addi c768_i32_225 v331
  let v339 : Index := Scalar.indexCast v332
  let c0_235 : Index := 0#32
  ![v339.toNat, 0]
def k0_off9 (d0 : Dev nD) : Fin 2 → Nat :=
  let c768_i32_225 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_15 : BitVec 32 := 0#32
  let v35 : BitVec 1 := Scalar.cmpi .sgt v2 c0_i32_15
  let v36 : BitVec 32 := Scalar.extui v35
  let c0_i32_16 : BitVec 32 := 0#32
  let v37 : BitVec 1 := Scalar.cmpi .slt v2 c0_i32_16
  let v38 : BitVec 32 := Scalar.extui v37
  let v39 : BitVec 32 := Scalar.subi v36 v38
  let c4_i32_14 : BitVec 32 := 4#32
  let c0_i32_17 : BitVec 32 := 0#32
  let v40 : BitVec 1 := Scalar.cmpi .sgt c4_i32_14 c0_i32_17
  let v41 : BitVec 32 := Scalar.extui v40
  let c0_i32_18 : BitVec 32 := 0#32
  let v42 : BitVec 1 := Scalar.cmpi .slt c4_i32_14 c0_i32_18
  let v43 : BitVec 32 := Scalar.extui v42
  let v44 : BitVec 32 := Scalar.subi v41 v43
  let v45 : BitVec 1 := Scalar.cmpi .ne v39 v44
  let v46 : BitVec 32 := Scalar.remsi v2 c4_i32_14
  let c0_i32_19 : BitVec 32 := 0#32
  let v47 : BitVec 1 := Scalar.cmpi .ne v46 c0_i32_19
  let v48 : BitVec 1 := Scalar.andi v45 v47
  let v34 : BitVec 32 := Scalar.divsi v2 c4_i32_14
  let c1_i32_20 : BitVec 32 := 1#32
  let v49 : BitVec 32 := Scalar.subi v34 c1_i32_20
  let v50 : BitVec 32 := Scalar.select v48 v49 v34
  let c128_i32_224 : BitVec 32 := 128#32
  let v331 : BitVec 32 := Scalar.muli v50 c128_i32_224
  let v332 : BitVec 32 := Scalar.addi c768_i32_225 v331
  let c1_i32_239 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let c1_i32_5 : BitVec 32 := 1#32
  let c0_i32_6 : BitVec 32 := 0#32
  let v16 : BitVec 32 := Scalar.select v15 c1_i32_5 c0_i32_6
  let v347 : BitVec 32 := Scalar.subi c1_i32_239 v16
  let c64_i32 : BitVec 32 := 64#32
  let v348 : BitVec 32 := Scalar.muli v347 c64_i32
  let v349 : BitVec 32 := Scalar.addi v332 v348
  let c0_i32_248 : BitVec 32 := 0#32
  ![v349.toNat, 0]
def k0_dev9 (d0 : Dev nD) : Nat :=
  let c0_i32_245 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_21 : BitVec 32 := 1#32
  let v51 : BitVec 32 := Scalar.addi v2 c1_i32_21
  let c2_i32_28 : BitVec 32 := 2#32
  let c2_i32_22 : BitVec 32 := 2#32
  let c0_i32_23 : BitVec 32 := 0#32
  let v52 : BitVec 1 := Scalar.cmpi .eq c2_i32_22 c0_i32_23
  let c1_i32_24 : BitVec 32 := 1#32
  let v53 : BitVec 32 := Scalar.select v52 c1_i32_24 c2_i32_22
  let v54 : BitVec 32 := Scalar.remsi v2 v53
  let c0_i32_26 : BitVec 32 := 0#32
  let v56 : BitVec 1 := Scalar.cmpi .slt v54 c0_i32_26
  let c0_i32_27 : BitVec 32 := 0#32
  let v57 : BitVec 1 := Scalar.cmpi .slt v53 c0_i32_27
  let v58 : BitVec 1 := Scalar.xori v56 v57
  let c0_i32_25 : BitVec 32 := 0#32
  let v55 : BitVec 1 := Scalar.cmpi .ne v54 c0_i32_25
  let v59 : BitVec 1 := Scalar.andi v58 v55
  let v60 : BitVec 32 := Scalar.addi v54 v53
  let v61 : BitVec 32 := Scalar.select v59 v60 v54
  let v62 : BitVec 32 := Scalar.muli c2_i32_28 v61
  let v63 : BitVec 32 := Scalar.subi v51 v62
  let c1_i32_244 : BitVec 32 := 1#32
  let v350 : BitVec 32 := Scalar.muli v63 c1_i32_244
  let v351 : BitVec 32 := Scalar.addi c0_i32_245 v350
  v351.toNat
def k0_off10 (d0 : Dev nD) : Fin 2 → Nat :=
  let c0_i32_174 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let c1_i32_5 : BitVec 32 := 1#32
  let c0_i32_6 : BitVec 32 := 0#32
  let v16 : BitVec 32 := Scalar.select v15 c1_i32_5 c0_i32_6
  let c192_i32_173 : BitVec 32 := 192#32
  let v277 : BitVec 32 := Scalar.muli v16 c192_i32_173
  let v278 : BitVec 32 := Scalar.addi c0_i32_174 v277
  let c0_i32_8 : BitVec 32 := 0#32
  let v18 : BitVec 1 := Scalar.cmpi .sgt v12 c0_i32_8
  let v19 : BitVec 32 := Scalar.extui v18
  let c0_i32_9 : BitVec 32 := 0#32
  let v20 : BitVec 1 := Scalar.cmpi .slt v12 c0_i32_9
  let v21 : BitVec 32 := Scalar.extui v20
  let v22 : BitVec 32 := Scalar.subi v19 v21
  let c2_i32_7 : BitVec 32 := 2#32
  let c0_i32_10 : BitVec 32 := 0#32
  let v23 : BitVec 1 := Scalar.cmpi .sgt c2_i32_7 c0_i32_10
  let v24 : BitVec 32 := Scalar.extui v23
  let c0_i32_11 : BitVec 32 := 0#32
  let v25 : BitVec 1 := Scalar.cmpi .slt c2_i32_7 c0_i32_11
  let v26 : BitVec 32 := Scalar.extui v25
  let v27 : BitVec 32 := Scalar.subi v24 v26
  let v28 : BitVec 1 := Scalar.cmpi .ne v22 v27
  let v29 : BitVec 32 := Scalar.remsi v12 c2_i32_7
  let c0_i32_12 : BitVec 32 := 0#32
  let v30 : BitVec 1 := Scalar.cmpi .ne v29 c0_i32_12
  let v31 : BitVec 1 := Scalar.andi v28 v30
  let v17 : BitVec 32 := Scalar.divsi v12 c2_i32_7
  let c1_i32_13 : BitVec 32 := 1#32
  let v32 : BitVec 32 := Scalar.subi v17 c1_i32_13
  let v33 : BitVec 32 := Scalar.select v31 v32 v17
  let c96_i32_273 : BitVec 32 := 96#32
  let v370 : BitVec 32 := Scalar.muli v33 c96_i32_273
  let v371 : BitVec 32 := Scalar.addi v278 v370
  let v378 : Index := Scalar.indexCast v371
  let c0_283 : Index := 0#32
  ![v378.toNat, 0]
def k0_off11 (d0 : Dev nD) : Fin 2 → Nat :=
  let c0_i32_174 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let c1_i32_5 : BitVec 32 := 1#32
  let c0_i32_6 : BitVec 32 := 0#32
  let v16 : BitVec 32 := Scalar.select v15 c1_i32_5 c0_i32_6
  let c192_i32_173 : BitVec 32 := 192#32
  let v277 : BitVec 32 := Scalar.muli v16 c192_i32_173
  let v278 : BitVec 32 := Scalar.addi c0_i32_174 v277
  let c0_i32_8 : BitVec 32 := 0#32
  let v18 : BitVec 1 := Scalar.cmpi .sgt v12 c0_i32_8
  let v19 : BitVec 32 := Scalar.extui v18
  let c0_i32_9 : BitVec 32 := 0#32
  let v20 : BitVec 1 := Scalar.cmpi .slt v12 c0_i32_9
  let v21 : BitVec 32 := Scalar.extui v20
  let v22 : BitVec 32 := Scalar.subi v19 v21
  let c2_i32_7 : BitVec 32 := 2#32
  let c0_i32_10 : BitVec 32 := 0#32
  let v23 : BitVec 1 := Scalar.cmpi .sgt c2_i32_7 c0_i32_10
  let v24 : BitVec 32 := Scalar.extui v23
  let c0_i32_11 : BitVec 32 := 0#32
  let v25 : BitVec 1 := Scalar.cmpi .slt c2_i32_7 c0_i32_11
  let v26 : BitVec 32 := Scalar.extui v25
  let v27 : BitVec 32 := Scalar.subi v24 v26
  let v28 : BitVec 1 := Scalar.cmpi .ne v22 v27
  let v29 : BitVec 32 := Scalar.remsi v12 c2_i32_7
  let c0_i32_12 : BitVec 32 := 0#32
  let v30 : BitVec 1 := Scalar.cmpi .ne v29 c0_i32_12
  let v31 : BitVec 1 := Scalar.andi v28 v30
  let v17 : BitVec 32 := Scalar.divsi v12 c2_i32_7
  let c1_i32_13 : BitVec 32 := 1#32
  let v32 : BitVec 32 := Scalar.subi v17 c1_i32_13
  let v33 : BitVec 32 := Scalar.select v31 v32 v17
  let c96_i32_273 : BitVec 32 := 96#32
  let v370 : BitVec 32 := Scalar.muli v33 c96_i32_273
  let v371 : BitVec 32 := Scalar.addi v278 v370
  let c1_i32_286 : BitVec 32 := 1#32
  let c0_i32_15 : BitVec 32 := 0#32
  let v35 : BitVec 1 := Scalar.cmpi .sgt v2 c0_i32_15
  let v36 : BitVec 32 := Scalar.extui v35
  let c0_i32_16 : BitVec 32 := 0#32
  let v37 : BitVec 1 := Scalar.cmpi .slt v2 c0_i32_16
  let v38 : BitVec 32 := Scalar.extui v37
  let v39 : BitVec 32 := Scalar.subi v36 v38
  let c4_i32_14 : BitVec 32 := 4#32
  let c0_i32_17 : BitVec 32 := 0#32
  let v40 : BitVec 1 := Scalar.cmpi .sgt c4_i32_14 c0_i32_17
  let v41 : BitVec 32 := Scalar.extui v40
  let c0_i32_18 : BitVec 32 := 0#32
  let v42 : BitVec 1 := Scalar.cmpi .slt c4_i32_14 c0_i32_18
  let v43 : BitVec 32 := Scalar.extui v42
  let v44 : BitVec 32 := Scalar.subi v41 v43
  let v45 : BitVec 1 := Scalar.cmpi .ne v39 v44
  let v46 : BitVec 32 := Scalar.remsi v2 c4_i32_14
  let c0_i32_19 : BitVec 32 := 0#32
  let v47 : BitVec 1 := Scalar.cmpi .ne v46 c0_i32_19
  let v48 : BitVec 1 := Scalar.andi v45 v47
  let v34 : BitVec 32 := Scalar.divsi v2 c4_i32_14
  let c1_i32_20 : BitVec 32 := 1#32
  let v49 : BitVec 32 := Scalar.subi v34 c1_i32_20
  let v50 : BitVec 32 := Scalar.select v48 v49 v34
  let v386 : BitVec 32 := Scalar.subi c1_i32_286 v50
  let c48_i32 : BitVec 32 := 48#32
  let v387 : BitVec 32 := Scalar.muli v386 c48_i32
  let v388 : BitVec 32 := Scalar.addi v371 v387
  let c0_i32_294 : BitVec 32 := 0#32
  ![v388.toNat, 0]
def k0_dev10 (d0 : Dev nD) : Nat :=
  let c0_i32_292 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_30 : BitVec 32 := 4#32
  let v67 : BitVec 32 := Scalar.addi v2 c4_i32_30
  let c8_i32_31 : BitVec 32 := 8#32
  let c0_i32_15 : BitVec 32 := 0#32
  let v35 : BitVec 1 := Scalar.cmpi .sgt v2 c0_i32_15
  let v36 : BitVec 32 := Scalar.extui v35
  let c0_i32_16 : BitVec 32 := 0#32
  let v37 : BitVec 1 := Scalar.cmpi .slt v2 c0_i32_16
  let v38 : BitVec 32 := Scalar.extui v37
  let v39 : BitVec 32 := Scalar.subi v36 v38
  let c4_i32_14 : BitVec 32 := 4#32
  let c0_i32_17 : BitVec 32 := 0#32
  let v40 : BitVec 1 := Scalar.cmpi .sgt c4_i32_14 c0_i32_17
  let v41 : BitVec 32 := Scalar.extui v40
  let c0_i32_18 : BitVec 32 := 0#32
  let v42 : BitVec 1 := Scalar.cmpi .slt c4_i32_14 c0_i32_18
  let v43 : BitVec 32 := Scalar.extui v42
  let v44 : BitVec 32 := Scalar.subi v41 v43
  let v45 : BitVec 1 := Scalar.cmpi .ne v39 v44
  let v46 : BitVec 32 := Scalar.remsi v2 c4_i32_14
  let c0_i32_19 : BitVec 32 := 0#32
  let v47 : BitVec 1 := Scalar.cmpi .ne v46 c0_i32_19
  let v48 : BitVec 1 := Scalar.andi v45 v47
  let v34 : BitVec 32 := Scalar.divsi v2 c4_i32_14
  let c1_i32_20 : BitVec 32 := 1#32
  let v49 : BitVec 32 := Scalar.subi v34 c1_i32_20
  let v50 : BitVec 32 := Scalar.select v48 v49 v34
  let v68 : BitVec 32 := Scalar.muli c8_i32_31 v50
  let v69 : BitVec 32 := Scalar.subi v67 v68
  let c1_i32_291 : BitVec 32 := 1#32
  let v389 : BitVec 32 := Scalar.muli v69 c1_i32_291
  let v390 : BitVec 32 := Scalar.addi c0_i32_292 v389
  v390.toNat
def k0_off12 (d0 : Dev nD) : Fin 2 → Nat :=
  let c384_i32_199 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_8 : BitVec 32 := 0#32
  let v18 : BitVec 1 := Scalar.cmpi .sgt v12 c0_i32_8
  let v19 : BitVec 32 := Scalar.extui v18
  let c0_i32_9 : BitVec 32 := 0#32
  let v20 : BitVec 1 := Scalar.cmpi .slt v12 c0_i32_9
  let v21 : BitVec 32 := Scalar.extui v20
  let v22 : BitVec 32 := Scalar.subi v19 v21
  let c2_i32_7 : BitVec 32 := 2#32
  let c0_i32_10 : BitVec 32 := 0#32
  let v23 : BitVec 1 := Scalar.cmpi .sgt c2_i32_7 c0_i32_10
  let v24 : BitVec 32 := Scalar.extui v23
  let c0_i32_11 : BitVec 32 := 0#32
  let v25 : BitVec 1 := Scalar.cmpi .slt c2_i32_7 c0_i32_11
  let v26 : BitVec 32 := Scalar.extui v25
  let v27 : BitVec 32 := Scalar.subi v24 v26
  let v28 : BitVec 1 := Scalar.cmpi .ne v22 v27
  let v29 : BitVec 32 := Scalar.remsi v12 c2_i32_7
  let c0_i32_12 : BitVec 32 := 0#32
  let v30 : BitVec 1 := Scalar.cmpi .ne v29 c0_i32_12
  let v31 : BitVec 1 := Scalar.andi v28 v30
  let v17 : BitVec 32 := Scalar.divsi v12 c2_i32_7
  let c1_i32_13 : BitVec 32 := 1#32
  let v32 : BitVec 32 := Scalar.subi v17 c1_i32_13
  let v33 : BitVec 32 := Scalar.select v31 v32 v17
  let c192_i32_198 : BitVec 32 := 192#32
  let v304 : BitVec 32 := Scalar.muli v33 c192_i32_198
  let v305 : BitVec 32 := Scalar.addi c384_i32_199 v304
  let c0_i32_15 : BitVec 32 := 0#32
  let v35 : BitVec 1 := Scalar.cmpi .sgt v2 c0_i32_15
  let v36 : BitVec 32 := Scalar.extui v35
  let c0_i32_16 : BitVec 32 := 0#32
  let v37 : BitVec 1 := Scalar.cmpi .slt v2 c0_i32_16
  let v38 : BitVec 32 := Scalar.extui v37
  let v39 : BitVec 32 := Scalar.subi v36 v38
  let c4_i32_14 : BitVec 32 := 4#32
  let c0_i32_17 : BitVec 32 := 0#32
  let v40 : BitVec 1 := Scalar.cmpi .sgt c4_i32_14 c0_i32_17
  let v41 : BitVec 32 := Scalar.extui v40
  let c0_i32_18 : BitVec 32 := 0#32
  let v42 : BitVec 1 := Scalar.cmpi .slt c4_i32_14 c0_i32_18
  let v43 : BitVec 32 := Scalar.extui v42
  let v44 : BitVec 32 := Scalar.subi v41 v43
  let v45 : BitVec 1 := Scalar.cmpi .ne v39 v44
  let v46 : BitVec 32 := Scalar.remsi v2 c4_i32_14
  let c0_i32_19 : BitVec 32 := 0#32
  let v47 : BitVec 1 := Scalar.cmpi .ne v46 c0_i32_19
  let v48 : BitVec 1 := Scalar.andi v45 v47
  let v34 : BitVec 32 := Scalar.divsi v2 c4_i32_14
  let c1_i32_20 : BitVec 32 := 1#32
  let v49 : BitVec 32 := Scalar.subi v34 c1_i32_20
  let v50 : BitVec 32 := Scalar.select v48 v49 v34
  let c96_i32_295 : BitVec 32 := 96#32
  let v397 : BitVec 32 := Scalar.muli v50 c96_i32_295
  let v398 : BitVec 32 := Scalar.addi v305 v397
  let v405 : Index := Scalar.indexCast v398
  let c0_305 : Index := 0#32
  ![v405.toNat, 0]
def k0_off13 (d0 : Dev nD) : Fin 2 → Nat :=
  let c384_i32_199 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_8 : BitVec 32 := 0#32
  let v18 : BitVec 1 := Scalar.cmpi .sgt v12 c0_i32_8
  let v19 : BitVec 32 := Scalar.extui v18
  let c0_i32_9 : BitVec 32 := 0#32
  let v20 : BitVec 1 := Scalar.cmpi .slt v12 c0_i32_9
  let v21 : BitVec 32 := Scalar.extui v20
  let v22 : BitVec 32 := Scalar.subi v19 v21
  let c2_i32_7 : BitVec 32 := 2#32
  let c0_i32_10 : BitVec 32 := 0#32
  let v23 : BitVec 1 := Scalar.cmpi .sgt c2_i32_7 c0_i32_10
  let v24 : BitVec 32 := Scalar.extui v23
  let c0_i32_11 : BitVec 32 := 0#32
  let v25 : BitVec 1 := Scalar.cmpi .slt c2_i32_7 c0_i32_11
  let v26 : BitVec 32 := Scalar.extui v25
  let v27 : BitVec 32 := Scalar.subi v24 v26
  let v28 : BitVec 1 := Scalar.cmpi .ne v22 v27
  let v29 : BitVec 32 := Scalar.remsi v12 c2_i32_7
  let c0_i32_12 : BitVec 32 := 0#32
  let v30 : BitVec 1 := Scalar.cmpi .ne v29 c0_i32_12
  let v31 : BitVec 1 := Scalar.andi v28 v30
  let v17 : BitVec 32 := Scalar.divsi v12 c2_i32_7
  let c1_i32_13 : BitVec 32 := 1#32
  let v32 : BitVec 32 := Scalar.subi v17 c1_i32_13
  let v33 : BitVec 32 := Scalar.select v31 v32 v17
  let c192_i32_198 : BitVec 32 := 192#32
  let v304 : BitVec 32 := Scalar.muli v33 c192_i32_198
  let v305 : BitVec 32 := Scalar.addi c384_i32_199 v304
  let c0_i32_15 : BitVec 32 := 0#32
  let v35 : BitVec 1 := Scalar.cmpi .sgt v2 c0_i32_15
  let v36 : BitVec 32 := Scalar.extui v35
  let c0_i32_16 : BitVec 32 := 0#32
  let v37 : BitVec 1 := Scalar.cmpi .slt v2 c0_i32_16
  let v38 : BitVec 32 := Scalar.extui v37
  let v39 : BitVec 32 := Scalar.subi v36 v38
  let c4_i32_14 : BitVec 32 := 4#32
  let c0_i32_17 : BitVec 32 := 0#32
  let v40 : BitVec 1 := Scalar.cmpi .sgt c4_i32_14 c0_i32_17
  let v41 : BitVec 32 := Scalar.extui v40
  let c0_i32_18 : BitVec 32 := 0#32
  let v42 : BitVec 1 := Scalar.cmpi .slt c4_i32_14 c0_i32_18
  let v43 : BitVec 32 := Scalar.extui v42
  let v44 : BitVec 32 := Scalar.subi v41 v43
  let v45 : BitVec 1 := Scalar.cmpi .ne v39 v44
  let v46 : BitVec 32 := Scalar.remsi v2 c4_i32_14
  let c0_i32_19 : BitVec 32 := 0#32
  let v47 : BitVec 1 := Scalar.cmpi .ne v46 c0_i32_19
  let v48 : BitVec 1 := Scalar.andi v45 v47
  let v34 : BitVec 32 := Scalar.divsi v2 c4_i32_14
  let c1_i32_20 : BitVec 32 := 1#32
  let v49 : BitVec 32 := Scalar.subi v34 c1_i32_20
  let v50 : BitVec 32 := Scalar.select v48 v49 v34
  let c96_i32_295 : BitVec 32 := 96#32
  let v397 : BitVec 32 := Scalar.muli v50 c96_i32_295
  let v398 : BitVec 32 := Scalar.addi v305 v397
  let c1_i32_309 : BitVec 32 := 1#32
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let c1_i32_5 : BitVec 32 := 1#32
  let c0_i32_6 : BitVec 32 := 0#32
  let v16 : BitVec 32 := Scalar.select v15 c1_i32_5 c0_i32_6
  let v413 : BitVec 32 := Scalar.subi c1_i32_309 v16
  let c48_i32_310 : BitVec 32 := 48#32
  let v414 : BitVec 32 := Scalar.muli v413 c48_i32_310
  let v415 : BitVec 32 := Scalar.addi v398 v414
  let c0_i32_319 : BitVec 32 := 0#32
  ![v415.toNat, 0]
def k0_dev11 (d0 : Dev nD) : Nat :=
  let c0_i32_316 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_21 : BitVec 32 := 1#32
  let v51 : BitVec 32 := Scalar.addi v2 c1_i32_21
  let c2_i32_28 : BitVec 32 := 2#32
  let c2_i32_22 : BitVec 32 := 2#32
  let c0_i32_23 : BitVec 32 := 0#32
  let v52 : BitVec 1 := Scalar.cmpi .eq c2_i32_22 c0_i32_23
  let c1_i32_24 : BitVec 32 := 1#32
  let v53 : BitVec 32 := Scalar.select v52 c1_i32_24 c2_i32_22
  let v54 : BitVec 32 := Scalar.remsi v2 v53
  let c0_i32_26 : BitVec 32 := 0#32
  let v56 : BitVec 1 := Scalar.cmpi .slt v54 c0_i32_26
  let c0_i32_27 : BitVec 32 := 0#32
  let v57 : BitVec 1 := Scalar.cmpi .slt v53 c0_i32_27
  let v58 : BitVec 1 := Scalar.xori v56 v57
  let c0_i32_25 : BitVec 32 := 0#32
  let v55 : BitVec 1 := Scalar.cmpi .ne v54 c0_i32_25
  let v59 : BitVec 1 := Scalar.andi v58 v55
  let v60 : BitVec 32 := Scalar.addi v54 v53
  let v61 : BitVec 32 := Scalar.select v59 v60 v54
  let v62 : BitVec 32 := Scalar.muli c2_i32_28 v61
  let v63 : BitVec 32 := Scalar.subi v51 v62
  let c1_i32_315 : BitVec 32 := 1#32
  let v416 : BitVec 32 := Scalar.muli v63 c1_i32_315
  let v417 : BitVec 32 := Scalar.addi c0_i32_316 v416
  v417.toNat
def k0_off14 (d0 : Dev nD) : Fin 2 → Nat :=
  let c768_i32_225 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_15 : BitVec 32 := 0#32
  let v35 : BitVec 1 := Scalar.cmpi .sgt v2 c0_i32_15
  let v36 : BitVec 32 := Scalar.extui v35
  let c0_i32_16 : BitVec 32 := 0#32
  let v37 : BitVec 1 := Scalar.cmpi .slt v2 c0_i32_16
  let v38 : BitVec 32 := Scalar.extui v37
  let v39 : BitVec 32 := Scalar.subi v36 v38
  let c4_i32_14 : BitVec 32 := 4#32
  let c0_i32_17 : BitVec 32 := 0#32
  let v40 : BitVec 1 := Scalar.cmpi .sgt c4_i32_14 c0_i32_17
  let v41 : BitVec 32 := Scalar.extui v40
  let c0_i32_18 : BitVec 32 := 0#32
  let v42 : BitVec 1 := Scalar.cmpi .slt c4_i32_14 c0_i32_18
  let v43 : BitVec 32 := Scalar.extui v42
  let v44 : BitVec 32 := Scalar.subi v41 v43
  let v45 : BitVec 1 := Scalar.cmpi .ne v39 v44
  let v46 : BitVec 32 := Scalar.remsi v2 c4_i32_14
  let c0_i32_19 : BitVec 32 := 0#32
  let v47 : BitVec 1 := Scalar.cmpi .ne v46 c0_i32_19
  let v48 : BitVec 1 := Scalar.andi v45 v47
  let v34 : BitVec 32 := Scalar.divsi v2 c4_i32_14
  let c1_i32_20 : BitVec 32 := 1#32
  let v49 : BitVec 32 := Scalar.subi v34 c1_i32_20
  let v50 : BitVec 32 := Scalar.select v48 v49 v34
  let c128_i32_224 : BitVec 32 := 128#32
  let v331 : BitVec 32 := Scalar.muli v50 c128_i32_224
  let v332 : BitVec 32 := Scalar.addi c768_i32_225 v331
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let c1_i32_5 : BitVec 32 := 1#32
  let c0_i32_6 : BitVec 32 := 0#32
  let v16 : BitVec 32 := Scalar.select v15 c1_i32_5 c0_i32_6
  let c64_i32_320 : BitVec 32 := 64#32
  let v424 : BitVec 32 := Scalar.muli v16 c64_i32_320
  let v425 : BitVec 32 := Scalar.addi v332 v424
  let v432 : Index := Scalar.indexCast v425
  let c0_330 : Index := 0#32
  ![v432.toNat, 0]
def k0_off15 (d0 : Dev nD) : Fin 2 → Nat :=
  let c768_i32_225 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_15 : BitVec 32 := 0#32
  let v35 : BitVec 1 := Scalar.cmpi .sgt v2 c0_i32_15
  let v36 : BitVec 32 := Scalar.extui v35
  let c0_i32_16 : BitVec 32 := 0#32
  let v37 : BitVec 1 := Scalar.cmpi .slt v2 c0_i32_16
  let v38 : BitVec 32 := Scalar.extui v37
  let v39 : BitVec 32 := Scalar.subi v36 v38
  let c4_i32_14 : BitVec 32 := 4#32
  let c0_i32_17 : BitVec 32 := 0#32
  let v40 : BitVec 1 := Scalar.cmpi .sgt c4_i32_14 c0_i32_17
  let v41 : BitVec 32 := Scalar.extui v40
  let c0_i32_18 : BitVec 32 := 0#32
  let v42 : BitVec 1 := Scalar.cmpi .slt c4_i32_14 c0_i32_18
  let v43 : BitVec 32 := Scalar.extui v42
  let v44 : BitVec 32 := Scalar.subi v41 v43
  let v45 : BitVec 1 := Scalar.cmpi .ne v39 v44
  let v46 : BitVec 32 := Scalar.remsi v2 c4_i32_14
  let c0_i32_19 : BitVec 32 := 0#32
  let v47 : BitVec 1 := Scalar.cmpi .ne v46 c0_i32_19
  let v48 : BitVec 1 := Scalar.andi v45 v47
  let v34 : BitVec 32 := Scalar.divsi v2 c4_i32_14
  let c1_i32_20 : BitVec 32 := 1#32
  let v49 : BitVec 32 := Scalar.subi v34 c1_i32_20
  let v50 : BitVec 32 := Scalar.select v48 v49 v34
  let c128_i32_224 : BitVec 32 := 128#32
  let v331 : BitVec 32 := Scalar.muli v50 c128_i32_224
  let v332 : BitVec 32 := Scalar.addi c768_i32_225 v331
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let c1_i32_5 : BitVec 32 := 1#32
  let c0_i32_6 : BitVec 32 := 0#32
  let v16 : BitVec 32 := Scalar.select v15 c1_i32_5 c0_i32_6
  let c64_i32_320 : BitVec 32 := 64#32
  let v424 : BitVec 32 := Scalar.muli v16 c64_i32_320
  let v425 : BitVec 32 := Scalar.addi v332 v424
  let c1_i32_333 : BitVec 32 := 1#32
  let c0_i32_8 : BitVec 32 := 0#32
  let v18 : BitVec 1 := Scalar.cmpi .sgt v12 c0_i32_8
  let v19 : BitVec 32 := Scalar.extui v18
  let c0_i32_9 : BitVec 32 := 0#32
  let v20 : BitVec 1 := Scalar.cmpi .slt v12 c0_i32_9
  let v21 : BitVec 32 := Scalar.extui v20
  let v22 : BitVec 32 := Scalar.subi v19 v21
  let c2_i32_7 : BitVec 32 := 2#32
  let c0_i32_10 : BitVec 32 := 0#32
  let v23 : BitVec 1 := Scalar.cmpi .sgt c2_i32_7 c0_i32_10
  let v24 : BitVec 32 := Scalar.extui v23
  let c0_i32_11 : BitVec 32 := 0#32
  let v25 : BitVec 1 := Scalar.cmpi .slt c2_i32_7 c0_i32_11
  let v26 : BitVec 32 := Scalar.extui v25
  let v27 : BitVec 32 := Scalar.subi v24 v26
  let v28 : BitVec 1 := Scalar.cmpi .ne v22 v27
  let v29 : BitVec 32 := Scalar.remsi v12 c2_i32_7
  let c0_i32_12 : BitVec 32 := 0#32
  let v30 : BitVec 1 := Scalar.cmpi .ne v29 c0_i32_12
  let v31 : BitVec 1 := Scalar.andi v28 v30
  let v17 : BitVec 32 := Scalar.divsi v12 c2_i32_7
  let c1_i32_13 : BitVec 32 := 1#32
  let v32 : BitVec 32 := Scalar.subi v17 c1_i32_13
  let v33 : BitVec 32 := Scalar.select v31 v32 v17
  let v440 : BitVec 32 := Scalar.subi c1_i32_333 v33
  let c32_i32_334 : BitVec 32 := 32#32
  let v441 : BitVec 32 := Scalar.muli v440 c32_i32_334
  let v442 : BitVec 32 := Scalar.addi v425 v441
  let c0_i32_343 : BitVec 32 := 0#32
  ![v442.toNat, 0]
def k0_dev12 (d0 : Dev nD) : Nat :=
  let c0_i32_340 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v64 : BitVec 32 := Scalar.addi v2 c3_i32
  let c2_i32_29 : BitVec 32 := 2#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v65 : BitVec 32 := Scalar.muli c2_i32_29 v12
  let v66 : BitVec 32 := Scalar.subi v64 v65
  let c1_i32_339 : BitVec 32 := 1#32
  let v443 : BitVec 32 := Scalar.muli v66 c1_i32_339
  let v444 : BitVec 32 := Scalar.addi c0_i32_340 v443
  v444.toNat
def k0_off16 (d0 : Dev nD) : Fin 2 → Nat :=
  let c0_i32_174 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let c1_i32_5 : BitVec 32 := 1#32
  let c0_i32_6 : BitVec 32 := 0#32
  let v16 : BitVec 32 := Scalar.select v15 c1_i32_5 c0_i32_6
  let c192_i32_173 : BitVec 32 := 192#32
  let v277 : BitVec 32 := Scalar.muli v16 c192_i32_173
  let v278 : BitVec 32 := Scalar.addi c0_i32_174 v277
  let c0_i32_8 : BitVec 32 := 0#32
  let v18 : BitVec 1 := Scalar.cmpi .sgt v12 c0_i32_8
  let v19 : BitVec 32 := Scalar.extui v18
  let c0_i32_9 : BitVec 32 := 0#32
  let v20 : BitVec 1 := Scalar.cmpi .slt v12 c0_i32_9
  let v21 : BitVec 32 := Scalar.extui v20
  let v22 : BitVec 32 := Scalar.subi v19 v21
  let c2_i32_7 : BitVec 32 := 2#32
  let c0_i32_10 : BitVec 32 := 0#32
  let v23 : BitVec 1 := Scalar.cmpi .sgt c2_i32_7 c0_i32_10
  let v24 : BitVec 32 := Scalar.extui v23
  let c0_i32_11 : BitVec 32 := 0#32
  let v25 : BitVec 1 := Scalar.cmpi .slt c2_i32_7 c0_i32_11
  let v26 : BitVec 32 := Scalar.extui v25
  let v27 : BitVec 32 := Scalar.subi v24 v26
  let v28 : BitVec 1 := Scalar.cmpi .ne v22 v27
  let v29 : BitVec 32 := Scalar.remsi v12 c2_i32_7
  let c0_i32_12 : BitVec 32 := 0#32
  let v30 : BitVec 1 := Scalar.cmpi .ne v29 c0_i32_12
  let v31 : BitVec 1 := Scalar.andi v28 v30
  let v17 : BitVec 32 := Scalar.divsi v12 c2_i32_7
  let c1_i32_13 : BitVec 32 := 1#32
  let v32 : BitVec 32 := Scalar.subi v17 c1_i32_13
  let v33 : BitVec 32 := Scalar.select v31 v32 v17
  let c96_i32_273 : BitVec 32 := 96#32
  let v370 : BitVec 32 := Scalar.muli v33 c96_i32_273
  let v371 : BitVec 32 := Scalar.addi v278 v370
  let c0_i32_15 : BitVec 32 := 0#32
  let v35 : BitVec 1 := Scalar.cmpi .sgt v2 c0_i32_15
  let v36 : BitVec 32 := Scalar.extui v35
  let c0_i32_16 : BitVec 32 := 0#32
  let v37 : BitVec 1 := Scalar.cmpi .slt v2 c0_i32_16
  let v38 : BitVec 32 := Scalar.extui v37
  let v39 : BitVec 32 := Scalar.subi v36 v38
  let c4_i32_14 : BitVec 32 := 4#32
  let c0_i32_17 : BitVec 32 := 0#32
  let v40 : BitVec 1 := Scalar.cmpi .sgt c4_i32_14 c0_i32_17
  let v41 : BitVec 32 := Scalar.extui v40
  let c0_i32_18 : BitVec 32 := 0#32
  let v42 : BitVec 1 := Scalar.cmpi .slt c4_i32_14 c0_i32_18
  let v43 : BitVec 32 := Scalar.extui v42
  let v44 : BitVec 32 := Scalar.subi v41 v43
  let v45 : BitVec 1 := Scalar.cmpi .ne v39 v44
  let v46 : BitVec 32 := Scalar.remsi v2 c4_i32_14
  let c0_i32_19 : BitVec 32 := 0#32
  let v47 : BitVec 1 := Scalar.cmpi .ne v46 c0_i32_19
  let v48 : BitVec 1 := Scalar.andi v45 v47
  let v34 : BitVec 32 := Scalar.divsi v2 c4_i32_14
  let c1_i32_20 : BitVec 32 := 1#32
  let v49 : BitVec 32 := Scalar.subi v34 c1_i32_20
  let v50 : BitVec 32 := Scalar.select v48 v49 v34
  let c48_i32_368 : BitVec 32 := 48#32
  let v463 : BitVec 32 := Scalar.muli v50 c48_i32_368
  let v464 : BitVec 32 := Scalar.addi v371 v463
  let v471 : Index := Scalar.indexCast v464
  let c0_378 : Index := 0#32
  ![v471.toNat, 0]
def k0_off17 (d0 : Dev nD) : Fin 2 → Nat :=
  let c384_i32_199 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_8 : BitVec 32 := 0#32
  let v18 : BitVec 1 := Scalar.cmpi .sgt v12 c0_i32_8
  let v19 : BitVec 32 := Scalar.extui v18
  let c0_i32_9 : BitVec 32 := 0#32
  let v20 : BitVec 1 := Scalar.cmpi .slt v12 c0_i32_9
  let v21 : BitVec 32 := Scalar.extui v20
  let v22 : BitVec 32 := Scalar.subi v19 v21
  let c2_i32_7 : BitVec 32 := 2#32
  let c0_i32_10 : BitVec 32 := 0#32
  let v23 : BitVec 1 := Scalar.cmpi .sgt c2_i32_7 c0_i32_10
  let v24 : BitVec 32 := Scalar.extui v23
  let c0_i32_11 : BitVec 32 := 0#32
  let v25 : BitVec 1 := Scalar.cmpi .slt c2_i32_7 c0_i32_11
  let v26 : BitVec 32 := Scalar.extui v25
  let v27 : BitVec 32 := Scalar.subi v24 v26
  let v28 : BitVec 1 := Scalar.cmpi .ne v22 v27
  let v29 : BitVec 32 := Scalar.remsi v12 c2_i32_7
  let c0_i32_12 : BitVec 32 := 0#32
  let v30 : BitVec 1 := Scalar.cmpi .ne v29 c0_i32_12
  let v31 : BitVec 1 := Scalar.andi v28 v30
  let v17 : BitVec 32 := Scalar.divsi v12 c2_i32_7
  let c1_i32_13 : BitVec 32 := 1#32
  let v32 : BitVec 32 := Scalar.subi v17 c1_i32_13
  let v33 : BitVec 32 := Scalar.select v31 v32 v17
  let c192_i32_198 : BitVec 32 := 192#32
  let v304 : BitVec 32 := Scalar.muli v33 c192_i32_198
  let v305 : BitVec 32 := Scalar.addi c384_i32_199 v304
  let c0_i32_15 : BitVec 32 := 0#32
  let v35 : BitVec 1 := Scalar.cmpi .sgt v2 c0_i32_15
  let v36 : BitVec 32 := Scalar.extui v35
  let c0_i32_16 : BitVec 32 := 0#32
  let v37 : BitVec 1 := Scalar.cmpi .slt v2 c0_i32_16
  let v38 : BitVec 32 := Scalar.extui v37
  let v39 : BitVec 32 := Scalar.subi v36 v38
  let c4_i32_14 : BitVec 32 := 4#32
  let c0_i32_17 : BitVec 32 := 0#32
  let v40 : BitVec 1 := Scalar.cmpi .sgt c4_i32_14 c0_i32_17
  let v41 : BitVec 32 := Scalar.extui v40
  let c0_i32_18 : BitVec 32 := 0#32
  let v42 : BitVec 1 := Scalar.cmpi .slt c4_i32_14 c0_i32_18
  let v43 : BitVec 32 := Scalar.extui v42
  let v44 : BitVec 32 := Scalar.subi v41 v43
  let v45 : BitVec 1 := Scalar.cmpi .ne v39 v44
  let v46 : BitVec 32 := Scalar.remsi v2 c4_i32_14
  let c0_i32_19 : BitVec 32 := 0#32
  let v47 : BitVec 1 := Scalar.cmpi .ne v46 c0_i32_19
  let v48 : BitVec 1 := Scalar.andi v45 v47
  let v34 : BitVec 32 := Scalar.divsi v2 c4_i32_14
  let c1_i32_20 : BitVec 32 := 1#32
  let v49 : BitVec 32 := Scalar.subi v34 c1_i32_20
  let v50 : BitVec 32 := Scalar.select v48 v49 v34
  let c96_i32_295 : BitVec 32 := 96#32
  let v397 : BitVec 32 := Scalar.muli v50 c96_i32_295
  let v398 : BitVec 32 := Scalar.addi v305 v397
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let c1_i32_5 : BitVec 32 := 1#32
  let c0_i32_6 : BitVec 32 := 0#32
  let v16 : BitVec 32 := Scalar.select v15 c1_i32_5 c0_i32_6
  let c48_i32_381 : BitVec 32 := 48#32
  let v479 : BitVec 32 := Scalar.muli v16 c48_i32_381
  let v480 : BitVec 32 := Scalar.addi v398 v479
  let v487 : Index := Scalar.indexCast v480
  let c0_391 : Index := 0#32
  ![v487.toNat, 0]
def k0_off18 (d0 : Dev nD) : Fin 2 → Nat :=
  let c768_i32_225 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_15 : BitVec 32 := 0#32
  let v35 : BitVec 1 := Scalar.cmpi .sgt v2 c0_i32_15
  let v36 : BitVec 32 := Scalar.extui v35
  let c0_i32_16 : BitVec 32 := 0#32
  let v37 : BitVec 1 := Scalar.cmpi .slt v2 c0_i32_16
  let v38 : BitVec 32 := Scalar.extui v37
  let v39 : BitVec 32 := Scalar.subi v36 v38
  let c4_i32_14 : BitVec 32 := 4#32
  let c0_i32_17 : BitVec 32 := 0#32
  let v40 : BitVec 1 := Scalar.cmpi .sgt c4_i32_14 c0_i32_17
  let v41 : BitVec 32 := Scalar.extui v40
  let c0_i32_18 : BitVec 32 := 0#32
  let v42 : BitVec 1 := Scalar.cmpi .slt c4_i32_14 c0_i32_18
  let v43 : BitVec 32 := Scalar.extui v42
  let v44 : BitVec 32 := Scalar.subi v41 v43
  let v45 : BitVec 1 := Scalar.cmpi .ne v39 v44
  let v46 : BitVec 32 := Scalar.remsi v2 c4_i32_14
  let c0_i32_19 : BitVec 32 := 0#32
  let v47 : BitVec 1 := Scalar.cmpi .ne v46 c0_i32_19
  let v48 : BitVec 1 := Scalar.andi v45 v47
  let v34 : BitVec 32 := Scalar.divsi v2 c4_i32_14
  let c1_i32_20 : BitVec 32 := 1#32
  let v49 : BitVec 32 := Scalar.subi v34 c1_i32_20
  let v50 : BitVec 32 := Scalar.select v48 v49 v34
  let c128_i32_224 : BitVec 32 := 128#32
  let v331 : BitVec 32 := Scalar.muli v50 c128_i32_224
  let v332 : BitVec 32 := Scalar.addi c768_i32_225 v331
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let c1_i32_5 : BitVec 32 := 1#32
  let c0_i32_6 : BitVec 32 := 0#32
  let v16 : BitVec 32 := Scalar.select v15 c1_i32_5 c0_i32_6
  let c64_i32_320 : BitVec 32 := 64#32
  let v424 : BitVec 32 := Scalar.muli v16 c64_i32_320
  let v425 : BitVec 32 := Scalar.addi v332 v424
  let c0_i32_8 : BitVec 32 := 0#32
  let v18 : BitVec 1 := Scalar.cmpi .sgt v12 c0_i32_8
  let v19 : BitVec 32 := Scalar.extui v18
  let c0_i32_9 : BitVec 32 := 0#32
  let v20 : BitVec 1 := Scalar.cmpi .slt v12 c0_i32_9
  let v21 : BitVec 32 := Scalar.extui v20
  let v22 : BitVec 32 := Scalar.subi v19 v21
  let c2_i32_7 : BitVec 32 := 2#32
  let c0_i32_10 : BitVec 32 := 0#32
  let v23 : BitVec 1 := Scalar.cmpi .sgt c2_i32_7 c0_i32_10
  let v24 : BitVec 32 := Scalar.extui v23
  let c0_i32_11 : BitVec 32 := 0#32
  let v25 : BitVec 1 := Scalar.cmpi .slt c2_i32_7 c0_i32_11
  let v26 : BitVec 32 := Scalar.extui v25
  let v27 : BitVec 32 := Scalar.subi v24 v26
  let v28 : BitVec 1 := Scalar.cmpi .ne v22 v27
  let v29 : BitVec 32 := Scalar.remsi v12 c2_i32_7
  let c0_i32_12 : BitVec 32 := 0#32
  let v30 : BitVec 1 := Scalar.cmpi .ne v29 c0_i32_12
  let v31 : BitVec 1 := Scalar.andi v28 v30
  let v17 : BitVec 32 := Scalar.divsi v12 c2_i32_7
  let c1_i32_13 : BitVec 32 := 1#32
  let v32 : BitVec 32 := Scalar.subi v17 c1_i32_13
  let v33 : BitVec 32 := Scalar.select v31 v32 v17
  let c32_i32_395 : BitVec 32 := 32#32
  let v495 : BitVec 32 := Scalar.muli v33 c32_i32_395
  let v496 : BitVec 32 := Scalar.addi v425 v495
  let v503 : Index := Scalar.indexCast v496
  let c0_405 : Index := 0#32
  ![v503.toNat, 0]
def k0_off19 (d0 : Dev nD) : Fin 2 → Nat :=
  let c0_i32_174 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let c1_i32_5 : BitVec 32 := 1#32
  let c0_i32_6 : BitVec 32 := 0#32
  let v16 : BitVec 32 := Scalar.select v15 c1_i32_5 c0_i32_6
  let c192_i32_173 : BitVec 32 := 192#32
  let v277 : BitVec 32 := Scalar.muli v16 c192_i32_173
  let v278 : BitVec 32 := Scalar.addi c0_i32_174 v277
  let c0_i32_8 : BitVec 32 := 0#32
  let v18 : BitVec 1 := Scalar.cmpi .sgt v12 c0_i32_8
  let v19 : BitVec 32 := Scalar.extui v18
  let c0_i32_9 : BitVec 32 := 0#32
  let v20 : BitVec 1 := Scalar.cmpi .slt v12 c0_i32_9
  let v21 : BitVec 32 := Scalar.extui v20
  let v22 : BitVec 32 := Scalar.subi v19 v21
  let c2_i32_7 : BitVec 32 := 2#32
  let c0_i32_10 : BitVec 32 := 0#32
  let v23 : BitVec 1 := Scalar.cmpi .sgt c2_i32_7 c0_i32_10
  let v24 : BitVec 32 := Scalar.extui v23
  let c0_i32_11 : BitVec 32 := 0#32
  let v25 : BitVec 1 := Scalar.cmpi .slt c2_i32_7 c0_i32_11
  let v26 : BitVec 32 := Scalar.extui v25
  let v27 : BitVec 32 := Scalar.subi v24 v26
  let v28 : BitVec 1 := Scalar.cmpi .ne v22 v27
  let v29 : BitVec 32 := Scalar.remsi v12 c2_i32_7
  let c0_i32_12 : BitVec 32 := 0#32
  let v30 : BitVec 1 := Scalar.cmpi .ne v29 c0_i32_12
  let v31 : BitVec 1 := Scalar.andi v28 v30
  let v17 : BitVec 32 := Scalar.divsi v12 c2_i32_7
  let c1_i32_13 : BitVec 32 := 1#32
  let v32 : BitVec 32 := Scalar.subi v17 c1_i32_13
  let v33 : BitVec 32 := Scalar.select v31 v32 v17
  let c96_i32_273 : BitVec 32 := 96#32
  let v370 : BitVec 32 := Scalar.muli v33 c96_i32_273
  let v371 : BitVec 32 := Scalar.addi v278 v370
  let c0_i32_15 : BitVec 32 := 0#32
  let v35 : BitVec 1 := Scalar.cmpi .sgt v2 c0_i32_15
  let v36 : BitVec 32 := Scalar.extui v35
  let c0_i32_16 : BitVec 32 := 0#32
  let v37 : BitVec 1 := Scalar.cmpi .slt v2 c0_i32_16
  let v38 : BitVec 32 := Scalar.extui v37
  let v39 : BitVec 32 := Scalar.subi v36 v38
  let c4_i32_14 : BitVec 32 := 4#32
  let c0_i32_17 : BitVec 32 := 0#32
  let v40 : BitVec 1 := Scalar.cmpi .sgt c4_i32_14 c0_i32_17
  let v41 : BitVec 32 := Scalar.extui v40
  let c0_i32_18 : BitVec 32 := 0#32
  let v42 : BitVec 1 := Scalar.cmpi .slt c4_i32_14 c0_i32_18
  let v43 : BitVec 32 := Scalar.extui v42
  let v44 : BitVec 32 := Scalar.subi v41 v43
  let v45 : BitVec 1 := Scalar.cmpi .ne v39 v44
  let v46 : BitVec 32 := Scalar.remsi v2 c4_i32_14
  let c0_i32_19 : BitVec 32 := 0#32
  let v47 : BitVec 1 := Scalar.cmpi .ne v46 c0_i32_19
  let v48 : BitVec 1 := Scalar.andi v45 v47
  let v34 : BitVec 32 := Scalar.divsi v2 c4_i32_14
  let c1_i32_20 : BitVec 32 := 1#32
  let v49 : BitVec 32 := Scalar.subi v34 c1_i32_20
  let v50 : BitVec 32 := Scalar.select v48 v49 v34
  let c48_i32_368 : BitVec 32 := 48#32
  let v463 : BitVec 32 := Scalar.muli v50 c48_i32_368
  let v464 : BitVec 32 := Scalar.addi v371 v463
  let c0_i32_441 : BitVec 32 := 0#32
  ![v464.toNat, 0]
def k0_dev13 (d0 : Dev nD) : Nat :=
  let c0_i32_440 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_30 : BitVec 32 := 4#32
  let v67 : BitVec 32 := Scalar.addi v2 c4_i32_30
  let c8_i32_31 : BitVec 32 := 8#32
  let c0_i32_15 : BitVec 32 := 0#32
  let v35 : BitVec 1 := Scalar.cmpi .sgt v2 c0_i32_15
  let v36 : BitVec 32 := Scalar.extui v35
  let c0_i32_16 : BitVec 32 := 0#32
  let v37 : BitVec 1 := Scalar.cmpi .slt v2 c0_i32_16
  let v38 : BitVec 32 := Scalar.extui v37
  let v39 : BitVec 32 := Scalar.subi v36 v38
  let c4_i32_14 : BitVec 32 := 4#32
  let c0_i32_17 : BitVec 32 := 0#32
  let v40 : BitVec 1 := Scalar.cmpi .sgt c4_i32_14 c0_i32_17
  let v41 : BitVec 32 := Scalar.extui v40
  let c0_i32_18 : BitVec 32 := 0#32
  let v42 : BitVec 1 := Scalar.cmpi .slt c4_i32_14 c0_i32_18
  let v43 : BitVec 32 := Scalar.extui v42
  let v44 : BitVec 32 := Scalar.subi v41 v43
  let v45 : BitVec 1 := Scalar.cmpi .ne v39 v44
  let v46 : BitVec 32 := Scalar.remsi v2 c4_i32_14
  let c0_i32_19 : BitVec 32 := 0#32
  let v47 : BitVec 1 := Scalar.cmpi .ne v46 c0_i32_19
  let v48 : BitVec 1 := Scalar.andi v45 v47
  let v34 : BitVec 32 := Scalar.divsi v2 c4_i32_14
  let c1_i32_20 : BitVec 32 := 1#32
  let v49 : BitVec 32 := Scalar.subi v34 c1_i32_20
  let v50 : BitVec 32 := Scalar.select v48 v49 v34
  let v68 : BitVec 32 := Scalar.muli c8_i32_31 v50
  let v69 : BitVec 32 := Scalar.subi v67 v68
  let c1_i32_439 : BitVec 32 := 1#32
  let v527 : BitVec 32 := Scalar.muli v69 c1_i32_439
  let v528 : BitVec 32 := Scalar.addi c0_i32_440 v527
  v528.toNat
def k0_off20 (d0 : Dev nD) : Fin 2 → Nat :=
  let c384_i32_199 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_8 : BitVec 32 := 0#32
  let v18 : BitVec 1 := Scalar.cmpi .sgt v12 c0_i32_8
  let v19 : BitVec 32 := Scalar.extui v18
  let c0_i32_9 : BitVec 32 := 0#32
  let v20 : BitVec 1 := Scalar.cmpi .slt v12 c0_i32_9
  let v21 : BitVec 32 := Scalar.extui v20
  let v22 : BitVec 32 := Scalar.subi v19 v21
  let c2_i32_7 : BitVec 32 := 2#32
  let c0_i32_10 : BitVec 32 := 0#32
  let v23 : BitVec 1 := Scalar.cmpi .sgt c2_i32_7 c0_i32_10
  let v24 : BitVec 32 := Scalar.extui v23
  let c0_i32_11 : BitVec 32 := 0#32
  let v25 : BitVec 1 := Scalar.cmpi .slt c2_i32_7 c0_i32_11
  let v26 : BitVec 32 := Scalar.extui v25
  let v27 : BitVec 32 := Scalar.subi v24 v26
  let v28 : BitVec 1 := Scalar.cmpi .ne v22 v27
  let v29 : BitVec 32 := Scalar.remsi v12 c2_i32_7
  let c0_i32_12 : BitVec 32 := 0#32
  let v30 : BitVec 1 := Scalar.cmpi .ne v29 c0_i32_12
  let v31 : BitVec 1 := Scalar.andi v28 v30
  let v17 : BitVec 32 := Scalar.divsi v12 c2_i32_7
  let c1_i32_13 : BitVec 32 := 1#32
  let v32 : BitVec 32 := Scalar.subi v17 c1_i32_13
  let v33 : BitVec 32 := Scalar.select v31 v32 v17
  let c192_i32_198 : BitVec 32 := 192#32
  let v304 : BitVec 32 := Scalar.muli v33 c192_i32_198
  let v305 : BitVec 32 := Scalar.addi c384_i32_199 v304
  let c0_i32_15 : BitVec 32 := 0#32
  let v35 : BitVec 1 := Scalar.cmpi .sgt v2 c0_i32_15
  let v36 : BitVec 32 := Scalar.extui v35
  let c0_i32_16 : BitVec 32 := 0#32
  let v37 : BitVec 1 := Scalar.cmpi .slt v2 c0_i32_16
  let v38 : BitVec 32 := Scalar.extui v37
  let v39 : BitVec 32 := Scalar.subi v36 v38
  let c4_i32_14 : BitVec 32 := 4#32
  let c0_i32_17 : BitVec 32 := 0#32
  let v40 : BitVec 1 := Scalar.cmpi .sgt c4_i32_14 c0_i32_17
  let v41 : BitVec 32 := Scalar.extui v40
  let c0_i32_18 : BitVec 32 := 0#32
  let v42 : BitVec 1 := Scalar.cmpi .slt c4_i32_14 c0_i32_18
  let v43 : BitVec 32 := Scalar.extui v42
  let v44 : BitVec 32 := Scalar.subi v41 v43
  let v45 : BitVec 1 := Scalar.cmpi .ne v39 v44
  let v46 : BitVec 32 := Scalar.remsi v2 c4_i32_14
  let c0_i32_19 : BitVec 32 := 0#32
  let v47 : BitVec 1 := Scalar.cmpi .ne v46 c0_i32_19
  let v48 : BitVec 1 := Scalar.andi v45 v47
  let v34 : BitVec 32 := Scalar.divsi v2 c4_i32_14
  let c1_i32_20 : BitVec 32 := 1#32
  let v49 : BitVec 32 := Scalar.subi v34 c1_i32_20
  let v50 : BitVec 32 := Scalar.select v48 v49 v34
  let c96_i32_295 : BitVec 32 := 96#32
  let v397 : BitVec 32 := Scalar.muli v50 c96_i32_295
  let v398 : BitVec 32 := Scalar.addi v305 v397
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let c1_i32_5 : BitVec 32 := 1#32
  let c0_i32_6 : BitVec 32 := 0#32
  let v16 : BitVec 32 := Scalar.select v15 c1_i32_5 c0_i32_6
  let c48_i32_381 : BitVec 32 := 48#32
  let v479 : BitVec 32 := Scalar.muli v16 c48_i32_381
  let v480 : BitVec 32 := Scalar.addi v398 v479
  let c0_i32_451 : BitVec 32 := 0#32
  ![v480.toNat, 0]
def k0_dev14 (d0 : Dev nD) : Nat :=
  let c0_i32_450 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_21 : BitVec 32 := 1#32
  let v51 : BitVec 32 := Scalar.addi v2 c1_i32_21
  let c2_i32_28 : BitVec 32 := 2#32
  let c2_i32_22 : BitVec 32 := 2#32
  let c0_i32_23 : BitVec 32 := 0#32
  let v52 : BitVec 1 := Scalar.cmpi .eq c2_i32_22 c0_i32_23
  let c1_i32_24 : BitVec 32 := 1#32
  let v53 : BitVec 32 := Scalar.select v52 c1_i32_24 c2_i32_22
  let v54 : BitVec 32 := Scalar.remsi v2 v53
  let c0_i32_26 : BitVec 32 := 0#32
  let v56 : BitVec 1 := Scalar.cmpi .slt v54 c0_i32_26
  let c0_i32_27 : BitVec 32 := 0#32
  let v57 : BitVec 1 := Scalar.cmpi .slt v53 c0_i32_27
  let v58 : BitVec 1 := Scalar.xori v56 v57
  let c0_i32_25 : BitVec 32 := 0#32
  let v55 : BitVec 1 := Scalar.cmpi .ne v54 c0_i32_25
  let v59 : BitVec 1 := Scalar.andi v58 v55
  let v60 : BitVec 32 := Scalar.addi v54 v53
  let v61 : BitVec 32 := Scalar.select v59 v60 v54
  let v62 : BitVec 32 := Scalar.muli c2_i32_28 v61
  let v63 : BitVec 32 := Scalar.subi v51 v62
  let c1_i32_449 : BitVec 32 := 1#32
  let v539 : BitVec 32 := Scalar.muli v63 c1_i32_449
  let v540 : BitVec 32 := Scalar.addi c0_i32_450 v539
  v540.toNat
def k0_off21 (d0 : Dev nD) : Fin 2 → Nat :=
  let c768_i32_225 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_15 : BitVec 32 := 0#32
  let v35 : BitVec 1 := Scalar.cmpi .sgt v2 c0_i32_15
  let v36 : BitVec 32 := Scalar.extui v35
  let c0_i32_16 : BitVec 32 := 0#32
  let v37 : BitVec 1 := Scalar.cmpi .slt v2 c0_i32_16
  let v38 : BitVec 32 := Scalar.extui v37
  let v39 : BitVec 32 := Scalar.subi v36 v38
  let c4_i32_14 : BitVec 32 := 4#32
  let c0_i32_17 : BitVec 32 := 0#32
  let v40 : BitVec 1 := Scalar.cmpi .sgt c4_i32_14 c0_i32_17
  let v41 : BitVec 32 := Scalar.extui v40
  let c0_i32_18 : BitVec 32 := 0#32
  let v42 : BitVec 1 := Scalar.cmpi .slt c4_i32_14 c0_i32_18
  let v43 : BitVec 32 := Scalar.extui v42
  let v44 : BitVec 32 := Scalar.subi v41 v43
  let v45 : BitVec 1 := Scalar.cmpi .ne v39 v44
  let v46 : BitVec 32 := Scalar.remsi v2 c4_i32_14
  let c0_i32_19 : BitVec 32 := 0#32
  let v47 : BitVec 1 := Scalar.cmpi .ne v46 c0_i32_19
  let v48 : BitVec 1 := Scalar.andi v45 v47
  let v34 : BitVec 32 := Scalar.divsi v2 c4_i32_14
  let c1_i32_20 : BitVec 32 := 1#32
  let v49 : BitVec 32 := Scalar.subi v34 c1_i32_20
  let v50 : BitVec 32 := Scalar.select v48 v49 v34
  let c128_i32_224 : BitVec 32 := 128#32
  let v331 : BitVec 32 := Scalar.muli v50 c128_i32_224
  let v332 : BitVec 32 := Scalar.addi c768_i32_225 v331
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let c1_i32_5 : BitVec 32 := 1#32
  let c0_i32_6 : BitVec 32 := 0#32
  let v16 : BitVec 32 := Scalar.select v15 c1_i32_5 c0_i32_6
  let c64_i32_320 : BitVec 32 := 64#32
  let v424 : BitVec 32 := Scalar.muli v16 c64_i32_320
  let v425 : BitVec 32 := Scalar.addi v332 v424
  let c0_i32_8 : BitVec 32 := 0#32
  let v18 : BitVec 1 := Scalar.cmpi .sgt v12 c0_i32_8
  let v19 : BitVec 32 := Scalar.extui v18
  let c0_i32_9 : BitVec 32 := 0#32
  let v20 : BitVec 1 := Scalar.cmpi .slt v12 c0_i32_9
  let v21 : BitVec 32 := Scalar.extui v20
  let v22 : BitVec 32 := Scalar.subi v19 v21
  let c2_i32_7 : BitVec 32 := 2#32
  let c0_i32_10 : BitVec 32 := 0#32
  let v23 : BitVec 1 := Scalar.cmpi .sgt c2_i32_7 c0_i32_10
  let v24 : BitVec 32 := Scalar.extui v23
  let c0_i32_11 : BitVec 32 := 0#32
  let v25 : BitVec 1 := Scalar.cmpi .slt c2_i32_7 c0_i32_11
  let v26 : BitVec 32 := Scalar.extui v25
  let v27 : BitVec 32 := Scalar.subi v24 v26
  let v28 : BitVec 1 := Scalar.cmpi .ne v22 v27
  let v29 : BitVec 32 := Scalar.remsi v12 c2_i32_7
  let c0_i32_12 : BitVec 32 := 0#32
  let v30 : BitVec 1 := Scalar.cmpi .ne v29 c0_i32_12
  let v31 : BitVec 1 := Scalar.andi v28 v30
  let v17 : BitVec 32 := Scalar.divsi v12 c2_i32_7
  let c1_i32_13 : BitVec 32 := 1#32
  let v32 : BitVec 32 := Scalar.subi v17 c1_i32_13
  let v33 : BitVec 32 := Scalar.select v31 v32 v17
  let c32_i32_395 : BitVec 32 := 32#32
  let v495 : BitVec 32 := Scalar.muli v33 c32_i32_395
  let v496 : BitVec 32 := Scalar.addi v425 v495
  let c0_i32_461 : BitVec 32 := 0#32
  ![v496.toNat, 0]
def k0_dev15 (d0 : Dev nD) : Nat :=
  let c0_i32_460 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v64 : BitVec 32 := Scalar.addi v2 c3_i32
  let c2_i32_29 : BitVec 32 := 2#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v65 : BitVec 32 := Scalar.muli c2_i32_29 v12
  let v66 : BitVec 32 := Scalar.subi v64 v65
  let c1_i32_459 : BitVec 32 := 1#32
  let v551 : BitVec 32 := Scalar.muli v66 c1_i32_459
  let v552 : BitVec 32 := Scalar.addi c0_i32_460 v551
  v552.toNat
def k0_off22 (d0 : Dev nD) : Fin 2 → Nat :=
  let c0_i32_174 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let c1_i32_5 : BitVec 32 := 1#32
  let c0_i32_6 : BitVec 32 := 0#32
  let v16 : BitVec 32 := Scalar.select v15 c1_i32_5 c0_i32_6
  let c192_i32_173 : BitVec 32 := 192#32
  let v277 : BitVec 32 := Scalar.muli v16 c192_i32_173
  let v278 : BitVec 32 := Scalar.addi c0_i32_174 v277
  let c0_i32_8 : BitVec 32 := 0#32
  let v18 : BitVec 1 := Scalar.cmpi .sgt v12 c0_i32_8
  let v19 : BitVec 32 := Scalar.extui v18
  let c0_i32_9 : BitVec 32 := 0#32
  let v20 : BitVec 1 := Scalar.cmpi .slt v12 c0_i32_9
  let v21 : BitVec 32 := Scalar.extui v20
  let v22 : BitVec 32 := Scalar.subi v19 v21
  let c2_i32_7 : BitVec 32 := 2#32
  let c0_i32_10 : BitVec 32 := 0#32
  let v23 : BitVec 1 := Scalar.cmpi .sgt c2_i32_7 c0_i32_10
  let v24 : BitVec 32 := Scalar.extui v23
  let c0_i32_11 : BitVec 32 := 0#32
  let v25 : BitVec 1 := Scalar.cmpi .slt c2_i32_7 c0_i32_11
  let v26 : BitVec 32 := Scalar.extui v25
  let v27 : BitVec 32 := Scalar.subi v24 v26
  let v28 : BitVec 1 := Scalar.cmpi .ne v22 v27
  let v29 : BitVec 32 := Scalar.remsi v12 c2_i32_7
  let c0_i32_12 : BitVec 32 := 0#32
  let v30 : BitVec 1 := Scalar.cmpi .ne v29 c0_i32_12
  let v31 : BitVec 1 := Scalar.andi v28 v30
  let v17 : BitVec 32 := Scalar.divsi v12 c2_i32_7
  let c1_i32_13 : BitVec 32 := 1#32
  let v32 : BitVec 32 := Scalar.subi v17 c1_i32_13
  let v33 : BitVec 32 := Scalar.select v31 v32 v17
  let c96_i32_273 : BitVec 32 := 96#32
  let v370 : BitVec 32 := Scalar.muli v33 c96_i32_273
  let v371 : BitVec 32 := Scalar.addi v278 v370
  let c0_i32_15 : BitVec 32 := 0#32
  let v35 : BitVec 1 := Scalar.cmpi .sgt v2 c0_i32_15
  let v36 : BitVec 32 := Scalar.extui v35
  let c0_i32_16 : BitVec 32 := 0#32
  let v37 : BitVec 1 := Scalar.cmpi .slt v2 c0_i32_16
  let v38 : BitVec 32 := Scalar.extui v37
  let v39 : BitVec 32 := Scalar.subi v36 v38
  let c4_i32_14 : BitVec 32 := 4#32
  let c0_i32_17 : BitVec 32 := 0#32
  let v40 : BitVec 1 := Scalar.cmpi .sgt c4_i32_14 c0_i32_17
  let v41 : BitVec 32 := Scalar.extui v40
  let c0_i32_18 : BitVec 32 := 0#32
  let v42 : BitVec 1 := Scalar.cmpi .slt c4_i32_14 c0_i32_18
  let v43 : BitVec 32 := Scalar.extui v42
  let v44 : BitVec 32 := Scalar.subi v41 v43
  let v45 : BitVec 1 := Scalar.cmpi .ne v39 v44
  let v46 : BitVec 32 := Scalar.remsi v2 c4_i32_14
  let c0_i32_19 : BitVec 32 := 0#32
  let v47 : BitVec 1 := Scalar.cmpi .ne v46 c0_i32_19
  let v48 : BitVec 1 := Scalar.andi v45 v47
  let v34 : BitVec 32 := Scalar.divsi v2 c4_i32_14
  let c1_i32_20 : BitVec 32 := 1#32
  let v49 : BitVec 32 := Scalar.subi v34 c1_i32_20
  let v50 : BitVec 32 := Scalar.select v48 v49 v34
  let c48_i32_368 : BitVec 32 := 48#32
  let v463 : BitVec 32 := Scalar.muli v50 c48_i32_368
  let v464 : BitVec 32 := Scalar.addi v371 v463
  let c48_i32_471 : BitVec 32 := 48#32
  let v565 : BitVec 32 := Scalar.muli v50 c48_i32_471
  let v566 : BitVec 32 := Scalar.subi v464 v565
  let c0_i32_478 : BitVec 32 := 0#32
  ![v566.toNat, 0]
def k0_dev16 (d0 : Dev nD) : Nat :=
  let c0_i32_477 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v64 : BitVec 32 := Scalar.addi v2 c3_i32
  let c2_i32_29 : BitVec 32 := 2#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v65 : BitVec 32 := Scalar.muli c2_i32_29 v12
  let v66 : BitVec 32 := Scalar.subi v64 v65
  let c1_i32_476 : BitVec 32 := 1#32
  let v567 : BitVec 32 := Scalar.muli v66 c1_i32_476
  let v568 : BitVec 32 := Scalar.addi c0_i32_477 v567
  v568.toNat
def k0_off23 (d0 : Dev nD) : Fin 2 → Nat :=
  let c384_i32_199 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_8 : BitVec 32 := 0#32
  let v18 : BitVec 1 := Scalar.cmpi .sgt v12 c0_i32_8
  let v19 : BitVec 32 := Scalar.extui v18
  let c0_i32_9 : BitVec 32 := 0#32
  let v20 : BitVec 1 := Scalar.cmpi .slt v12 c0_i32_9
  let v21 : BitVec 32 := Scalar.extui v20
  let v22 : BitVec 32 := Scalar.subi v19 v21
  let c2_i32_7 : BitVec 32 := 2#32
  let c0_i32_10 : BitVec 32 := 0#32
  let v23 : BitVec 1 := Scalar.cmpi .sgt c2_i32_7 c0_i32_10
  let v24 : BitVec 32 := Scalar.extui v23
  let c0_i32_11 : BitVec 32 := 0#32
  let v25 : BitVec 1 := Scalar.cmpi .slt c2_i32_7 c0_i32_11
  let v26 : BitVec 32 := Scalar.extui v25
  let v27 : BitVec 32 := Scalar.subi v24 v26
  let v28 : BitVec 1 := Scalar.cmpi .ne v22 v27
  let v29 : BitVec 32 := Scalar.remsi v12 c2_i32_7
  let c0_i32_12 : BitVec 32 := 0#32
  let v30 : BitVec 1 := Scalar.cmpi .ne v29 c0_i32_12
  let v31 : BitVec 1 := Scalar.andi v28 v30
  let v17 : BitVec 32 := Scalar.divsi v12 c2_i32_7
  let c1_i32_13 : BitVec 32 := 1#32
  let v32 : BitVec 32 := Scalar.subi v17 c1_i32_13
  let v33 : BitVec 32 := Scalar.select v31 v32 v17
  let c192_i32_198 : BitVec 32 := 192#32
  let v304 : BitVec 32 := Scalar.muli v33 c192_i32_198
  let v305 : BitVec 32 := Scalar.addi c384_i32_199 v304
  let c0_i32_15 : BitVec 32 := 0#32
  let v35 : BitVec 1 := Scalar.cmpi .sgt v2 c0_i32_15
  let v36 : BitVec 32 := Scalar.extui v35
  let c0_i32_16 : BitVec 32 := 0#32
  let v37 : BitVec 1 := Scalar.cmpi .slt v2 c0_i32_16
  let v38 : BitVec 32 := Scalar.extui v37
  let v39 : BitVec 32 := Scalar.subi v36 v38
  let c4_i32_14 : BitVec 32 := 4#32
  let c0_i32_17 : BitVec 32 := 0#32
  let v40 : BitVec 1 := Scalar.cmpi .sgt c4_i32_14 c0_i32_17
  let v41 : BitVec 32 := Scalar.extui v40
  let c0_i32_18 : BitVec 32 := 0#32
  let v42 : BitVec 1 := Scalar.cmpi .slt c4_i32_14 c0_i32_18
  let v43 : BitVec 32 := Scalar.extui v42
  let v44 : BitVec 32 := Scalar.subi v41 v43
  let v45 : BitVec 1 := Scalar.cmpi .ne v39 v44
  let v46 : BitVec 32 := Scalar.remsi v2 c4_i32_14
  let c0_i32_19 : BitVec 32 := 0#32
  let v47 : BitVec 1 := Scalar.cmpi .ne v46 c0_i32_19
  let v48 : BitVec 1 := Scalar.andi v45 v47
  let v34 : BitVec 32 := Scalar.divsi v2 c4_i32_14
  let c1_i32_20 : BitVec 32 := 1#32
  let v49 : BitVec 32 := Scalar.subi v34 c1_i32_20
  let v50 : BitVec 32 := Scalar.select v48 v49 v34
  let c96_i32_295 : BitVec 32 := 96#32
  let v397 : BitVec 32 := Scalar.muli v50 c96_i32_295
  let v398 : BitVec 32 := Scalar.addi v305 v397
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let c1_i32_5 : BitVec 32 := 1#32
  let c0_i32_6 : BitVec 32 := 0#32
  let v16 : BitVec 32 := Scalar.select v15 c1_i32_5 c0_i32_6
  let c48_i32_381 : BitVec 32 := 48#32
  let v479 : BitVec 32 := Scalar.muli v16 c48_i32_381
  let v480 : BitVec 32 := Scalar.addi v398 v479
  let c48_i32_488 : BitVec 32 := 48#32
  let v581 : BitVec 32 := Scalar.muli v16 c48_i32_488
  let v582 : BitVec 32 := Scalar.subi v480 v581
  let c0_i32_495 : BitVec 32 := 0#32
  ![v582.toNat, 0]
def k0_dev17 (d0 : Dev nD) : Nat :=
  let c0_i32_494 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_30 : BitVec 32 := 4#32
  let v67 : BitVec 32 := Scalar.addi v2 c4_i32_30
  let c8_i32_31 : BitVec 32 := 8#32
  let c0_i32_15 : BitVec 32 := 0#32
  let v35 : BitVec 1 := Scalar.cmpi .sgt v2 c0_i32_15
  let v36 : BitVec 32 := Scalar.extui v35
  let c0_i32_16 : BitVec 32 := 0#32
  let v37 : BitVec 1 := Scalar.cmpi .slt v2 c0_i32_16
  let v38 : BitVec 32 := Scalar.extui v37
  let v39 : BitVec 32 := Scalar.subi v36 v38
  let c4_i32_14 : BitVec 32 := 4#32
  let c0_i32_17 : BitVec 32 := 0#32
  let v40 : BitVec 1 := Scalar.cmpi .sgt c4_i32_14 c0_i32_17
  let v41 : BitVec 32 := Scalar.extui v40
  let c0_i32_18 : BitVec 32 := 0#32
  let v42 : BitVec 1 := Scalar.cmpi .slt c4_i32_14 c0_i32_18
  let v43 : BitVec 32 := Scalar.extui v42
  let v44 : BitVec 32 := Scalar.subi v41 v43
  let v45 : BitVec 1 := Scalar.cmpi .ne v39 v44
  let v46 : BitVec 32 := Scalar.remsi v2 c4_i32_14
  let c0_i32_19 : BitVec 32 := 0#32
  let v47 : BitVec 1 := Scalar.cmpi .ne v46 c0_i32_19
  let v48 : BitVec 1 := Scalar.andi v45 v47
  let v34 : BitVec 32 := Scalar.divsi v2 c4_i32_14
  let c1_i32_20 : BitVec 32 := 1#32
  let v49 : BitVec 32 := Scalar.subi v34 c1_i32_20
  let v50 : BitVec 32 := Scalar.select v48 v49 v34
  let v68 : BitVec 32 := Scalar.muli c8_i32_31 v50
  let v69 : BitVec 32 := Scalar.subi v67 v68
  let c1_i32_493 : BitVec 32 := 1#32
  let v583 : BitVec 32 := Scalar.muli v69 c1_i32_493
  let v584 : BitVec 32 := Scalar.addi c0_i32_494 v583
  v584.toNat
def k0_off24 (d0 : Dev nD) : Fin 2 → Nat :=
  let c768_i32_225 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_15 : BitVec 32 := 0#32
  let v35 : BitVec 1 := Scalar.cmpi .sgt v2 c0_i32_15
  let v36 : BitVec 32 := Scalar.extui v35
  let c0_i32_16 : BitVec 32 := 0#32
  let v37 : BitVec 1 := Scalar.cmpi .slt v2 c0_i32_16
  let v38 : BitVec 32 := Scalar.extui v37
  let v39 : BitVec 32 := Scalar.subi v36 v38
  let c4_i32_14 : BitVec 32 := 4#32
  let c0_i32_17 : BitVec 32 := 0#32
  let v40 : BitVec 1 := Scalar.cmpi .sgt c4_i32_14 c0_i32_17
  let v41 : BitVec 32 := Scalar.extui v40
  let c0_i32_18 : BitVec 32 := 0#32
  let v42 : BitVec 1 := Scalar.cmpi .slt c4_i32_14 c0_i32_18
  let v43 : BitVec 32 := Scalar.extui v42
  let v44 : BitVec 32 := Scalar.subi v41 v43
  let v45 : BitVec 1 := Scalar.cmpi .ne v39 v44
  let v46 : BitVec 32 := Scalar.remsi v2 c4_i32_14
  let c0_i32_19 : BitVec 32 := 0#32
  let v47 : BitVec 1 := Scalar.cmpi .ne v46 c0_i32_19
  let v48 : BitVec 1 := Scalar.andi v45 v47
  let v34 : BitVec 32 := Scalar.divsi v2 c4_i32_14
  let c1_i32_20 : BitVec 32 := 1#32
  let v49 : BitVec 32 := Scalar.subi v34 c1_i32_20
  let v50 : BitVec 32 := Scalar.select v48 v49 v34
  let c128_i32_224 : BitVec 32 := 128#32
  let v331 : BitVec 32 := Scalar.muli v50 c128_i32_224
  let v332 : BitVec 32 := Scalar.addi c768_i32_225 v331
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let c1_i32_5 : BitVec 32 := 1#32
  let c0_i32_6 : BitVec 32 := 0#32
  let v16 : BitVec 32 := Scalar.select v15 c1_i32_5 c0_i32_6
  let c64_i32_320 : BitVec 32 := 64#32
  let v424 : BitVec 32 := Scalar.muli v16 c64_i32_320
  let v425 : BitVec 32 := Scalar.addi v332 v424
  let c0_i32_8 : BitVec 32 := 0#32
  let v18 : BitVec 1 := Scalar.cmpi .sgt v12 c0_i32_8
  let v19 : BitVec 32 := Scalar.extui v18
  let c0_i32_9 : BitVec 32 := 0#32
  let v20 : BitVec 1 := Scalar.cmpi .slt v12 c0_i32_9
  let v21 : BitVec 32 := Scalar.extui v20
  let v22 : BitVec 32 := Scalar.subi v19 v21
  let c2_i32_7 : BitVec 32 := 2#32
  let c0_i32_10 : BitVec 32 := 0#32
  let v23 : BitVec 1 := Scalar.cmpi .sgt c2_i32_7 c0_i32_10
  let v24 : BitVec 32 := Scalar.extui v23
  let c0_i32_11 : BitVec 32 := 0#32
  let v25 : BitVec 1 := Scalar.cmpi .slt c2_i32_7 c0_i32_11
  let v26 : BitVec 32 := Scalar.extui v25
  let v27 : BitVec 32 := Scalar.subi v24 v26
  let v28 : BitVec 1 := Scalar.cmpi .ne v22 v27
  let v29 : BitVec 32 := Scalar.remsi v12 c2_i32_7
  let c0_i32_12 : BitVec 32 := 0#32
  let v30 : BitVec 1 := Scalar.cmpi .ne v29 c0_i32_12
  let v31 : BitVec 1 := Scalar.andi v28 v30
  let v17 : BitVec 32 := Scalar.divsi v12 c2_i32_7
  let c1_i32_13 : BitVec 32 := 1#32
  let v32 : BitVec 32 := Scalar.subi v17 c1_i32_13
  let v33 : BitVec 32 := Scalar.select v31 v32 v17
  let c32_i32_395 : BitVec 32 := 32#32
  let v495 : BitVec 32 := Scalar.muli v33 c32_i32_395
  let v496 : BitVec 32 := Scalar.addi v425 v495
  let c32_i32_505 : BitVec 32 := 32#32
  let v597 : BitVec 32 := Scalar.muli v33 c32_i32_505
  let v598 : BitVec 32 := Scalar.subi v496 v597
  let c0_i32_512 : BitVec 32 := 0#32
  ![v598.toNat, 0]
def k0_dev18 (d0 : Dev nD) : Nat :=
  let c0_i32_511 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_21 : BitVec 32 := 1#32
  let v51 : BitVec 32 := Scalar.addi v2 c1_i32_21
  let c2_i32_28 : BitVec 32 := 2#32
  let c2_i32_22 : BitVec 32 := 2#32
  let c0_i32_23 : BitVec 32 := 0#32
  let v52 : BitVec 1 := Scalar.cmpi .eq c2_i32_22 c0_i32_23
  let c1_i32_24 : BitVec 32 := 1#32
  let v53 : BitVec 32 := Scalar.select v52 c1_i32_24 c2_i32_22
  let v54 : BitVec 32 := Scalar.remsi v2 v53
  let c0_i32_26 : BitVec 32 := 0#32
  let v56 : BitVec 1 := Scalar.cmpi .slt v54 c0_i32_26
  let c0_i32_27 : BitVec 32 := 0#32
  let v57 : BitVec 1 := Scalar.cmpi .slt v53 c0_i32_27
  let v58 : BitVec 1 := Scalar.xori v56 v57
  let c0_i32_25 : BitVec 32 := 0#32
  let v55 : BitVec 1 := Scalar.cmpi .ne v54 c0_i32_25
  let v59 : BitVec 1 := Scalar.andi v58 v55
  let v60 : BitVec 32 := Scalar.addi v54 v53
  let v61 : BitVec 32 := Scalar.select v59 v60 v54
  let v62 : BitVec 32 := Scalar.muli c2_i32_28 v61
  let v63 : BitVec 32 := Scalar.subi v51 v62
  let c1_i32_510 : BitVec 32 := 1#32
  let v599 : BitVec 32 := Scalar.muli v63 c1_i32_510
  let v600 : BitVec 32 := Scalar.addi c0_i32_511 v599
  v600.toNat
def k0_off25 (d0 : Dev nD) : Fin 2 → Nat :=
  let c0_i32_174 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let c1_i32_5 : BitVec 32 := 1#32
  let c0_i32_6 : BitVec 32 := 0#32
  let v16 : BitVec 32 := Scalar.select v15 c1_i32_5 c0_i32_6
  let c192_i32_173 : BitVec 32 := 192#32
  let v277 : BitVec 32 := Scalar.muli v16 c192_i32_173
  let v278 : BitVec 32 := Scalar.addi c0_i32_174 v277
  let c0_i32_8 : BitVec 32 := 0#32
  let v18 : BitVec 1 := Scalar.cmpi .sgt v12 c0_i32_8
  let v19 : BitVec 32 := Scalar.extui v18
  let c0_i32_9 : BitVec 32 := 0#32
  let v20 : BitVec 1 := Scalar.cmpi .slt v12 c0_i32_9
  let v21 : BitVec 32 := Scalar.extui v20
  let v22 : BitVec 32 := Scalar.subi v19 v21
  let c2_i32_7 : BitVec 32 := 2#32
  let c0_i32_10 : BitVec 32 := 0#32
  let v23 : BitVec 1 := Scalar.cmpi .sgt c2_i32_7 c0_i32_10
  let v24 : BitVec 32 := Scalar.extui v23
  let c0_i32_11 : BitVec 32 := 0#32
  let v25 : BitVec 1 := Scalar.cmpi .slt c2_i32_7 c0_i32_11
  let v26 : BitVec 32 := Scalar.extui v25
  let v27 : BitVec 32 := Scalar.subi v24 v26
  let v28 : BitVec 1 := Scalar.cmpi .ne v22 v27
  let v29 : BitVec 32 := Scalar.remsi v12 c2_i32_7
  let c0_i32_12 : BitVec 32 := 0#32
  let v30 : BitVec 1 := Scalar.cmpi .ne v29 c0_i32_12
  let v31 : BitVec 1 := Scalar.andi v28 v30
  let v17 : BitVec 32 := Scalar.divsi v12 c2_i32_7
  let c1_i32_13 : BitVec 32 := 1#32
  let v32 : BitVec 32 := Scalar.subi v17 c1_i32_13
  let v33 : BitVec 32 := Scalar.select v31 v32 v17
  let c96_i32_273 : BitVec 32 := 96#32
  let v370 : BitVec 32 := Scalar.muli v33 c96_i32_273
  let v371 : BitVec 32 := Scalar.addi v278 v370
  let c0_i32_15 : BitVec 32 := 0#32
  let v35 : BitVec 1 := Scalar.cmpi .sgt v2 c0_i32_15
  let v36 : BitVec 32 := Scalar.extui v35
  let c0_i32_16 : BitVec 32 := 0#32
  let v37 : BitVec 1 := Scalar.cmpi .slt v2 c0_i32_16
  let v38 : BitVec 32 := Scalar.extui v37
  let v39 : BitVec 32 := Scalar.subi v36 v38
  let c4_i32_14 : BitVec 32 := 4#32
  let c0_i32_17 : BitVec 32 := 0#32
  let v40 : BitVec 1 := Scalar.cmpi .sgt c4_i32_14 c0_i32_17
  let v41 : BitVec 32 := Scalar.extui v40
  let c0_i32_18 : BitVec 32 := 0#32
  let v42 : BitVec 1 := Scalar.cmpi .slt c4_i32_14 c0_i32_18
  let v43 : BitVec 32 := Scalar.extui v42
  let v44 : BitVec 32 := Scalar.subi v41 v43
  let v45 : BitVec 1 := Scalar.cmpi .ne v39 v44
  let v46 : BitVec 32 := Scalar.remsi v2 c4_i32_14
  let c0_i32_19 : BitVec 32 := 0#32
  let v47 : BitVec 1 := Scalar.cmpi .ne v46 c0_i32_19
  let v48 : BitVec 1 := Scalar.andi v45 v47
  let v34 : BitVec 32 := Scalar.divsi v2 c4_i32_14
  let c1_i32_20 : BitVec 32 := 1#32
  let v49 : BitVec 32 := Scalar.subi v34 c1_i32_20
  let v50 : BitVec 32 := Scalar.select v48 v49 v34
  let c48_i32_368 : BitVec 32 := 48#32
  let v463 : BitVec 32 := Scalar.muli v50 c48_i32_368
  let v464 : BitVec 32 := Scalar.addi v371 v463
  let c48_i32_471 : BitVec 32 := 48#32
  let v565 : BitVec 32 := Scalar.muli v50 c48_i32_471
  let v566 : BitVec 32 := Scalar.subi v464 v565
  let c96_i32_543 : BitVec 32 := 96#32
  let v625 : BitVec 32 := Scalar.muli v33 c96_i32_543
  let v626 : BitVec 32 := Scalar.subi v566 v625
  let c0_i32_550 : BitVec 32 := 0#32
  ![v626.toNat, 0]
def k0_dev19 (d0 : Dev nD) : Nat :=
  let c0_i32_549 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_21 : BitVec 32 := 1#32
  let v51 : BitVec 32 := Scalar.addi v2 c1_i32_21
  let c2_i32_28 : BitVec 32 := 2#32
  let c2_i32_22 : BitVec 32 := 2#32
  let c0_i32_23 : BitVec 32 := 0#32
  let v52 : BitVec 1 := Scalar.cmpi .eq c2_i32_22 c0_i32_23
  let c1_i32_24 : BitVec 32 := 1#32
  let v53 : BitVec 32 := Scalar.select v52 c1_i32_24 c2_i32_22
  let v54 : BitVec 32 := Scalar.remsi v2 v53
  let c0_i32_26 : BitVec 32 := 0#32
  let v56 : BitVec 1 := Scalar.cmpi .slt v54 c0_i32_26
  let c0_i32_27 : BitVec 32 := 0#32
  let v57 : BitVec 1 := Scalar.cmpi .slt v53 c0_i32_27
  let v58 : BitVec 1 := Scalar.xori v56 v57
  let c0_i32_25 : BitVec 32 := 0#32
  let v55 : BitVec 1 := Scalar.cmpi .ne v54 c0_i32_25
  let v59 : BitVec 1 := Scalar.andi v58 v55
  let v60 : BitVec 32 := Scalar.addi v54 v53
  let v61 : BitVec 32 := Scalar.select v59 v60 v54
  let v62 : BitVec 32 := Scalar.muli c2_i32_28 v61
  let v63 : BitVec 32 := Scalar.subi v51 v62
  let c1_i32_548 : BitVec 32 := 1#32
  let v627 : BitVec 32 := Scalar.muli v63 c1_i32_548
  let v628 : BitVec 32 := Scalar.addi c0_i32_549 v627
  v628.toNat
def k0_off26 (d0 : Dev nD) : Fin 2 → Nat :=
  let c384_i32_199 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_8 : BitVec 32 := 0#32
  let v18 : BitVec 1 := Scalar.cmpi .sgt v12 c0_i32_8
  let v19 : BitVec 32 := Scalar.extui v18
  let c0_i32_9 : BitVec 32 := 0#32
  let v20 : BitVec 1 := Scalar.cmpi .slt v12 c0_i32_9
  let v21 : BitVec 32 := Scalar.extui v20
  let v22 : BitVec 32 := Scalar.subi v19 v21
  let c2_i32_7 : BitVec 32 := 2#32
  let c0_i32_10 : BitVec 32 := 0#32
  let v23 : BitVec 1 := Scalar.cmpi .sgt c2_i32_7 c0_i32_10
  let v24 : BitVec 32 := Scalar.extui v23
  let c0_i32_11 : BitVec 32 := 0#32
  let v25 : BitVec 1 := Scalar.cmpi .slt c2_i32_7 c0_i32_11
  let v26 : BitVec 32 := Scalar.extui v25
  let v27 : BitVec 32 := Scalar.subi v24 v26
  let v28 : BitVec 1 := Scalar.cmpi .ne v22 v27
  let v29 : BitVec 32 := Scalar.remsi v12 c2_i32_7
  let c0_i32_12 : BitVec 32 := 0#32
  let v30 : BitVec 1 := Scalar.cmpi .ne v29 c0_i32_12
  let v31 : BitVec 1 := Scalar.andi v28 v30
  let v17 : BitVec 32 := Scalar.divsi v12 c2_i32_7
  let c1_i32_13 : BitVec 32 := 1#32
  let v32 : BitVec 32 := Scalar.subi v17 c1_i32_13
  let v33 : BitVec 32 := Scalar.select v31 v32 v17
  let c192_i32_198 : BitVec 32 := 192#32
  let v304 : BitVec 32 := Scalar.muli v33 c192_i32_198
  let v305 : BitVec 32 := Scalar.addi c384_i32_199 v304
  let c0_i32_15 : BitVec 32 := 0#32
  let v35 : BitVec 1 := Scalar.cmpi .sgt v2 c0_i32_15
  let v36 : BitVec 32 := Scalar.extui v35
  let c0_i32_16 : BitVec 32 := 0#32
  let v37 : BitVec 1 := Scalar.cmpi .slt v2 c0_i32_16
  let v38 : BitVec 32 := Scalar.extui v37
  let v39 : BitVec 32 := Scalar.subi v36 v38
  let c4_i32_14 : BitVec 32 := 4#32
  let c0_i32_17 : BitVec 32 := 0#32
  let v40 : BitVec 1 := Scalar.cmpi .sgt c4_i32_14 c0_i32_17
  let v41 : BitVec 32 := Scalar.extui v40
  let c0_i32_18 : BitVec 32 := 0#32
  let v42 : BitVec 1 := Scalar.cmpi .slt c4_i32_14 c0_i32_18
  let v43 : BitVec 32 := Scalar.extui v42
  let v44 : BitVec 32 := Scalar.subi v41 v43
  let v45 : BitVec 1 := Scalar.cmpi .ne v39 v44
  let v46 : BitVec 32 := Scalar.remsi v2 c4_i32_14
  let c0_i32_19 : BitVec 32 := 0#32
  let v47 : BitVec 1 := Scalar.cmpi .ne v46 c0_i32_19
  let v48 : BitVec 1 := Scalar.andi v45 v47
  let v34 : BitVec 32 := Scalar.divsi v2 c4_i32_14
  let c1_i32_20 : BitVec 32 := 1#32
  let v49 : BitVec 32 := Scalar.subi v34 c1_i32_20
  let v50 : BitVec 32 := Scalar.select v48 v49 v34
  let c96_i32_295 : BitVec 32 := 96#32
  let v397 : BitVec 32 := Scalar.muli v50 c96_i32_295
  let v398 : BitVec 32 := Scalar.addi v305 v397
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let c1_i32_5 : BitVec 32 := 1#32
  let c0_i32_6 : BitVec 32 := 0#32
  let v16 : BitVec 32 := Scalar.select v15 c1_i32_5 c0_i32_6
  let c48_i32_381 : BitVec 32 := 48#32
  let v479 : BitVec 32 := Scalar.muli v16 c48_i32_381
  let v480 : BitVec 32 := Scalar.addi v398 v479
  let c48_i32_488 : BitVec 32 := 48#32
  let v581 : BitVec 32 := Scalar.muli v16 c48_i32_488
  let v582 : BitVec 32 := Scalar.subi v480 v581
  let c96_i32_560 : BitVec 32 := 96#32
  let v641 : BitVec 32 := Scalar.muli v50 c96_i32_560
  let v642 : BitVec 32 := Scalar.subi v582 v641
  let c0_i32_567 : BitVec 32 := 0#32
  ![v642.toNat, 0]
def k0_dev20 (d0 : Dev nD) : Nat :=
  let c0_i32_566 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v64 : BitVec 32 := Scalar.addi v2 c3_i32
  let c2_i32_29 : BitVec 32 := 2#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v65 : BitVec 32 := Scalar.muli c2_i32_29 v12
  let v66 : BitVec 32 := Scalar.subi v64 v65
  let c1_i32_565 : BitVec 32 := 1#32
  let v643 : BitVec 32 := Scalar.muli v66 c1_i32_565
  let v644 : BitVec 32 := Scalar.addi c0_i32_566 v643
  v644.toNat
def k0_off27 (d0 : Dev nD) : Fin 2 → Nat :=
  let c768_i32_225 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_15 : BitVec 32 := 0#32
  let v35 : BitVec 1 := Scalar.cmpi .sgt v2 c0_i32_15
  let v36 : BitVec 32 := Scalar.extui v35
  let c0_i32_16 : BitVec 32 := 0#32
  let v37 : BitVec 1 := Scalar.cmpi .slt v2 c0_i32_16
  let v38 : BitVec 32 := Scalar.extui v37
  let v39 : BitVec 32 := Scalar.subi v36 v38
  let c4_i32_14 : BitVec 32 := 4#32
  let c0_i32_17 : BitVec 32 := 0#32
  let v40 : BitVec 1 := Scalar.cmpi .sgt c4_i32_14 c0_i32_17
  let v41 : BitVec 32 := Scalar.extui v40
  let c0_i32_18 : BitVec 32 := 0#32
  let v42 : BitVec 1 := Scalar.cmpi .slt c4_i32_14 c0_i32_18
  let v43 : BitVec 32 := Scalar.extui v42
  let v44 : BitVec 32 := Scalar.subi v41 v43
  let v45 : BitVec 1 := Scalar.cmpi .ne v39 v44
  let v46 : BitVec 32 := Scalar.remsi v2 c4_i32_14
  let c0_i32_19 : BitVec 32 := 0#32
  let v47 : BitVec 1 := Scalar.cmpi .ne v46 c0_i32_19
  let v48 : BitVec 1 := Scalar.andi v45 v47
  let v34 : BitVec 32 := Scalar.divsi v2 c4_i32_14
  let c1_i32_20 : BitVec 32 := 1#32
  let v49 : BitVec 32 := Scalar.subi v34 c1_i32_20
  let v50 : BitVec 32 := Scalar.select v48 v49 v34
  let c128_i32_224 : BitVec 32 := 128#32
  let v331 : BitVec 32 := Scalar.muli v50 c128_i32_224
  let v332 : BitVec 32 := Scalar.addi c768_i32_225 v331
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let c1_i32_5 : BitVec 32 := 1#32
  let c0_i32_6 : BitVec 32 := 0#32
  let v16 : BitVec 32 := Scalar.select v15 c1_i32_5 c0_i32_6
  let c64_i32_320 : BitVec 32 := 64#32
  let v424 : BitVec 32 := Scalar.muli v16 c64_i32_320
  let v425 : BitVec 32 := Scalar.addi v332 v424
  let c0_i32_8 : BitVec 32 := 0#32
  let v18 : BitVec 1 := Scalar.cmpi .sgt v12 c0_i32_8
  let v19 : BitVec 32 := Scalar.extui v18
  let c0_i32_9 : BitVec 32 := 0#32
  let v20 : BitVec 1 := Scalar.cmpi .slt v12 c0_i32_9
  let v21 : BitVec 32 := Scalar.extui v20
  let v22 : BitVec 32 := Scalar.subi v19 v21
  let c2_i32_7 : BitVec 32 := 2#32
  let c0_i32_10 : BitVec 32 := 0#32
  let v23 : BitVec 1 := Scalar.cmpi .sgt c2_i32_7 c0_i32_10
  let v24 : BitVec 32 := Scalar.extui v23
  let c0_i32_11 : BitVec 32 := 0#32
  let v25 : BitVec 1 := Scalar.cmpi .slt c2_i32_7 c0_i32_11
  let v26 : BitVec 32 := Scalar.extui v25
  let v27 : BitVec 32 := Scalar.subi v24 v26
  let v28 : BitVec 1 := Scalar.cmpi .ne v22 v27
  let v29 : BitVec 32 := Scalar.remsi v12 c2_i32_7
  let c0_i32_12 : BitVec 32 := 0#32
  let v30 : BitVec 1 := Scalar.cmpi .ne v29 c0_i32_12
  let v31 : BitVec 1 := Scalar.andi v28 v30
  let v17 : BitVec 32 := Scalar.divsi v12 c2_i32_7
  let c1_i32_13 : BitVec 32 := 1#32
  let v32 : BitVec 32 := Scalar.subi v17 c1_i32_13
  let v33 : BitVec 32 := Scalar.select v31 v32 v17
  let c32_i32_395 : BitVec 32 := 32#32
  let v495 : BitVec 32 := Scalar.muli v33 c32_i32_395
  let v496 : BitVec 32 := Scalar.addi v425 v495
  let c32_i32_505 : BitVec 32 := 32#32
  let v597 : BitVec 32 := Scalar.muli v33 c32_i32_505
  let v598 : BitVec 32 := Scalar.subi v496 v597
  let c64_i32_577 : BitVec 32 := 64#32
  let v657 : BitVec 32 := Scalar.muli v16 c64_i32_577
  let v658 : BitVec 32 := Scalar.subi v598 v657
  let c0_i32_584 : BitVec 32 := 0#32
  ![v658.toNat, 0]
def k0_dev21 (d0 : Dev nD) : Nat :=
  let c0_i32_583 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_30 : BitVec 32 := 4#32
  let v67 : BitVec 32 := Scalar.addi v2 c4_i32_30
  let c8_i32_31 : BitVec 32 := 8#32
  let c0_i32_15 : BitVec 32 := 0#32
  let v35 : BitVec 1 := Scalar.cmpi .sgt v2 c0_i32_15
  let v36 : BitVec 32 := Scalar.extui v35
  let c0_i32_16 : BitVec 32 := 0#32
  let v37 : BitVec 1 := Scalar.cmpi .slt v2 c0_i32_16
  let v38 : BitVec 32 := Scalar.extui v37
  let v39 : BitVec 32 := Scalar.subi v36 v38
  let c4_i32_14 : BitVec 32 := 4#32
  let c0_i32_17 : BitVec 32 := 0#32
  let v40 : BitVec 1 := Scalar.cmpi .sgt c4_i32_14 c0_i32_17
  let v41 : BitVec 32 := Scalar.extui v40
  let c0_i32_18 : BitVec 32 := 0#32
  let v42 : BitVec 1 := Scalar.cmpi .slt c4_i32_14 c0_i32_18
  let v43 : BitVec 32 := Scalar.extui v42
  let v44 : BitVec 32 := Scalar.subi v41 v43
  let v45 : BitVec 1 := Scalar.cmpi .ne v39 v44
  let v46 : BitVec 32 := Scalar.remsi v2 c4_i32_14
  let c0_i32_19 : BitVec 32 := 0#32
  let v47 : BitVec 1 := Scalar.cmpi .ne v46 c0_i32_19
  let v48 : BitVec 1 := Scalar.andi v45 v47
  let v34 : BitVec 32 := Scalar.divsi v2 c4_i32_14
  let c1_i32_20 : BitVec 32 := 1#32
  let v49 : BitVec 32 := Scalar.subi v34 c1_i32_20
  let v50 : BitVec 32 := Scalar.select v48 v49 v34
  let v68 : BitVec 32 := Scalar.muli c8_i32_31 v50
  let v69 : BitVec 32 := Scalar.subi v67 v68
  let c1_i32_582 : BitVec 32 := 1#32
  let v659 : BitVec 32 := Scalar.muli v69 c1_i32_582
  let v660 : BitVec 32 := Scalar.addi c0_i32_583 v659
  v660.toNat
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S1024x1024 : Shape := ⟨2, ![1024, 1024]⟩
abbrev S1024x8192 : Shape := ⟨2, ![1024, 8192]⟩
abbrev S1024x64x128 : Shape := ⟨3, ![1024, 64, 128]⟩
abbrev S8192x1024 : Shape := ⟨2, ![8192, 1024]⟩
abbrev S1024 : Shape := ⟨1, ![1024]⟩
abbrev S1024x1 : Shape := ⟨2, ![1024, 1]⟩
abbrev S1x1024 : Shape := ⟨2, ![1, 1024]⟩
abbrev S_ : Shape := ⟨0, ![]⟩
abbrev S64x1024x1024 : Shape := ⟨3, ![64, 1024, 1024]⟩
abbrev S1x1024x1024 : Shape := ⟨3, ![1, 1024, 1024]⟩
abbrev S64x1024 : Shape := ⟨2, ![64, 1024]⟩
abbrev S64x1024x1 : Shape := ⟨3, ![64, 1024, 1]⟩
abbrev S1x1024x1 : Shape := ⟨3, ![1, 1024, 1]⟩
abbrev S64x128x1024 : Shape := ⟨3, ![64, 128, 1024]⟩

abbrev nBuf : Space → Nat
  | .hbm => 67
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x8192, .f32⟩
  | .hbm, ⟨2, _⟩ => ⟨S1024x64x128, .f32⟩
  | .hbm, ⟨3, _⟩ => ⟨S1024x64x128, .f32⟩
  | .hbm, ⟨4, _⟩ => ⟨S8192x1024, .f32⟩
  | .hbm, ⟨5, _⟩ => ⟨S1024x8192, .f32⟩
  | .hbm, ⟨6, _⟩ => ⟨S1024x64x128, .f32⟩
  | .hbm, ⟨7, _⟩ => ⟨S1024, .i32⟩
  | .hbm, ⟨8, _⟩ => ⟨S1024x1, .i32⟩
  | .hbm, ⟨9, _⟩ => ⟨S1024, .i32⟩
  | .hbm, ⟨10, _⟩ => ⟨S1x1024, .i32⟩
  | .hbm, ⟨11, _⟩ => ⟨S1024x1024, .i32⟩
  | .hbm, ⟨12, _⟩ => ⟨S1024x1024, .i32⟩
  | .hbm, ⟨13, _⟩ => ⟨S1024x1024, .i32⟩
  | .hbm, ⟨14, _⟩ => ⟨S1024x1024, .i32⟩
  | .hbm, ⟨15, _⟩ => ⟨S_, .i32⟩
  | .hbm, ⟨16, _⟩ => ⟨S1024x1024, .i32⟩
  | .hbm, ⟨17, _⟩ => ⟨S1024x1024, .i1⟩
  | .hbm, ⟨18, _⟩ => ⟨S_, .i32⟩
  | .hbm, ⟨19, _⟩ => ⟨S1x1024, .i32⟩
  | .hbm, ⟨20, _⟩ => ⟨S1x1024, .i1⟩
  | .hbm, ⟨21, _⟩ => ⟨S_, .i32⟩
  | .hbm, ⟨22, _⟩ => ⟨S1024x1, .i32⟩
  | .hbm, ⟨23, _⟩ => ⟨S1024x1, .i1⟩
  | .hbm, ⟨24, _⟩ => ⟨S1024x1024, .i1⟩
  | .hbm, ⟨25, _⟩ => ⟨S1024x1024, .i1⟩
  | .hbm, ⟨26, _⟩ => ⟨S1024x1024, .i1⟩
  | .hbm, ⟨27, _⟩ => ⟨S1024x1024, .i1⟩
  | .hbm, ⟨28, _⟩ => ⟨S64x1024x1024, .f32⟩
  | .hbm, ⟨29, _⟩ => ⟨S_, .f32⟩
  | .hbm, ⟨30, _⟩ => ⟨S64x1024x1024, .f32⟩
  | .hbm, ⟨31, _⟩ => ⟨S64x1024x1024, .f32⟩
  | .hbm, ⟨32, _⟩ => ⟨S1x1024x1024, .i1⟩
  | .hbm, ⟨33, _⟩ => ⟨S_, .f32⟩
  | .hbm, ⟨34, _⟩ => ⟨S_, .f32⟩
  | .hbm, ⟨35, _⟩ => ⟨S64x1024x1024, .i1⟩
  | .hbm, ⟨36, _⟩ => ⟨S64x1024x1024, .f32⟩
  | .hbm, ⟨37, _⟩ => ⟨S64x1024x1024, .f32⟩
  | .hbm, ⟨38, _⟩ => ⟨S_, .f32⟩
  | .hbm, ⟨39, _⟩ => ⟨S64x1024, .f32⟩
  | .hbm, ⟨40, _⟩ => ⟨S64x1024x1, .f32⟩
  | .hbm, ⟨41, _⟩ => ⟨S64x1024x1024, .f32⟩
  | .hbm, ⟨42, _⟩ => ⟨S64x1024x1024, .f32⟩
  | .hbm, ⟨43, _⟩ => ⟨S64x1024x1024, .f32⟩
  | .hbm, ⟨44, _⟩ => ⟨S_, .i1⟩
  | .hbm, ⟨45, _⟩ => ⟨S1024, .i1⟩
  | .hbm, ⟨46, _⟩ => ⟨S1x1024x1, .i1⟩
  | .hbm, ⟨47, _⟩ => ⟨S_, .f32⟩
  | .hbm, ⟨48, _⟩ => ⟨S64x1024, .f32⟩
  | .hbm, ⟨49, _⟩ => ⟨S64x1024x1, .f32⟩
  | .hbm, ⟨50, _⟩ => ⟨S_, .f32⟩
  | .hbm, ⟨51, _⟩ => ⟨S_, .f32⟩
  | .hbm, ⟨52, _⟩ => ⟨S64x1024x1, .i1⟩
  | .hbm, ⟨53, _⟩ => ⟨S64x1024x1, .f32⟩
  | .hbm, ⟨54, _⟩ => ⟨S64x1024x1, .f32⟩
  | .hbm, ⟨55, _⟩ => ⟨S64x1024x1024, .f32⟩
  | .hbm, ⟨56, _⟩ => ⟨S64x1024x1024, .f32⟩
  | .hbm, ⟨57, _⟩ => ⟨S1x1024x1, .i1⟩
  | .hbm, ⟨58, _⟩ => ⟨S_, .f32⟩
  | .hbm, ⟨59, _⟩ => ⟨S_, .f32⟩
  | .hbm, ⟨60, _⟩ => ⟨S64x1024x1024, .i1⟩
  | .hbm, ⟨61, _⟩ => ⟨S64x1024x1024, .f32⟩
  | .hbm, ⟨62, _⟩ => ⟨S64x1024x1024, .f32⟩
  | .hbm, ⟨63, _⟩ => ⟨S64x128x1024, .f32⟩
  | .hbm, ⟨64, _⟩ => ⟨S1024x64x128, .f32⟩
  | .hbm, ⟨65, _⟩ => ⟨S1024x8192, .f32⟩
  | .hbm, ⟨66, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_4 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩

abbrev nD : Nat := 1
abbrev τ : Topo := Topo.v7x

variable {F : FTy → Type} [FloatOps F]
-- ==== Proof.Topology.lean ====
/-
# The cube of eight devices, and which rows each transfer moves

The eight devices form a cube; three bits name a device, one per axis. In round `r` of the reduce-scatter the rows of
part `j` that a device still works on are cut in two halves: the device sends one to its partner along axis `j + r`
(mod 3) and keeps the other; the all-gather returns along the same axes in the opposite order. Everything a
transfer's address depends on is a closed form here, decided once over the eight devices.
-/
module

public import proofs.«01_k».proof.Proof.Gen.KernelIdeal
public import proofs.«01_k».proof.Proof.Gen.KernelIdeal.Skeleton
public import proofs.«01_k».proof.Proof.Gen.KernelIdeal.Launch

@[expose] public section

namespace Cert.Cube

open Cert.KernelIdeal Cert.KernelIdeal.Gen
open Idealize.ShloMosaic

/-! ## The transfers, in the order a device starts them -/

/-- The part of the rows (of three) that transfer `t` belongs to. -/
def tj (t : Fin 18) : Fin 3 := ⟨t.val % 3, Nat.mod_lt _ (by decide)⟩
/-- The round that transfer `t` belongs to: 0, 1, 2 on the way down (reduce-scatter), 2, 1, 0 on the way back (all-gather). -/
def tr (t : Fin 18) : Fin 3 := if h : t.val < 9 then ⟨t.val / 3, by omega⟩ else ⟨5 - t.val / 3, by omega⟩
/-- The axis of the cube along which round `r` of part `j` goes. -/
def axis (j r : Fin 3) : Fin 3 := ⟨(j.val + r.val) % 3, Nat.mod_lt _ (by decide)⟩
/-- The axis of transfer `t`. -/
def td (t : Fin 18) : Fin 3 := axis (tj t) (tr t)

/-! ## The devices -/

/-- The neighbour of device `c` along an axis. -/
def par (d : Fin 3) (c : Dev nD) : Dev nD :=
  match d with
  | 0 => ![1, 0, 3, 2, 5, 4, 7, 6] c
  | 1 => ![3, 2, 1, 0, 7, 6, 5, 4] c
  | 2 => ![4, 5, 6, 7, 0, 1, 2, 3] c

/-- The bit of device `c` along an axis. -/
def bit (d : Fin 3) (c : Dev nD) : ℕ :=
  match d with
  | 0 => ![0, 1, 1, 0, 0, 1, 1, 0] c
  | 1 => ![0, 0, 1, 1, 0, 0, 1, 1] c
  | 2 => ![0, 0, 0, 0, 1, 1, 1, 1] c

theorem par_par (d : Fin 3) (c : Dev nD) : par d (par d c) = c := by revert d c; decide

/-- The neighbour along an axis, as a permutation of the devices. -/
def flip (d : Fin 3) : Dev nD ≃ Dev nD := ⟨par d, par d, par_par d, par_par d⟩

theorem par_eq_iff {d : Fin 3} {a b : Dev nD} : par d a = b ↔ a = par d b :=
  ⟨fun h => by rw [← h, par_par], fun h => by rw [h, par_par]⟩

/-! ## The rows -/

/-- The rows of part `j`. -/
def rowsP (j : Fin 3) : ℕ := ![384, 384, 256] j
/-- The first row of part `j`. -/
def offP (j : Fin 3) : ℕ := ![0, 384, 768] j
/-- The rows of part `j` that move in round `r`: a half, a quarter, an eighth. -/
def half (j r : Fin 3) : ℕ := rowsP j / 2 ^ (r.val + 1)
/-- The first of the rows of part `j` that device `c` works on from level `r` on. -/
def base (j : Fin 3) (r : ℕ) (c : Dev nD) : ℕ :=
  match r with
  | 0 => offP j
  | 1 => offP j + bit (axis j 0) c * half j 0
  | 2 => offP j + bit (axis j 0) c * half j 0 + bit (axis j 1) c * half j 1
  | _ => offP j + bit (axis j 0) c * half j 0 + bit (axis j 1) c * half j 1 + bit (axis j 2) c * half j 2
/-- The first row device `c` KEEPS in round `r` of part `j`. -/
def kept (j r : Fin 3) (c : Dev nD) : ℕ := base j (r.val + 1) c
/-- The first row device `c` SENDS in round `r` of part `j`. -/
def sent (j r : Fin 3) (c : Dev nD) : ℕ := base j r.val c + (1 - bit (axis j r) c) * half j r
/-- Where the rows received in round `r` of part `j` land in that part's landing buffer. -/
def slot (j r : Fin 3) : ℕ := match r with | 0 => 0 | 1 => half j 0 | 2 => half j 0 + half j 1

/-- The neighbour sends what `c` keeps -/
theorem sent_par (j r : Fin 3) (c : Dev nD) : sent j r (par (axis j r) c) = kept j r c := by revert j r c; decide +kernel
/-- and keeps what `c` sends. -/
theorem kept_par (j r : Fin 3) (c : Dev nD) : kept j r (par (axis j r) c) = sent j r c := by revert j r c; decide +kernel

/-! ## What the program's addresses come to -/

theorem dev_eq (c : Dev nD) :
    (k0_dev1 c = (par 0 c).val ∧ k0_dev2 c = (par 1 c).val ∧ k0_dev3 c = (par 2 c).val)
    ∧ (k0_dev4 c = (par 0 c).val ∧ k0_dev5 c = (par 1 c).val ∧ k0_dev6 c = (par 2 c).val)
    ∧ (k0_dev7 c = (par 1 c).val ∧ k0_dev8 c = (par 2 c).val ∧ k0_dev9 c = (par 0 c).val)
    ∧ (k0_dev10 c = (par 2 c).val ∧ k0_dev11 c = (par 0 c).val ∧ k0_dev12 c = (par 1 c).val)
    ∧ (k0_dev13 c = (par 2 c).val ∧ k0_dev14 c = (par 0 c).val ∧ k0_dev15 c = (par 1 c).val)
    ∧ (k0_dev16 c = (par 1 c).val ∧ k0_dev17 c = (par 2 c).val ∧ k0_dev18 c = (par 0 c).val)
    ∧ (k0_dev19 c = (par 0 c).val ∧ k0_dev20 c = (par 1 c).val ∧ k0_dev21 c = (par 2 c).val) := by
  revert c; decide +kernel

theorem off_sent (c : Dev nD) :
    (k0_off1 c = ![sent 0 0 c, 0] ∧ k0_off2 c = ![sent 1 0 c, 0] ∧ k0_off3 c = ![sent 2 0 c, 0])
    ∧ (k0_off5 c = ![sent 0 1 c, 0] ∧ k0_off7 c = ![sent 1 1 c, 0] ∧ k0_off9 c = ![sent 2 1 c, 0])
    ∧ (k0_off11 c = ![sent 0 2 c, 0] ∧ k0_off13 c = ![sent 1 2 c, 0] ∧ k0_off15 c = ![sent 2 2 c, 0]) := by
  revert c; decide +kernel

theorem off_kept (c : Dev nD) :
    (k0_off4 c = ![kept 0 0 c, 0] ∧ k0_off6 c = ![kept 1 0 c, 0] ∧ k0_off8 c = ![kept 2 0 c, 0])
    ∧ (k0_off10 c = ![kept 0 1 c, 0] ∧ k0_off12 c = ![kept 1 1 c, 0] ∧ k0_off14 c = ![kept 2 1 c, 0])
    ∧ (k0_off16 c = ![kept 0 2 c, 0] ∧ k0_off17 c = ![kept 1 2 c, 0] ∧ k0_off18 c = ![kept 2 2 c, 0]) := by
  revert c; decide +kernel

theorem off_gather (c : Dev nD) :
    (k0_off19 c = ![kept 0 2 c, 0] ∧ k0_off20 c = ![kept 1 2 c, 0] ∧ k0_off21 c = ![kept 2 2 c, 0])
    ∧ (k0_off22 c = ![kept 0 1 c, 0] ∧ k0_off23 c = ![kept 1 1 c, 0] ∧ k0_off24 c = ![kept 2 1 c, 0])
    ∧ (k0_off25 c = ![kept 0 0 c, 0] ∧ k0_off26 c = ![kept 1 0 c, 0] ∧ k0_off27 c = ![kept 2 0 c, 0]) := by
  revert c; decide +kernel

/-! ## The semaphores -/

/-- The semaphore transfer `t` raises on the device that sends. -/
def ssem (t : Fin 18) : DmaSem sig := ⟨(if t.val < 9 then 6 else 24) + 3 * (tj t).val + (tr t).val, by revert t; decide⟩
/-- The semaphore transfer `t` raises on the device that receives. -/
def rsem (t : Fin 18) : DmaSem sig := ⟨(if t.val < 9 then 15 else 33) + 3 * (tj t).val + (tr t).val, by revert t; decide⟩

theorem ssem_inj : Function.Injective ssem := by decide
theorem rsem_inj : Function.Injective rsem := by decide
theorem ssem_ne_rsem : ∀ t u : Fin 18, ssem t ≠ rsem u := by decide

end Cert.Cube

end
-- ==== Proof.Rows.lean ====
/-
# Rows of a buffer, held by value

A buffer of rows of 1024 numbers is held here a run of rows at a time: `rowsPts M c q lo n g` is share `q` of rows
`lo … lo + n - 1` of the buffer `M` on device `c`, whose element in row `i` and column `k` is `g i k`; `rowsAny` the
same at contents not named. Runs are cut and joined by rows, shares are halved and joined, and a load, a store and a
transfer of a run of rows is stated once for every buffer and every run.
-/
module

public import proofs.«01_k».proof.Proof.Topology
public import Idealize.ShloMosaic.Lib.Pipeline.Launch
public import Idealize.ShloMosaic.Lib.Pipeline.Kit
public import Idealize.ShloMosaic.Lib.Tactic

@[expose] public section

noncomputable section

namespace Cert.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state of the protocol: rounds whose duties are named by the cube's axes. -/
abbrev UB : Type := URounds (GSem nD τ sig) (Fin 3)
/-- The pipeline library's ghost state beside it. -/
abbrev UU : Type := UR sig nD τ × UB

local notation "𝕄" => MT nD τ sig Unit (Elt F) ℕ UU ℕ

/-- No variant is used: the kernel has no loop. -/
abbrev 𝒱₀ : Variants := Variants.none

/-- A shape of `R` rows of 1024 numbers. -/
abbrev SR (R : ℕ) : Shape := ⟨2, ![R, 1024]⟩

/-- Rows `lo … lo + n - 1`, as a set of indices. -/
def rows (R lo n : ℕ) : Finset (SR R).Idx := Finset.univ.filter fun x => lo ≤ (x (0 : Fin 2)).val ∧ (x (0 : Fin 2)).val < lo + n

theorem mem_rows {R lo n : ℕ} {x : (SR R).Idx} : x ∈ rows R lo n ↔ lo ≤ (x (0 : Fin 2)).val ∧ (x (0 : Fin 2)).val < lo + n := by
  unfold rows; rw [Finset.mem_filter]; exact ⟨fun h => h.2, fun h => ⟨Finset.mem_univ _, h⟩⟩

theorem rows_append (R lo a b : ℕ) : rows R lo (a + b) = rows R lo a ∪ rows R (lo + a) b := by
  ext x; rw [Finset.mem_union, mem_rows, mem_rows, mem_rows]; omega

theorem rows_disjoint (R lo a b : ℕ) : Disjoint (rows R lo a) (rows R (lo + a) b) := by
  rw [Finset.disjoint_left]; intro x h; rw [mem_rows] at h ⊢; omega

theorem rows_all (R : ℕ) : rows R 0 R = Finset.univ := by
  ext x; rw [mem_rows]; have := (x (0 : Fin 2)).isLt
  exact ⟨fun _ => Finset.mem_univ _, fun _ => ⟨Nat.zero_le _, by rw [Nat.zero_add]; exact this⟩⟩

/-- A rectangle of whole rows is a run of rows. -/
theorem set_unit_rows {R lo n : ℕ} {off sz : Fin 2 → ℕ} {inb} (ho : off = ![lo, 0]) (hs : sz = ![n, 1024]) :
    (Rect.unit (s := SR R) off sz inb).set = rows R lo n := by
  subst ho; subst hs
  ext x; rw [Rect.mem_set_unit, mem_rows]
  constructor
  · intro h; exact h (0 : Fin 2)
  · intro h a
    match a with
    | ⟨0, _⟩ => exact h
    | ⟨1, _⟩ => exact ⟨Nat.zero_le _, lt_of_lt_of_eq (x (1 : Fin 2)).isLt (Nat.zero_add _).symm⟩

section Held

variable {R : ℕ} (M : Memref sig .tc .vmem (SR R) .f32) (c : Dev nD)

/-- Rows `lo … lo + n - 1` of the buffer, holding `g`. -/
def rowsPts (q : PosShare TreeShare) (lo n : ℕ) (g : ℕ → ℕ → Elt F .f32) : sProp 𝕄 :=
  iprop(∃ f : Buf (Elt F) (M.view.loc (c : Thread nD τ)),
    ⌜∀ x ∈ rows R lo n, M.view.read (Elt F) f x = g (x (0 : Fin 2)).val (x (1 : Fin 2)).val⌝
      ∗ (M.view.loc (c : Thread nD τ) ↦[M.view.setOn (rows R lo n)]{q} f))

/-- Rows `lo … lo + n - 1` of the buffer, whatever they hold. -/
def rowsAny (lo n : ℕ) : sProp 𝕄 :=
  iprop(∃ f : Buf (Elt F) (M.view.loc (c : Thread nD τ)), M.view.loc (c : Thread nD τ) ↦[M.view.setOn (rows R lo n)]{fullShare} f)

instance rowsPts_storable (q : PosShare TreeShare) (lo n : ℕ) (g : ℕ → ℕ → Elt F .f32) :
    BI.Storable (upEmb : UEmb _ 𝕄) (rowsPts M c q lo n g) := by unfold rowsPts; infer_instance
instance rowsAny_storable (lo n : ℕ) : BI.Storable (upEmb : UEmb _ 𝕄) (rowsAny (F := F) M c lo n) := by unfold rowsAny; infer_instance

theorem rowsPts_any (lo n : ℕ) (g : ℕ → ℕ → Elt F .f32) : rowsPts M c fullShare lo n g ⊢ (rowsAny M c lo n : sProp 𝕄) := by
  unfold rowsPts rowsAny
  iintro ⟨%f, -, H⟩
  iexists f; iexact H

/-- The named contents may be changed off the rows held. -/
theorem rowsPts_congr (q : PosShare TreeShare) (lo n : ℕ) {g g' : ℕ → ℕ → Elt F .f32}
    (h : ∀ i k, lo ≤ i → i < lo + n → k < 1024 → g i k = g' i k) : rowsPts M c q lo n g ⊢ (rowsPts M c q lo n g' : sProp 𝕄) := by
  unfold rowsPts
  iintro ⟨%f, %hf, H⟩
  iexists f
  isplitr
  · ipureintro
    intro x hx
    rw [hf x hx]
    exact h _ _ (mem_rows.mp hx).1 (mem_rows.mp hx).2 (x (1 : Fin 2)).isLt
  iexact H

theorem setOn_append (lo a b : ℕ) : M.view.setOn (rows R lo (a + b)) = M.view.setOn (rows R lo a) ∪ M.view.setOn (rows R (lo + a) b) := by
  unfold View.setOn; rw [rows_append, Finset.map_union]
theorem setOn_disjoint (lo a b : ℕ) : Disjoint (M.view.setOn (rows R lo a)) (M.view.setOn (rows R (lo + a) b)) :=
  (Finset.disjoint_map _).mpr (rows_disjoint R lo a b)

/-- A run of rows is its first `a` rows and the rest. -/
theorem rowsPts_split (q : PosShare TreeShare) (lo a b : ℕ) (g : ℕ → ℕ → Elt F .f32) :
    rowsPts M c q lo (a + b) g ⊢ (iprop(rowsPts M c q lo a g ∗ rowsPts M c q (lo + a) b g) : sProp 𝕄) := by
  unfold rowsPts
  iintro ⟨%f, %hf, H⟩
  rw [setOn_append]
  ihave H' := (pointsTo_union (setOn_disjoint M lo a b)).1 $$ H
  icases H' with ⟨H1, H2⟩
  isplitl [H1]
  · iexists f
    isplitr
    · ipureintro; exact fun x hx => hf x (by rw [rows_append]; exact Finset.mem_union_left _ hx)
    iexact H1
  · iexists f
    isplitr
    · ipureintro; exact fun x hx => hf x (by rw [rows_append]; exact Finset.mem_union_right _ hx)
    iexact H2

theorem read_eq_of_eq {f f' : Buf (Elt F) (M.view.loc (c : Thread nD τ))} {x : (SR R).Idx} (h : f (M.view.emb x) = f' (M.view.emb x)) :
    M.view.read (Elt F) f x = M.view.read (Elt F) f' x := View.read_congr_at x h

theorem eq_of_read_eq {f f' : Buf (Elt F) (M.view.loc (c : Thread nD τ))} {x : (SR R).Idx}
    (h : M.view.read (Elt F) f x = M.view.read (Elt F) f' x) : f (M.view.emb x) = f' (M.view.emb x) := by
  rw [View.read_apply, View.read_apply] at h
  exact (cast_inj _).mp h

/-- Two adjacent runs of rows are one. -/
theorem rowsPts_join (q : PosShare TreeShare) (lo a b : ℕ) (g : ℕ → ℕ → Elt F .f32) :
    iprop(rowsPts M c q lo a g ∗ rowsPts M c q (lo + a) b g) ⊢ (rowsPts M c q lo (a + b) g : sProp 𝕄) := by
  unfold rowsPts
  iintro ⟨⟨%f, %hf, H1⟩, ⟨%f', %hf', H2⟩⟩
  ihave H := (pointsTo_join (ℓ := M.view.loc (c : Thread nD τ)) (f := f) (g := f') (setOn_disjoint M lo a b)) $$ [H1 H2]
  · isplitl [H1] <;> iassumption
  rw [← setOn_append]
  iexists _
  isplitr
  rotate_left
  · iexact H
  ipureintro
  intro x hx
  rw [rows_append, Finset.mem_union] at hx
  by_cases h2 : x ∈ rows R (lo + a) b
  · rw [← hf' x h2]
    exact read_eq_of_eq M c (Finset.piecewise_eq_of_mem _ _ _ (M.view.mem_setOn.mpr h2))
  · rw [← hf x (hx.resolve_right h2)]
    exact read_eq_of_eq M c (Finset.piecewise_eq_of_notMem _ _ _ (fun h => h2 (M.view.mem_setOn.mp h)))

theorem rowsAny_split (lo a b : ℕ) :
    rowsAny M c lo (a + b) ⊢ (iprop(rowsAny M c lo a ∗ rowsAny M c (lo + a) b) : sProp 𝕄) := by
  unfold rowsAny
  iintro ⟨%f, H⟩
  rw [setOn_append]
  ihave H' := (pointsTo_union (setOn_disjoint M lo a b)).1 $$ H
  icases H' with ⟨H1, H2⟩
  isplitl [H1]
  · iexists f; iexact H1
  · iexists f; iexact H2

theorem rowsAny_join (lo a b : ℕ) :
    iprop(rowsAny M c lo a ∗ rowsAny M c (lo + a) b) ⊢ (rowsAny M c lo (a + b) : sProp 𝕄) := by
  unfold rowsAny
  iintro ⟨⟨%f, H1⟩, ⟨%f', H2⟩⟩
  ihave H := (pointsTo_join (ℓ := M.view.loc (c : Thread nD τ)) (f := f) (g := f') (setOn_disjoint M lo a b)) $$ [H1 H2]
  · isplitl [H1] <;> iassumption
  rw [← setOn_append]
  iexists _; iexact H

/-- A share of a run of rows is its two halves. -/
theorem rowsPts_halve (q : PosShare TreeShare) (lo n : ℕ) (g : ℕ → ℕ → Elt F .f32) :
    rowsPts M c q lo n g ⊢ (iprop(rowsPts M c q.left lo n g ∗ rowsPts M c q.right lo n g) : sProp 𝕄) := by
  unfold rowsPts
  iintro ⟨%f, %hf, H⟩
  ihave H' := (pointsTo_share (PosShare.mem_left_op_right q)).1 $$ H
  icases H' with ⟨H1, H2⟩
  isplitl [H1]
  · iexists f
    isplitr; · ipureintro; exact hf
    iexact H1
  · iexists f
    isplitr; · ipureintro; exact hf
    iexact H2

theorem rowsPts_unhalve (q : PosShare TreeShare) (lo n : ℕ) (g : ℕ → ℕ → Elt F .f32) :
    iprop(rowsPts M c q.left lo n g ∗ rowsPts M c q.right lo n g) ⊢ (rowsPts M c q lo n g : sProp 𝕄) := by
  unfold rowsPts
  iintro ⟨⟨%f, %hf, H1⟩, ⟨%f', %hf', H2⟩⟩
  have e : (M.view.loc (c : Thread nD τ) ↦[M.view.setOn (rows R lo n)]{q.right} f' : sProp 𝕄)
      = (M.view.loc (c : Thread nD τ) ↦[M.view.setOn (rows R lo n)]{q.right} f) := pointsTo_congr fun i hi => by
    obtain ⟨x, hx, rfl⟩ := Finset.mem_map.mp hi
    exact eq_of_read_eq M c ((hf' x hx).trans (hf x hx).symm)
  iexists f
  isplitr; · ipureintro; exact hf
  ihave H2' := (Entails.of_eq e) $$ H2
  iapply (pointsTo_share (PosShare.mem_left_op_right q)).2
  isplitl [H1] <;> iassumption

/-- The rows a rectangle of whole rows covers. -/
theorem set_slice_rows {lo n : ℕ} {off sz : Fin 2 → ℕ} {inb} (ho : off = ![lo, 0]) (hs : sz = ![n, 1024]) :
    (M.view.slice (Rect.unit (s := SR R) off sz inb)).set = M.view.setOn (rows R lo n) := by
  rw [View.set_slice, set_unit_rows ho hs]; rfl

/-- What a rectangle of whole rows reads. -/
theorem read_rows {lo n : ℕ} {off sz : Fin 2 → ℕ} {inb} (ho : off = ![lo, 0]) (hs : sz = ![n, 1024])
    {g : ℕ → ℕ → Elt F .f32} {f : Buf (Elt F) (M.view.loc (c : Thread nD τ))}
    (hf : ∀ x ∈ rows R lo n, M.view.read (Elt F) f x = g (x (0 : Fin 2)).val (x (1 : Fin 2)).val)
    (x : (Rect.unit (s := SR R) off sz inb).shape.Idx) :
    (M.view.slice (Rect.unit (s := SR R) off sz inb)).read (Elt F) f x = g (lo + (x (0 : Fin 2)).val) (x (1 : Fin 2)).val := by
  have hm : (Rect.unit (s := SR R) off sz inb).emb x ∈ rows R lo n := by
    rw [← set_unit_rows (inb := inb) ho hs]; exact LoadRect.idx_mem _ x
  have h := hf _ hm
  refine h.trans ?_
  have h0 : (((Rect.unit (s := SR R) off sz inb).emb x) (0 : Fin 2)).val = lo + (x (0 : Fin 2)).val := by
    show off (0 : Fin 2) + 1 * (x (0 : Fin 2)).val = _
    have e : off (0 : Fin 2) = lo := by rw [ho]; rfl
    omega
  have h1 : (((Rect.unit (s := SR R) off sz inb).emb x) (1 : Fin 2)).val = (x (1 : Fin 2)).val := by
    show off (1 : Fin 2) + 1 * (x (1 : Fin 2)).val = _
    have e : off (1 : Fin 2) = 0 := by rw [ho]; rfl
    omega
  rw [h0, h1]

/-- What a run of rows holds after a rectangle of them is written. -/
theorem read_written {lo n : ℕ} {off sz : Fin 2 → ℕ} {inb} (ho : off = ![lo, 0]) (hs : sz = ![n, 1024])
    {g : ℕ → ℕ → Elt F .f32} (f : Buf (Elt F) (M.view.loc (c : Thread nD τ)))
    {w : (Rect.unit (s := SR R) off sz inb).shape.Idx → Elt F .f32}
    (hw : ∀ x, w x = g (lo + (x (0 : Fin 2)).val) (x (1 : Fin 2)).val) :
    ∀ x ∈ rows R lo n, M.view.read (Elt F) ((M.view.slice (Rect.unit (s := SR R) off sz inb)).write (Elt F) f w Finset.univ) x
      = g (x (0 : Fin 2)).val (x (1 : Fin 2)).val := by
  intro x hx
  rw [← set_unit_rows (inb := inb) ho hs] at hx
  obtain ⟨y, hy⟩ := LoadRect.exists_idx_of_mem _ hx
  subst hy
  rw [show (Rect.unit (s := SR R) off sz inb).idx y = (Rect.unit (s := SR R) off sz inb).emb y from rfl,
    View.read_slice_write_emb _ _ _ (Finset.mem_univ y), hw y]
  have h0 : (((Rect.unit (s := SR R) off sz inb).emb y) (0 : Fin 2)).val = lo + (y (0 : Fin 2)).val := by
    show off (0 : Fin 2) + 1 * (y (0 : Fin 2)).val = _
    have e : off (0 : Fin 2) = lo := by rw [ho]; rfl
    omega
  have h1 : (((Rect.unit (s := SR R) off sz inb).emb y) (1 : Fin 2)).val = (y (1 : Fin 2)).val := by
    show off (1 : Fin 2) + 1 * (y (1 : Fin 2)).val = _
    have e : off (1 : Fin 2) = 0 := by rw [ho]; rfl
    omega
  rw [h0, h1]

/-- Loading a run of rows. -/
theorem wp_load_rows {lo n : ℕ} {off sz : Fin 2 → ℕ} {inb} (ho : off = ![lo, 0]) (hs : sz = ![n, 1024])
    {q : PosShare TreeShare} {g : ℕ → ℕ → Elt F .f32}
    {hl : M.view.LoadsAt (Rect.unit (s := SR R) off sz inb).toLoadRect} {α : Type} {Q : α → sProp 𝕄}
    {k : ((Rect.unit (s := SR R) off sz inb).shape.Idx → Elt F .f32) → Prog (TpuEff nD τ sig (Elt F) Λ₀ .tc) α} :
    rowsPts M c q lo n g
      ⊢ iprop((rowsPts M c q lo n g -∗ wp frame (wpE (defs₀ (F := F)) 𝒱₀ (c : Thread nD τ) none) Set.univ
            (k (fun x => g (lo + (x (0 : Fin 2)).val) (x (1 : Fin 2)).val)) Q)
          -∗ wp frame (wpE (defs₀ (F := F)) 𝒱₀ (c : Thread nD τ) none) Set.univ
            (.op (.load M (Rect.unit (s := SR R) off sz inb).toLoadRect hl) k) Q) := by
  unfold rowsPts
  iintro ⟨%f, %hf, H⟩ Hk
  iapply (wp_load 𝒱₀ (c : Thread nD τ) none Set.univ (m := M) (r := (Rect.unit (s := SR R) off sz inb).toLoadRect)
    (S := M.view.setOn (rows R lo n)) (by rw [← set_unit_rows (inb := inb) ho hs])) $$ H
  iintro H
  rw [show M.view.readAt (Elt F) (Rect.unit (s := SR R) off sz inb).toLoadRect f
      = fun x => g (lo + (x (0 : Fin 2)).val) (x (1 : Fin 2)).val from funext fun x => read_rows M c ho hs hf x]
  iapply Hk
  iexists f
  isplitr; · ipureintro; exact hf
  iexact H

/-- Loading a run of rows whose contents do not matter. -/
theorem wp_load_any {lo n : ℕ} {off sz : Fin 2 → ℕ} {inb} (ho : off = ![lo, 0]) (hs : sz = ![n, 1024])
    {hl : M.view.LoadsAt (Rect.unit (s := SR R) off sz inb).toLoadRect} {α : Type} {Q : α → sProp 𝕄}
    {k : ((Rect.unit (s := SR R) off sz inb).shape.Idx → Elt F .f32) → Prog (TpuEff nD τ sig (Elt F) Λ₀ .tc) α} :
    rowsAny M c lo n
      ⊢ iprop((∀ a, rowsAny M c lo n -∗ wp frame (wpE (defs₀ (F := F)) 𝒱₀ (c : Thread nD τ) none) Set.univ (k a) Q)
          -∗ wp frame (wpE (defs₀ (F := F)) 𝒱₀ (c : Thread nD τ) none) Set.univ
            (.op (.load M (Rect.unit (s := SR R) off sz inb).toLoadRect hl) k) Q) := by
  unfold rowsAny
  iintro ⟨%f, H⟩ Hk
  iapply (wp_load 𝒱₀ (c : Thread nD τ) none Set.univ (m := M) (r := (Rect.unit (s := SR R) off sz inb).toLoadRect)
    (S := M.view.setOn (rows R lo n)) (by rw [← set_unit_rows (inb := inb) ho hs])) $$ H
  iintro H
  iapply Hk
  iexists f
  iexact H

/-- Storing a run of rows. -/
theorem wp_store_rows {lo n : ℕ} {off sz : Fin 2 → ℕ} {inb} (ho : off = ![lo, 0]) (hs : sz = ![n, 1024])
    (g : ℕ → ℕ → Elt F .f32) {w : (Rect.unit (s := SR R) off sz inb).shape.Idx → Elt F .f32}
    (hw : ∀ x, w x = g (lo + (x (0 : Fin 2)).val) (x (1 : Fin 2)).val)
    {hx : (M.access (Rect.unit (s := SR R) off sz inb)).Stores Finset.univ} {hm : Finset.univ = Finset.univ ∨ ∀ a, (Rect.unit (s := SR R) off sz inb).stride a = 1}
    {α : Type} {Q : α → sProp 𝕄} {k : PUnit → Prog (TpuEff nD τ sig (Elt F) Λ₀ .tc) α} :
    rowsAny M c lo n
      ⊢ iprop((rowsPts M c fullShare lo n g -∗ wp frame (wpE (defs₀ (F := F)) 𝒱₀ (c : Thread nD τ) none) Set.univ (k ⟨⟩) Q)
          -∗ wp frame (wpE (defs₀ (F := F)) 𝒱₀ (c : Thread nD τ) none) Set.univ
            (.op (.store M (Rect.unit (s := SR R) off sz inb) w Finset.univ hx hm) k) Q) := by
  unfold rowsAny rowsPts
  iintro ⟨%f, H⟩ Hk
  iapply (wp_store 𝒱₀ (c : Thread nD τ) none Set.univ (m := M) (r := Rect.unit (s := SR R) off sz inb) (Mk := Finset.univ)
    (S := M.view.setOn (rows R lo n)) (by rw [View.setOn_univ]; exact (set_slice_rows M (inb := inb) ho hs).subset)) $$ H
  iintro H
  iapply Hk
  iexists _
  isplitr
  rotate_left
  · iexact H
  ipureintro
  exact read_written M c ho hs f hw

end Held

/-- The whole of a buffer, as the pipeline holds it, is all of its rows. -/
theorem rowsAny_whole {R : ℕ} (M : Memref sig .tc .vmem (SR R) .f32) (h : M.view.set = Finset.univ) (c : Dev nD) :
    (rowsAny (F := F) M c 0 R : sProp 𝕄) = iprop(∃ f : Buf (Elt F) (M.view.loc (c : Thread nD τ)), M.view.loc (c : Thread nD τ) ↦{fullShare} f) := by
  unfold rowsAny; rw [rows_all, View.setOn_univ, h]

end Cert.Cube

end
-- ==== Proof.Schedule.lean ====
/-
# The protocol of the exchange

Every device meets its three neighbours at the barrier, handing each of them the rows of its own buffers that the
neighbour's transfers will fill; then eighteen transfers go out of each device, nine of partial sums and nine of
finished rows, each with a semaphore of its own at either end. Each semaphore serves one round: the barrier's three
units, or one transfer's credit. This module names the cells, what each payment hands over, and the levels by which
every wait is below all that is still owed.
-/
module

public import proofs.«01_k».proof.Proof.Rows

@[expose] public section

noncomputable section

namespace Cert.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The buffers -/

/-- The sums a device works on. -/
abbrev accM : Memref sig .tc .vmem (SR 1024) .f32 := Memref.whole cc0_scratch0
/-- The result's staging. -/
abbrev outM : Memref sig .tc .vmem (SR 1024) .f32 := Memref.whole cc0_stg5_0
/-- The rows of each part's landing buffer. -/
abbrev stgR (j : Fin 3) : ℕ := match j with | 0 => 336 | 1 => 336 | 2 => 224
/-- Each part's landing buffer. -/
abbrev stgM (j : Fin 3) : Memref sig .tc .vmem (SR (stgR j)) .f32 :=
  match j with | 0 => Memref.whole cc0_scratch1 | 1 => Memref.whole cc0_scratch2 | 2 => Memref.whole cc0_scratch3

/-! ## The cells -/

/-- The barrier's semaphore. -/
abbrev barS : Sem sig := (SemArray.scalar (sig.barrier 0 rfl) : Sems sig S_).sem

/-- The semaphores of the transfers: `inl t` at the sender, `inr t` at the receiver. -/
abbrev XK : Type := Fin 18 ⊕ Fin 18
def xsem : XK → DmaSem sig := Sum.elim ssem rsem
theorem xsem_inj : Function.Injective xsem := by decide
/-- The number of the transfer an end belongs to. -/
def xt : XK → Fin 18 := Sum.elim id id
/-- Which transfer's end a semaphore is, if any. -/
def xOf (q : DmaSem sig) : Option XK := if h : ∃ k, xsem k = q then some h.choose else none
theorem xOf_xsem (k : XK) : xOf (xsem k) = some k := by
  have h : ∃ k', xsem k' = xsem k := ⟨k, rfl⟩
  unfold xOf; rw [dif_pos h, xsem_inj h.choose_spec]

abbrev barCell (c : Dev nD) : GSem nD τ sig := ((c : Thread nD τ), .reg barS)
abbrev xCell (c : Dev nD) (k : XK) : GSem nD τ sig := ((c : Thread nD τ), .dma (xsem k))
abbrev sCell (c : Dev nD) (t : Fin 18) : GSem nD τ sig := xCell c (.inl t)
abbrev rCell (c : Dev nD) (t : Fin 18) : GSem nD τ sig := xCell c (.inr t)

/-- The kernel's own semaphores, in the launch's index. -/
abbrev osem : XK → SemLoc sig := fun k => .dma (xsem k)
/-- All a device's cells: the barrier's and the transfers'. -/
abbrev csem : Option XK → SemLoc sig := fun | none => .reg barS | some k => .dma (xsem k)
abbrev kcell (ck : Dev nD × Option XK) : GSem nD τ sig := ((ck.1 : Thread nD τ), csem ck.2)

/-- The credit of transfer `t`. -/
def N (t : Fin 18) : ℕ :=
  if t.val < 9 then sig.dmaCredit .tc (Kind.tc.table .vmem) (stgM (tj t)).view.buf (SR (half (tj t) (tr t))) .f32
  else sig.dmaCredit .tc (Kind.tc.table .vmem) outM.view.buf (SR (half (tj t) (tr t))) .f32

/-! ## The contents -/

variable (P : Dev nD → ℕ → ℕ → Elt F .f32)

/-- The partial sums of part `j` on device `c` at level `r`: its own, with the sums over the axes already crossed. -/
def A (c : Dev nD) (j : Fin 3) : ℕ → ℕ → ℕ → Elt F .f32
  | 0 => P c
  | r + 1 => fun i k => FloatOps.addf (A c j r i k) (A (par (axis j ⟨r % 3, Nat.mod_lt _ (by decide)⟩) c) j r i k)

/-- The part row `i` belongs to. -/
def partOf (i : ℕ) : Fin 3 := if i < 384 then 0 else if i < 768 then 1 else 2
/-- The device that finishes row `i`. -/
def own (i : ℕ) : Dev nD :=
  ((List.finRange 8).find? fun c => decide (kept (partOf i) 2 c ≤ i ∧ i < kept (partOf i) 2 c + half (partOf i) 2)).getD 0

theorem own_kept (j : Fin 3) (c : Dev nD) : ∀ i : Fin 48, i.val < half j 2 → partOf (kept j 2 c + i.val) = j ∧ own (kept j 2 c + i.val) = c := by
  revert j c; decide +kernel

/-- The result: row `i` as the device that finishes it has it. -/
def O (i k : ℕ) : Elt F .f32 := A P (own i) (partOf i) 3 i k

theorem O_kept (j : Fin 3) (c : Dev nD) (i k : ℕ) (h : kept j 2 c ≤ i) (h' : i < kept j 2 c + half j 2) :
    O P i k = A P c j 3 i k := by
  have hb : ∀ j : Fin 3, half j 2 ≤ 48 := by decide
  have := hb j
  have := own_kept j c ⟨i - kept j 2 c, by omega⟩ (by show i - kept j 2 c < _; omega)
  have e : kept j 2 c + (i - kept j 2 c) = i := by omega
  simp only [e] at this
  unfold O; rw [this.1, this.2]

/-! ## What the payments hand over -/

/-- The rows of device `p` that transfer `t` into `p` fills, at whatever contents. -/
def landAny (t : Fin 18) (p : Dev nD) : sProp 𝕄 :=
  if t.val < 9 then rowsAny (stgM (tj t)) p (slot (tj t) (tr t)) (half (tj t) (tr t))
  else rowsAny outM p (sent (tj t) (tr t) p) (half (tj t) (tr t))

/-- What the receiver's semaphore hands device `c` for transfer `t`: the rows filled. -/
def recvPay (t : Fin 18) (c : Dev nD) : sProp 𝕄 :=
  if t.val < 9 then rowsPts (stgM (tj t)) c fullShare (slot (tj t) (tr t)) (half (tj t) (tr t))
    (fun s k => A P (par (td t) c) (tj t) (tr t).val (kept (tj t) (tr t) c + (s - slot (tj t) (tr t))) k)
  else rowsPts outM c fullShare (sent (tj t) (tr t) c) (half (tj t) (tr t)) (O P)

/-- The share of the rows it reads that a transfer of finished rows takes. -/
def gshare (r : Fin 3) : PosShare TreeShare := match r with | 2 => fullShare.left | 1 => fullShare.right.left | 0 => fullShare.right.right

/-- What the sender's semaphore hands device `c` back for transfer `t`: the rows read. -/
def sendPay (t : Fin 18) (c : Dev nD) : sProp 𝕄 :=
  if t.val < 9 then rowsPts accM c fullShare (sent (tj t) (tr t) c) (half (tj t) (tr t)) (A P c (tj t) (tr t).val)
  else rowsPts outM c (gshare (tr t)) (kept (tj t) (tr t) c) (half (tj t) (tr t)) (O P)

/-- What the neighbour along axis `d` hands device `c` at the barrier: the rows `c`'s transfers along that axis fill. -/
def barPay (d : Fin 3) (c : Dev nD) : sProp 𝕄 := bigSep (Finset.univ.filter fun t => td t = d) fun t => landAny t (par d c)

/-- What either end of a transfer hands device `c`. -/
def pay (k : XK) (c : Dev nD) : sProp 𝕄 := match k with | .inl t => sendPay P t c | .inr t => recvPay P t c

instance landAny_storable (t : Fin 18) (p : Dev nD) : BI.Storable (upEmb : UEmb _ 𝕄) (landAny (F := F) t p) := by
  unfold landAny; split <;> infer_instance
instance recvPay_storable (t : Fin 18) (p : Dev nD) : BI.Storable (upEmb : UEmb _ 𝕄) (recvPay P t p) := by
  unfold recvPay; split <;> infer_instance
instance sendPay_storable (t : Fin 18) (p : Dev nD) : BI.Storable (upEmb : UEmb _ 𝕄) (sendPay P t p) := by
  unfold sendPay; split <;> infer_instance
instance barPay_storable (d : Fin 3) (p : Dev nD) : BI.Storable (upEmb : UEmb _ 𝕄) (barPay (F := F) d p) := by
  unfold barPay; infer_instance
instance pay_storable (k : XK) (p : Dev nD) : BI.Storable (upEmb : UEmb _ 𝕄) (pay P k p) := by
  unfold pay; split <;> infer_instance

/-! ## The schedule -/

theorem N_pos (t : Fin 18) : 0 < N t := by revert t; decide +kernel

/-- One round: the barrier's three units, one from each neighbour, or a transfer's credit. -/
def sched : Rounds.Schedule (GSem nD τ sig) (Fin 3) 𝕄 where
  duties g r := if r = 0 ∧ g.1.2 = .tc then
      (match g.2 with
        | .reg s => if s = barS then Finset.univ else ∅
        | .dma q => match xOf q with | some _ => {0} | none => ∅)
    else ∅
  unitless _ := False
  amount g _ _ := match g.2 with | .reg _ => 1 | .dma q => match xOf q with | some k => N (xt k) | none => 1
  payload g _ d := match g.2 with
    | .reg _ => barPay d g.1.1
    | .dma q => match xOf q with | some k => pay P k g.1.1 | none => iprop(emp)
  amount_pos g _ _ _ := by
    split
    · exact Nat.one_pos
    · split
      · exact N_pos _
      · exact Nat.one_pos

instance sched_payload_storable (g : GSem nD τ sig) (r : ℕ) (d : Fin 3) :
    BI.Storable (upEmb : UEmb _ 𝕄) ((sched P).payload g r d) := by
  unfold sched
  dsimp only
  (repeat' split) <;> infer_instance

section Sched
variable (c : Dev nD) (k : XK)

theorem duties_bar : (sched P).duties (barCell c) 0 = Finset.univ := by
  dsimp only [sched]; rw [if_pos ⟨rfl, rfl⟩, if_pos rfl]
theorem duties_x : (sched P).duties (xCell c k) 0 = {0} := by
  dsimp only [sched]; rw [if_pos ⟨rfl, rfl⟩, xOf_xsem]
theorem duties_later (g : GSem nD τ sig) : ∀ r, 1 ≤ r → (sched P).duties g r = ∅ :=
  fun r hr => by dsimp only [sched]; rw [if_neg fun h => by omega]
theorem amount_bar (d : Fin 3) : (sched P).amount (barCell c) 0 d = 1 := rfl
theorem amount_x (d : Fin 3) : (sched P).amount (xCell c k) 0 d = N (xt k) := by
  dsimp only [sched]; rw [xOf_xsem]
theorem expect_bar : (sched P).expect (barCell c) 0 = 3 := by
  unfold Schedule.expect Schedule.amountOf
  rw [duties_bar, Finset.sum_congr rfl fun d _ => amount_bar P c d, Finset.sum_const, Finset.card_univ, Fintype.card_fin, smul_eq_mul]
theorem expect_x : (sched P).expect (xCell c k) 0 = N (xt k) := by
  unfold Schedule.expect Schedule.amountOf; rw [duties_x, Finset.sum_singleton, amount_x]
theorem payload_bar (d : Fin 3) : (sched P).payload (barCell c) 0 d = barPay d c := rfl
theorem payload_x (d : Fin 3) : (sched P).payload (xCell c k) 0 d = pay P k c := by
  dsimp only [sched]; rw [xOf_xsem]
theorem rest_bar : bigSep ((sched P).duties (barCell c) 0 \ ∅) (fun d => (sched P).payload (barCell c) 0 d) = bigSep Finset.univ fun d => barPay d c := by
  rw [Finset.sdiff_empty, duties_bar]; rfl
theorem rest_x : bigSep ((sched P).duties (xCell c k) 0 \ ∅) (fun d => (sched P).payload (xCell c k) 0 d) = pay P k c := by
  rw [Finset.sdiff_empty, duties_x, bigSep_singleton, payload_x]

end Sched

/-! ## What a device owes, and the levels -/

/-- The transfers from number `n` on. -/
def from' (n : ℕ) : Finset (Fin 18) := Finset.univ.filter fun t => n ≤ t.val
/-- The transfers below number `n`. -/
def below (n : ℕ) : Finset (Fin 18) := Finset.univ.filter fun t => t.val < n
/-- The transfers from number `n` to below `n'`. -/
def span (n n' : ℕ) : Finset (Fin 18) := Finset.univ.filter fun t => n ≤ t.val ∧ t.val < n'

theorem from_succ (t : Fin 18) : from' t.val = insert t (from' (t.val + 1)) := by
  ext u; simp only [from', Finset.mem_filter, Finset.mem_univ, true_and, Finset.mem_insert, Fin.ext_iff]; omega
theorem not_from (t : Fin 18) : t ∉ from' (t.val + 1) := by
  simp only [from', Finset.mem_filter, Finset.mem_univ, true_and]; omega
theorem below_succ (t : Fin 18) : below (t.val + 1) = insert t (below t.val) := by
  ext u; simp only [below, Finset.mem_filter, Finset.mem_univ, true_and, Finset.mem_insert, Fin.ext_iff]; omega
theorem not_below (t : Fin 18) : t ∉ below t.val := by
  simp only [below, Finset.mem_filter, Finset.mem_univ, true_and]; omega
theorem span_succ (n : ℕ) (t : Fin 18) (h : n ≤ t.val) : span n (t.val + 1) = insert t (span n t.val) := by
  ext u; simp only [span, Finset.mem_filter, Finset.mem_univ, true_and, Finset.mem_insert, Fin.ext_iff]; omega
theorem not_span (n : ℕ) (t : Fin 18) : t ∉ span n t.val := by
  simp only [span, Finset.mem_filter, Finset.mem_univ, true_and]; omega
theorem span_first (n' : ℕ) (t : Fin 18) (h : t.val < n') : span t.val n' = insert t (span (t.val + 1) n') := by
  ext u; simp only [span, Finset.mem_filter, Finset.mem_univ, true_and, Finset.mem_insert, Fin.ext_iff]; omega
theorem not_span_first (n' : ℕ) (t : Fin 18) : t ∉ span (t.val + 1) n' := by
  simp only [span, Finset.mem_filter, Finset.mem_univ, true_and]; omega

/-- What device `c` owes once it has started the transfers below `n`: the receivers' credits of the others. -/
def Orem (n : ℕ) (c : Dev nD) : CellTallies nD τ sig Unit := ∑ t ∈ from' n, tallyAt (rCell (par (td t) c) t) () (N t)

theorem Orem_succ (t : Fin 18) (c : Dev nD) : Orem t.val c = Orem (t.val + 1) c + tallyAt (rCell (par (td t) c) t) () (N t) := by
  unfold Orem; rw [from_succ, Finset.sum_insert (not_from t), add_comm]

theorem Orem_end (c : Dev nD) : Orem 18 c = 0 := by
  unfold Orem; rw [show from' 18 = ∅ from by decide, Finset.sum_empty]

/-- What device `c` owes at launch: that, and a unit to each neighbour's barrier. -/
def O₂ (c : Dev nD) : CellTallies nD τ sig Unit := Orem 0 c + tallyAt (barCell (par 2 c)) () 1
def O₁ (c : Dev nD) : CellTallies nD τ sig Unit := O₂ c + tallyAt (barCell (par 1 c)) () 1
def O₀ (c : Dev nD) : CellTallies nD τ sig Unit := O₁ c + tallyAt (barCell (par 0 c)) () 1

def L (g : GSem nD τ sig) : Finset Unit := if g.1.2 = .tc then {()} else ∅
/-- Receivers' cells at 2 and up in the transfers' order, the barrier at 1, everything else at 0. -/
def lv (g : GSem nD τ sig) (_ : Unit) : ℕ := match g.2 with
  | .reg _ => 1
  | .dma q => match xOf q with | some (.inr t) => 2 + t.val | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_r (c : Dev nD) (t : Fin 18) (u : Unit) : lv (rCell c t) u = 2 + t.val := by
  dsimp only [lv]; rw [xOf_xsem]
theorem lv_s (c : Dev nD) (t : Fin 18) (u : Unit) : lv (sCell c t) u = 0 := by
  dsimp only [lv]; rw [xOf_xsem]
theorem lv_bar (c : Dev nD) (u : Unit) : lv (barCell c) u = 1 := rfl

theorem Orem_pos {n : ℕ} {c : Dev nD} {g : GSem nD τ sig} {u : Unit} (h : 0 < Orem n c g u) :
    ∃ t : Fin 18, n ≤ t.val ∧ g = rCell (par (td t) c) t := by
  by_contra hn
  rw [not_exists] at hn
  have : Orem n c g u = 0 := by
    unfold Orem
    rw [Finset.sum_apply, Finsupp.finset_sum_apply]
    refine Finset.sum_eq_zero fun t ht => ?_
    rw [tallyAt_apply, if_neg fun h' => hn t ⟨(Finset.mem_filter.mp ht).2, h'.1⟩]
  omega

theorem O₀_pos {c : Dev nD} {g : GSem nD τ sig} {u : Unit} (h : 0 < O₀ c g u) :
    (∃ t : Fin 18, g = rCell (par (td t) c) t) ∨ ∃ d, g = barCell (par d c) := by
  by_contra hn
  rw [not_or, not_exists, not_exists] at hn
  have h0 : Orem 0 c g u = 0 := by
    by_contra hx
    obtain ⟨t, -, ht⟩ := Orem_pos (Nat.pos_of_ne_zero hx)
    exact hn.1 t ht
  unfold O₀ O₁ O₂ at h
  rw [Pi.add_apply, Finsupp.add_apply, Pi.add_apply, Finsupp.add_apply, Pi.add_apply, Finsupp.add_apply, h0, tallyAt_apply, tallyAt_apply, tallyAt_apply,
    if_neg (fun h' => hn.2 _ h'.1), if_neg (fun h' => hn.2 _ h'.1), if_neg (fun h' => hn.2 _ h'.1)] at h
  exact Nat.lt_irrefl 0 h

/-- Any wait on a semaphore of level 0 is allowed at launch's debt, or at none. -/
theorem mayWait_stage (c : Dev nD) (q : DmaSem sig) (hq : ∀ t, q ≠ rsem t) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨t, rfl⟩ | ⟨d, rfl⟩ <;> (rw [L_tc]; exact Finset.mem_singleton_self _))
      (fun p hp => ?_) (fun g u hg => ?_)
    · rw [Finset.mem_singleton.mp hp]
      have : ∀ t, xOf q ≠ some (.inr t) := fun t h => by
        unfold xOf at h
        by_cases hx : ∃ k, xsem k = q
        · rw [dif_pos hx] at h
          have := hx.choose_spec
          rw [Option.some.inj h] at this
          exact hq t this.symm
        · rw [dif_neg hx] at h; cases h
      dsimp only [lv]
      split
      · rename_i t h; exact absurd h (this t)
      · exact le_refl 0
    · rcases O₀_pos hg with ⟨t, rfl⟩ | ⟨d, rfl⟩
      · rw [lv_r]; omega
      · rw [lv_bar]; omega
  · rw [MayWait_zero]; iintro -; iempintro

/-- A wait below everything that `Orem n` owes. -/
theorem mayWait_rem (c : Dev nD) (sm : SemLoc sig) (n : ℕ) (h : lv ((c : Thread nD τ), sm) () < 2 + n) :
    (levAts L lv : sProp 𝕄) ⊢ MayWait (c : Thread nD τ) sm () (Orem n c) :=
  MayOwe.of_cut (L := L) (lev := lv) (1 + n) (fun p hp => by rw [Finset.mem_singleton.mp hp, L_tc]; exact Finset.mem_singleton_self _)
    (fun g u hg => by obtain ⟨t, -, rfl⟩ := Orem_pos hg; rw [L_tc]; exact Finset.mem_singleton_self _)
    (fun p hp => by rw [Finset.mem_singleton.mp hp]; exact (show lv ((c : Thread nD τ), sm) () ≤ 1 + n by omega))
    (fun g u hg => by obtain ⟨t, ht, rfl⟩ := Orem_pos hg; rw [lv_r]; omega)

end Cert.Cube

end
-- ==== Proof.Steps.lean ====
/-
# One transfer started, one arrival awaited, one departure awaited

`proto s r w c` is all that the exchange's protocol holds on device `c` once it has started the transfers below `s`,
received those below `r` and had the rows of those below `w` returned. Each step of the kernel that touches a semaphore
is one rule here, stated once for every transfer.
-/
module

public import proofs.«01_k».proof.Proof.Schedule

@[expose] public section

noncomputable section

namespace Cert.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → ℕ → ℕ → Elt F .f32) (K : Dev nD × Option XK → ℕ)

/-- One more member of a separating conjunction. -/
theorem bigSep_ins {I : Type} [DecidableEq I] {s : Finset I} {i : I} (h : i ∉ s) {Φ : I → sProp 𝕄} :
    bigSep (insert i s) Φ = iprop(Φ i ∗ bigSep s Φ) := bigSep_insert h

/-- One member of it. -/
theorem bigSep_one {I : Type} [DecidableEq I] [Fintype I] (i : I) {Φ : I → sProp 𝕄} [∀ i, BI.Persistent (Φ i)] :
    bigSep Finset.univ Φ ⊢ Φ i := by
  rw [← Finset.insert_erase (Finset.mem_univ i), bigSep_ins (Finset.notMem_erase i _)]
  iintro ⟨H, -⟩
  iexact H

/-- The invariants of all the cells of all the devices, and that each cell has begun. -/
def recs : sProp 𝕄 := bigSep Finset.univ fun ck : Dev nD × Option XK =>
  iprop(cellInv ER (sched P) (K ck) (kcell ck) ∗ reached ER (kcell ck) 0)

instance recs_persistent : BI.Persistent (recs P K) := by unfold recs; infer_instance

theorem recs_inv (ck : Dev nD × Option XK) : recs P K ⊢ (cellInv ER (sched P) (K ck) (kcell ck) : sProp 𝕄) := by
  iintro H
  unfold recs
  ihave H' := (bigSep_one ck) $$ H
  icases H' with ⟨H, -⟩
  iexact H
theorem recs_reached (ck : Dev nD × Option XK) : recs P K ⊢ (reached ER (kcell ck) 0 : sProp 𝕄) := by
  iintro H
  unfold recs
  ihave H' := (bigSep_one ck) $$ H
  icases H' with ⟨-, H⟩
  iexact H

/-- What starting transfer `t` uses: its two payments and the rows it fills. -/
def startOf (c : Dev nD) (t : Fin 18) : sProp 𝕄 :=
  iprop(dutyTok ER (sCell c t) 0 0 ∗ dutyTok ER (rCell (par (td t) c) t) 0 0 ∗ landAny t (par (td t) c))
/-- What awaiting the arrival of transfer `t` uses. -/
def arriveOf (c : Dev nD) (t : Fin 18) : sProp 𝕄 := iprop(atPos ER (rCell c t) 0 ∅ 0 ∗ cred (tallyAt (rCell c t) () (N t)))

/-- The protocol's state on device `c`, having started the transfers below `s`, received those below `r` and had the
    rows of those below `w` returned. -/
def proto (s r w : ℕ) (c : Dev nD) : sProp 𝕄 :=
  iprop(recs P K ∗ levAts L lv ∗ (∃ W, owes (c : Thread nD τ) (Orem s c) W)
    ∗ (bigSep (from' s) fun t => startOf c t)
    ∗ (bigSep (below r) fun t => semVal (rCell c t) 0) ∗ (bigSep (from' r) fun t => arriveOf c t)
    ∗ (bigSep (below w) fun t => semVal (sCell c t) 0) ∗ (bigSep (from' w) fun t => atPos ER (sCell c t) 0 ∅ 0)
    ∗ (bigSep (span w s) fun t => cred (tallyAt (sCell c t) () (N t))))

variable (c : Dev nD)

theorem pay_inl (t : Fin 18) : pay P (.inl t) c = (sendPay P t c : sProp 𝕄) := rfl
theorem pay_inr (t : Fin 18) : pay P (.inr t) c = (recvPay P t c : sProp 𝕄) := rfl

/-- The rows a transfer reads, as rows held. -/
theorem rowsPts_slice {R : ℕ} (M : Memref sig .tc .vmem (SR R) .f32) {lo n : ℕ} {off sz : Fin 2 → ℕ} {inb} {hu} (ho : off = ![lo, 0]) (hs : sz = ![n, 1024])
    {q : PosShare TreeShare} {g : ℕ → ℕ → Elt F .f32} {f : Buf (Elt F) (M.view.loc (c : Thread nD τ))}
    (hf : ∀ x ∈ rows R lo n, M.view.read (Elt F) f x = g (x (0 : Fin 2)).val (x (1 : Fin 2)).val) :
    ((M.slice (Rect.unit (s := SR R) off sz inb) hu).view.loc (c : Thread nD τ) ↦[(M.slice (Rect.unit (s := SR R) off sz inb) hu).view.set]{q} f : sProp 𝕄)
      ⊢ rowsPts M c q lo n g := by
  rw [show (M.slice (Rect.unit (s := SR R) off sz inb) hu).view.set = M.view.setOn (rows R lo n) from set_slice_rows M (inb := inb) ho hs]
  unfold rowsPts
  iintro H
  iexists f
  isplitr; · ipureintro; exact hf
  iexact H

/-- The rows a transfer has written, as rows held. -/
theorem rowsPts_written {R : ℕ} (M : Memref sig .tc .vmem (SR R) .f32) {lo n : ℕ} {off sz : Fin 2 → ℕ} {inb} {hu} (ho : off = ![lo, 0]) (hs : sz = ![n, 1024])
    {g : ℕ → ℕ → Elt F .f32} (f : Buf (Elt F) (M.view.loc (c : Thread nD τ))) {v : (Rect.unit (s := SR R) off sz inb).shape.Idx → Elt F .f32}
    (hv : ∀ x, v x = g (lo + (x (0 : Fin 2)).val) (x (1 : Fin 2)).val) :
    ((M.slice (Rect.unit (s := SR R) off sz inb) hu).view.loc (c : Thread nD τ) ↦[(M.slice (Rect.unit (s := SR R) off sz inb) hu).view.set]{fullShare}
        ((M.slice (Rect.unit (s := SR R) off sz inb) hu).view.write (Elt F) f v Finset.univ) : sProp 𝕄)
      ⊢ rowsPts M c fullShare lo n g := by
  rw [show (M.slice (Rect.unit (s := SR R) off sz inb) hu).view.set = M.view.setOn (rows R lo n) from set_slice_rows M (inb := inb) ho hs]
  unfold rowsPts
  iintro H
  iexists _
  isplitr
  rotate_left
  · iexact H
  ipureintro
  exact read_written M c ho hs f hv

/-- Starting transfer `t`: the rows it reads go in, and are the sender's payload; the rows it fills are the receiver's. -/
theorem wp_start (t : Fin 18) {r w : ℕ} (hw : w ≤ t.val) {p : Dev nD} (hp : p = par (td t) c)
    {R R' : ℕ} (M : Memref sig .tc .vmem (SR R) .f32) (M' : Memref sig .tc .vmem (SR R') .f32)
    {lo lo' n : ℕ} {off off' sz : Fin 2 → ℕ} {inb inb'} {hu hu'} (ho : off = ![lo, 0]) (ho' : off' = ![lo', 0]) (hs : sz = ![n, 1024])
    {q : PosShare TreeShare} {g g' : ℕ → ℕ → Elt F .f32}
    (hland : landAny t (par (td t) c) ⊢ (rowsAny M' (par (td t) c) lo' n : sProp 𝕄))
    (hrecv : rowsPts M' (par (td t) c) fullShare lo' n g' ⊢ (recvPay P t (par (td t) c) : sProp 𝕄))
    (hsend : rowsPts M c q lo n g ⊢ (sendPay P t c : sProp 𝕄))
    (hg : ∀ i k, i < n → g (lo + i) k = g' (lo' + i) k)
    {qs qr : DmaSem sig} (hqs : qs = xsem (.inl t)) (hqr : qr = xsem (.inr t))
    (hN : (M'.slice (Rect.unit (s := SR R') off' sz inb') hu').view.dmaCredit = N t)
    {hsc : (M'.slice (Rect.unit (s := SR R') off' sz inb') hu' : Memref sig (Dev.tc p : Thread nD τ).2.kind .vmem _ .f32).view.ref.isScScratch = false}
    {hsrc : (M.slice (Rect.unit (s := SR R) off sz inb) hu).view.WordExact} {hdst : (M'.slice (Rect.unit (s := SR R') off' sz inb') hu').view.WordExact}
    {hsem : DmaTarget.Typed .vmem (.dma qr) (.remote (Dev.tc p : Thread nD τ) (M'.slice (Rect.unit (s := SR R') off' sz inb') hu') (.dma qs) hsc)}
    {α : Type} {Q : α → sProp 𝕄} {k : PUnit → Prog (TpuEff nD τ sig (Elt F) Λ₀ .tc) α} :
    iprop(proto P K t.val r w c ∗ rowsPts M c q lo n g)
      ⊢ iprop((proto P K (t.val + 1) r w c -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (M.slice (Rect.unit (s := SR R) off sz inb) hu)
                (.remote (Dev.tc p : Thread nD τ) (M'.slice (Rect.unit (s := SR R') off' sz inb') hu') (.dma qs) hsc) (.dma qr) hsrc hdst hsem) k) Q) := by
  subst hp hqs hqr
  unfold proto
  rw [from_succ t, bigSep_ins (not_from t)]
  unfold startOf
  iintro ⟨⟨#Hrec, Hlev, ⟨%W, HO⟩, ⟨⟨HtS, HtV, Hland⟩, Hstart⟩, Hrv, Hra, Hsv, Hsa, Hsc⟩, Hrows⟩ Hk
  ihave Hland' := hland $$ Hland
  unfold rowsAny
  icases Hland' with ⟨%fd, Hland⟩
  unfold rowsPts
  icases Hrows with ⟨%fs, %hfs, Hsrc⟩
  rw [← set_slice_rows M' (inb := inb') ho' hs, ← set_slice_rows M (inb := inb) ho hs]
  iapply (Rounds.wp_send_pointsTo 𝒱₀ ER (sched P) (c : Thread nD τ) none
    (src := M.slice (Rect.unit (s := SR R) off sz inb) hu)
    (c' := (par (td t) c : Thread nD τ)) (dst := M'.slice (Rect.unit (s := SR R') off' sz inb') hu')
    (κ₁ := K (c, some (.inl t))) (κ₂ := K (par (td t) c, some (.inr t)))
    (sS := .dma (xsem (.inl t))) (sem := .dma (xsem (.inr t)))
    (r₁ := 0) (r₂ := 0) (d₁ := 0) (d₂ := 0) (fs := fs) (fd := fd) (q := q)
    (by rw [duties_x]; exact Finset.mem_singleton_self _)
    (by rw [duties_x]; exact Finset.mem_singleton_self _)
    () () (N t) hN (amount_x P c (.inl t) 0) (amount_x P (par (td t) c) (.inr t) 0) (Orem (t.val + 1) c) (Orem_succ t c) (W := W)
    (by rw [payload_x, pay_inl]; exact (rowsPts_slice c M ho hs hfs).trans hsend)
    (by
      rw [payload_x, pay_inr]
      refine (rowsPts_written (par (td t) c) M' ho' hs fd fun x => ?_).trans hrecv
      rw [← hg _ _ (lt_of_lt_of_eq (x (0 : Fin 2)).isLt (by show sz 0 = n; rw [hs]; rfl))]
      exact read_rows M c ho hs hfs x)) $$ [Hsrc Hland HO HtS HtV]
  · isplitr; · iapply (recs_inv P K (c, some (.inl t))); iexact Hrec
    isplitr; · iapply (recs_inv P K (par (td t) c, some (.inr t))); iexact Hrec
    isplitl [Hsrc]; · iexact Hsrc
    isplitl [Hland]; · iexact Hland
    isplitl [HO]; · iexact HO
    isplitl [HtS]; · iexact HtS
    isplitr; · iapply (recs_reached P K (c, some (.inl t))); iexact Hrec
    isplitl [HtV]; · iexact HtV
    iapply (recs_reached P K (par (td t) c, some (.inr t))); iexact Hrec
  iintro ⟨HcS, HO⟩
  iapply Hk
  isplitr; · iexact Hrec
  isplitl [Hlev]; · iexact Hlev
  isplitl [HO]; · iexists W; iexact HO
  isplitl [Hstart]; · iexact Hstart
  isplitl [Hrv]; · iexact Hrv
  isplitl [Hra]; · iexact Hra
  isplitl [Hsv]; · iexact Hsv
  isplitl [Hsa]; · iexact Hsa
  rw [span_succ w t hw, bigSep_ins (not_span w t)]
  isplitl [HcS]; · iexact HcS
  iexact Hsc

/-- Awaiting the arrival of transfer `t`, already started here: the rows it filled. -/
theorem wp_arrive (t : Fin 18) {s w : ℕ} (hs : t.val < s) {q : DmaSem sig} (hq : q = xsem (.inr t))
    {sp sp' : Space} {sh : Shape} {e : EltTy} {src : Memref sig .tc sp sh e} {dst : Memref sig .tc sp' sh e}
    (hN : dst.view.dmaCredit = N t) {hsrc : src.view.WordExact} {hdst : dst.view.WordExact}
    {α : Type} {Q : α → sProp 𝕄} {k : PUnit → Prog (TpuEff nD τ sig (Elt F) Λ₀ .tc) α} :
    proto P K s t.val w c
      ⊢ iprop(((proto P K s (t.val + 1) w c ∗ recvPay P t c) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst hq
  unfold proto
  rw [from_succ t, bigSep_ins (not_from t), below_succ t, bigSep_ins (not_below t)]
  unfold arriveOf
  iintro ⟨#Hrec, #Hlev, ⟨%W, HO⟩, Hstart, Hrv, ⟨⟨Hat, Hc⟩, Hra⟩, Hsv, Hsa, Hsc⟩ Hk
  iapply (Rounds.wp_wait_rest_token 𝒱₀ ER (sched P) (c : Thread nD τ) none (κ := K (c, some (.inr t)))
      (wpE_waitDma2_eq 𝒱₀ (c : Thread nD τ) none Set.univ) (Set.mem_univ _) () (O := Orem s c) (W := W) (R := 0) (m := 0) (T := ∅)
      (by rw [Nat.zero_add, hN]; exact (expect_x P c (.inr t)).symm)) $$ [Hc HO Hat]
  · isplitr; · iapply (recs_inv P K (c, some (.inr t))); iexact Hrec
    rw [hN]
    isplitl [Hc]; · iexact Hc
    isplitl [HO]; · iexact HO
    isplitr
    · iapply (mayWait_rem c (.dma (xsem (.inr t))) s (by rw [lv_r]; omega)); iexact Hlev
    iexact Hat
  iintro ⟨HO, Hat, -, Hpay⟩
  ihave Hpay' := (Entails.of_eq ((rest_x P c (.inr t)).trans (pay_inr P c t))) $$ Hpay
  imod (Rounds.cell_close ER (sched P) (Set.mem_univ (K (c, some (.inr t)))) (fun h => h) (R := 0 + 1) (duties_later P (rCell c t))) $$ [Hat] with Hz
  · isplitr; · iapply (recs_inv P K (c, some (.inr t))); iexact Hrec
    iexact Hat
  iapply Hk
  isplitr [Hpay']
  · isplitr; · iexact Hrec
    isplitr; · iexact Hlev
    isplitl [HO]; · iexists _; iexact HO
    isplitl [Hstart]; · iexact Hstart
    isplitl [Hrv Hz]
    · isplitl [Hz]; · iexact Hz
      iexact Hrv
    isplitl [Hra]; · iexact Hra
    isplitl [Hsv]; · iexact Hsv
    isplitl [Hsa]; · iexact Hsa
    iexact Hsc
  · iexact Hpay'

/-- Awaiting the departure of transfer `t`, already started: the rows it read come back. -/
theorem wp_depart (t : Fin 18) {s r : ℕ} (hs : t.val < s) {q : DmaSem sig} (hq : q = xsem (.inl t))
    {sp sp' : Space} {sh : Shape} {e : EltTy} {src : Memref sig .tc sp sh e} {dst : Memref sig .tc sp' sh e}
    (hN : dst.view.dmaCredit = N t) {hsrc : src.view.WordExact} {hdst : dst.view.WordExact}
    {α : Type} {Q : α → sProp 𝕄} {k : PUnit → Prog (TpuEff nD τ sig (Elt F) Λ₀ .tc) α} :
    proto P K s r t.val c
      ⊢ iprop(((proto P K s r (t.val + 1) c ∗ sendPay P t c) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst hq
  unfold proto
  rw [from_succ t, bigSep_ins (not_from t), below_succ t, bigSep_ins (not_below t), span_first s t hs, bigSep_ins (not_span_first s t)]
  iintro ⟨#Hrec, #Hlev, ⟨%W, HO⟩, Hstart, Hrv, Hra, Hsv, ⟨Hat, Hsa⟩, ⟨Hc, Hsc⟩⟩ Hk
  iapply (Rounds.wp_wait_rest_token 𝒱₀ ER (sched P) (c : Thread nD τ) none (κ := K (c, some (.inl t)))
      (wpE_waitDma2_eq 𝒱₀ (c : Thread nD τ) none Set.univ) (Set.mem_univ _) () (O := Orem s c) (W := W) (R := 0) (m := 0) (T := ∅)
      (by rw [Nat.zero_add, hN]; exact (expect_x P c (.inl t)).symm)) $$ [Hc HO Hat]
  · isplitr; · iapply (recs_inv P K (c, some (.inl t))); iexact Hrec
    rw [hN]
    isplitl [Hc]; · iexact Hc
    isplitl [HO]; · iexact HO
    isplitr
    · iapply (mayWait_rem c (.dma (xsem (.inl t))) s (by rw [lv_s]; omega)); iexact Hlev
    iexact Hat
  iintro ⟨HO, Hat, -, Hpay⟩
  ihave Hpay' := (Entails.of_eq ((rest_x P c (.inl t)).trans (pay_inl P c t))) $$ Hpay
  imod (Rounds.cell_close ER (sched P) (Set.mem_univ (K (c, some (.inl t)))) (fun h => h) (R := 0 + 1) (duties_later P (sCell c t))) $$ [Hat] with Hz
  · isplitr; · iapply (recs_inv P K (c, some (.inl t))); iexact Hrec
    iexact Hat
  iapply Hk
  isplitr [Hpay']
  · isplitr; · iexact Hrec
    isplitr; · iexact Hlev
    isplitl [HO]; · iexists _; iexact HO
    isplitl [Hstart]; · iexact Hstart
    isplitl [Hrv]; · iexact Hrv
    isplitl [Hra]; · iexact Hra
    isplitl [Hsv Hz]
    · isplitl [Hz]; · iexact Hz
      iexact Hsv
    isplitl [Hsa]; · iexact Hsa
    iexact Hsc
  · iexact Hpay'

end Cert.Cube

end
-- ==== Proof.Phases.lean ====
/-
# The steps of the reduce-scatter and of the all-gather

`proto2` is the protocol's state with all that arrived for the sums and all that came back from departures set aside.
On it: starting a transfer of partial sums, awaiting one and reading it beside the rows kept, storing the sum, storing
a finished row, and starting and awaiting a transfer of finished rows; and how the rows a device works on are cut in
the rows it sends and the rows it keeps, and glued again.
-/
module

public import proofs.«01_k».proof.Proof.Steps

@[expose] public section

noncomputable section

namespace Cert.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Cutting rows -/

theorem half_zero (j : Fin 3) : rowsP j = half j 0 + half j 0 := by revert j; decide
theorem half_one (j : Fin 3) : half j 0 = half j 1 + half j 1 := by revert j; decide
theorem half_two (j : Fin 3) : half j 1 = half j 2 + half j 2 := by revert j; decide
theorem kept_eq (j r : Fin 3) (c : Dev nD) : kept j r c = base j r.val c + bit (axis j r) c * half j r := by revert j r c; decide +kernel
theorem bit_cases (d : Fin 3) (c : Dev nD) : bit d c = 0 ∨ bit d c = 1 := by revert d c; decide

/-- Rows cut in two halves are the half sent and the half kept. -/
theorem cut (X : ℕ → ℕ → sProp 𝕄) (split : ∀ (lo a b : ℕ), X lo (a + b) ⊢ iprop(X lo a ∗ X (lo + a) b)) (j r : Fin 3) (c : Dev nD) :
    X (base j r.val c) (half j r + half j r) ⊢ iprop(X (sent j r c) (half j r) ∗ X (kept j r c) (half j r)) := by
  rw [kept_eq]; unfold sent
  rcases bit_cases (axis j r) c with h | h <;> rw [h]
  · rw [Nat.sub_zero, Nat.one_mul, Nat.zero_mul, Nat.add_zero]
    iintro H
    ihave H' := (split (base j r.val c) (half j r) (half j r)) $$ H
    icases H' with ⟨H1, H2⟩
    isplitl [H2]
    · iexact H2
    iexact H1
  · rw [Nat.sub_self, Nat.one_mul, Nat.zero_mul, Nat.add_zero]
    exact split _ _ _

/-- And glue to them. -/
theorem glue (X : ℕ → ℕ → sProp 𝕄) (join : ∀ (lo a b : ℕ), iprop(X lo a ∗ X (lo + a) b) ⊢ X lo (a + b)) (j r : Fin 3) (c : Dev nD) :
    iprop(X (sent j r c) (half j r) ∗ X (kept j r c) (half j r)) ⊢ X (base j r.val c) (half j r + half j r) := by
  rw [kept_eq]; unfold sent
  rcases bit_cases (axis j r) c with h | h <;> rw [h]
  · rw [Nat.sub_zero, Nat.one_mul, Nat.zero_mul, Nat.add_zero]
    iintro ⟨H1, H2⟩
    iapply (join (base j r.val c) (half j r) (half j r))
    isplitl [H2]
    · iexact H2
    iexact H1
  · rw [Nat.sub_self, Nat.one_mul, Nat.zero_mul, Nat.add_zero]
    exact join _ _ _

theorem cut0 (X : ℕ → ℕ → sProp 𝕄) (split : ∀ (lo a b : ℕ), X lo (a + b) ⊢ iprop(X lo a ∗ X (lo + a) b)) (j : Fin 3) (c : Dev nD) : X (offP j) (rowsP j) ⊢ iprop(X (sent j 0 c) (half j 0) ∗ X (kept j 0 c) (half j 0)) := by
  rw [half_zero]; exact cut X split j 0 c
theorem cut1 (X : ℕ → ℕ → sProp 𝕄) (split : ∀ (lo a b : ℕ), X lo (a + b) ⊢ iprop(X lo a ∗ X (lo + a) b)) (j : Fin 3) (c : Dev nD) : X (kept j 0 c) (half j 0) ⊢ iprop(X (sent j 1 c) (half j 1) ∗ X (kept j 1 c) (half j 1)) := by
  rw [half_one]; exact cut X split j 1 c
theorem cut2 (X : ℕ → ℕ → sProp 𝕄) (split : ∀ (lo a b : ℕ), X lo (a + b) ⊢ iprop(X lo a ∗ X (lo + a) b)) (j : Fin 3) (c : Dev nD) : X (kept j 1 c) (half j 1) ⊢ iprop(X (sent j 2 c) (half j 2) ∗ X (kept j 2 c) (half j 2)) := by
  rw [half_two]; exact cut X split j 2 c

theorem glue0 (X : ℕ → ℕ → sProp 𝕄) (join : ∀ (lo a b : ℕ), iprop(X lo a ∗ X (lo + a) b) ⊢ X lo (a + b)) (j : Fin 3) (c : Dev nD) : iprop(X (sent j 0 c) (half j 0) ∗ X (kept j 0 c) (half j 0)) ⊢ X (offP j) (rowsP j) := by
  rw [half_zero]; exact glue X join j 0 c
theorem glue1 (X : ℕ → ℕ → sProp 𝕄) (join : ∀ (lo a b : ℕ), iprop(X lo a ∗ X (lo + a) b) ⊢ X lo (a + b)) (j : Fin 3) (c : Dev nD) : iprop(X (sent j 1 c) (half j 1) ∗ X (kept j 1 c) (half j 1)) ⊢ X (kept j 0 c) (half j 0) := by
  rw [half_one]; exact glue X join j 1 c
theorem glue2 (X : ℕ → ℕ → sProp 𝕄) (join : ∀ (lo a b : ℕ), iprop(X lo a ∗ X (lo + a) b) ⊢ X lo (a + b)) (j : Fin 3) (c : Dev nD) : iprop(X (sent j 2 c) (half j 2) ∗ X (kept j 2 c) (half j 2)) ⊢ X (kept j 1 c) (half j 1) := by
  rw [half_two]; exact glue X join j 2 c

/-! ## The reduce-scatter -/

variable (P : Dev nD → ℕ → ℕ → Elt F .f32) (K : Dev nD × Option XK → ℕ) (c : Dev nD)

/-- The protocol's state, with what arrived for the sums and what came back from departures set aside. -/
def proto2 (s r w : ℕ) : sProp 𝕄 :=
  iprop(proto P K s r w c ∗ (bigSep (below (min r 9)) fun t => recvPay P t c) ∗ (bigSep (below w) fun t => sendPay P t c))

/-- Transfer `t` is round `r` of part `j` of the reduce-scatter, and lands in `M`. -/
structure IsRs (t : Fin 18) (j r : Fin 3) {R : ℕ} (M : Memref sig .tc .vmem (SR R) .f32) : Prop where
  lt : t.val < 9
  hj : tj t = j
  hr : tr t = r
  land : ∀ p, (landAny t p : sProp 𝕄) = rowsAny M p (slot j r) (half j r)
  recv : ∀ p, (recvPay P t p : sProp 𝕄) = rowsPts M p fullShare (slot j r) (half j r)
    (fun s k => A P (par (axis j r) p) j r.val (kept j r p + (s - slot j r)) k)

variable {P}

theorem IsRs.hd {t : Fin 18} {j r : Fin 3} {R : ℕ} {M : Memref sig .tc .vmem (SR R) .f32} (h : IsRs P t j r M) : td t = axis j r := by
  unfold td; rw [h.hj, h.hr]

/-- Starting a transfer of partial sums. -/
theorem wp_rs {t : Fin 18} {j r : Fin 3} {R' : ℕ} {M' : Memref sig .tc .vmem (SR R') .f32} (h : IsRs P t j r M') {n n' : ℕ} (hn : t.val = n) (hn' : t.val + 1 = n') {r' w : ℕ} (hw : w ≤ t.val) {p : Dev nD} (hp : p = par (axis j r) c)
    {off off' sz : Fin 2 → ℕ} {inb inb'} {hu hu'} (ho : off = ![sent j r c, 0]) (ho' : off' = ![slot j r, 0]) (hs : sz = ![half j r, 1024])
    {qs qr : DmaSem sig} (hqs : qs = xsem (.inl t)) (hqr : qr = xsem (.inr t))
    (hN : (M'.slice (Rect.unit (s := SR R') off' sz inb') hu').view.dmaCredit = N t)
    {hsc : (M'.slice (Rect.unit (s := SR R') off' sz inb') hu' : Memref sig (Dev.tc p : Thread nD τ).2.kind .vmem _ .f32).view.ref.isScScratch = false}
    {hsrc : (accM.slice (Rect.unit (s := SR 1024) off sz inb) hu).view.WordExact} {hdst : (M'.slice (Rect.unit (s := SR R') off' sz inb') hu').view.WordExact}
    {hsem : DmaTarget.Typed .vmem (.dma qr) (.remote (Dev.tc p : Thread nD τ) (M'.slice (Rect.unit (s := SR R') off' sz inb') hu') (.dma qs) hsc)}
    {α : Type} {Q : α → sProp 𝕄} {k : PUnit → Prog (TpuEff nD τ sig (Elt F) Λ₀ .tc) α} :
    iprop(proto2 P K c n r' w ∗ rowsPts accM c fullShare (sent j r c) (half j r) (A P c j r.val))
      ⊢ iprop((proto2 P K c n' r' w -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (accM.slice (Rect.unit (s := SR 1024) off sz inb) hu)
                (.remote (Dev.tc p : Thread nD τ) (M'.slice (Rect.unit (s := SR R') off' sz inb') hu') (.dma qs) hsc) (.dma qr) hsrc hdst hsem) k) Q) := by
  subst hn hn'
  have hd := h.hd
  unfold proto2
  iintro ⟨⟨Hp, Hl, Hb⟩, Hrows⟩ Hk
  iapply (wp_start P K c t (w := w) (r := r') hw (p := p) (by rw [hd]; exact hp) accM M' ho ho' hs
    (q := fullShare) (g := A P c j r.val) (g' := fun s k => A P c j r.val (sent j r c + (s - slot j r)) k)
    (by rw [h.land]) (by
      rw [h.recv, hd, par_par, kept_par])
    (by unfold sendPay; rw [if_pos h.lt, h.hj, h.hr]) (fun i k hi => by rw [Nat.add_sub_cancel_left]) hqs hqr hN) $$ [Hp Hrows]
  · isplitl [Hp] <;> iassumption
  iintro Hp
  iapply Hk
  isplitl [Hp]; · iexact Hp
  isplitl [Hl] <;> iassumption

/-- Awaiting the partial sums of transfer `t` and reading them beside the rows kept. -/
theorem wp_arrive_read {t : Fin 18} {j r : Fin 3} {R' : ℕ} {M' : Memref sig .tc .vmem (SR R') .f32} (h : IsRs P t j r M') {n n' : ℕ} (hn : t.val = n) (hn' : t.val + 1 = n') {s w : ℕ} (hts : t.val < s)
    {q : DmaSem sig} (hq : q = xsem (.inr t)) {sp sp' : Space} {sh : Shape} {e : EltTy} {src : Memref sig .tc sp sh e} {dst : Memref sig .tc sp' sh e}
    (hN : dst.view.dmaCredit = N t) {hsrc : src.view.WordExact} {hdst : dst.view.WordExact}
    {off off' sz : Fin 2 → ℕ} {inb inb'} (ho : off = ![kept j r c, 0]) (ho' : off' = ![slot j r, 0]) (hs : sz = ![half j r, 1024])
    {hl : accM.view.LoadsAt (Rect.unit (s := SR 1024) off sz inb).toLoadRect} {hl' : M'.view.LoadsAt (Rect.unit (s := SR R') off' sz inb').toLoadRect}
    {α : Type} {Q : α → sProp 𝕄}
    {k : ((Rect.unit (s := SR 1024) off sz inb).shape.Idx → Elt F .f32) → ((Rect.unit (s := SR R') off' sz inb').shape.Idx → Elt F .f32) → Prog (TpuEff nD τ sig (Elt F) Λ₀ .tc) α} :
    iprop(proto2 P K c s n w ∗ rowsPts accM c fullShare (kept j r c) (half j r) (A P c j r.val))
      ⊢ iprop(((proto2 P K c s n' w ∗ rowsPts accM c fullShare (kept j r c) (half j r) (A P c j r.val))
            -∗ wp frame (wpE (defs₀ (F := F)) 𝒱₀ (c : Thread nD τ) none) Set.univ
              (k (fun x => A P c j r.val (kept j r c + (x (0 : Fin 2)).val) (x (1 : Fin 2)).val)
                (fun x => A P (par (axis j r) c) j r.val (kept j r c + (x (0 : Fin 2)).val) (x (1 : Fin 2)).val)) Q)
          -∗ wp frame (wpE (defs₀ (F := F)) 𝒱₀ (c : Thread nD τ) none) Set.univ
            (.op (.waitDma2 q src dst hsrc hdst) fun _ => .op (.load accM (Rect.unit (s := SR 1024) off sz inb).toLoadRect hl) fun a =>
              .op (.load M' (Rect.unit (s := SR R') off' sz inb').toLoadRect hl') fun b => k a b) Q) := by
  subst hn hn'
  have hlt := h.lt
  unfold proto2
  rw [Nat.min_eq_left (by omega : t.val + 1 ≤ 9), Nat.min_eq_left (by omega : t.val ≤ 9), below_succ t, bigSep_ins (not_below t)]
  iintro ⟨⟨Hp, Hl, Hb⟩, Hrows⟩ Hk
  iapply (wp_arrive P K c t hts hq hN) $$ Hp
  iintro ⟨Hp, Hv⟩
  iapply (wp_load_rows accM c ho hs) $$ Hrows
  iintro Hrows
  ihave Hv := (Entails.of_eq (h.recv c)) $$ Hv
  iapply (wp_load_rows M' c ho' hs) $$ Hv
  iintro Hv
  ihave Hv := (Entails.of_eq (h.recv c).symm) $$ Hv
  simp only [Nat.add_sub_cancel_left]
  iapply Hk
  isplitr [Hrows]
  · isplitl [Hp]; · iexact Hp
    isplitr [Hb]
    · isplitl [Hv] <;> iassumption
    iexact Hb
  iexact Hrows

/-- Storing the sum over the rows kept. -/
theorem wp_restore {j r : Fin 3} {off sz : Fin 2 → ℕ} {inb} (ho : off = ![kept j r c, 0]) (hs : sz = ![half j r, 1024])
    {hl : accM.view.LoadsAt (Rect.unit (s := SR 1024) off sz inb).toLoadRect}
    {v : (Rect.unit (s := SR 1024) off sz inb).shape.Idx → Elt F .f32}
    (hv : ∀ x, v x = A P c j (r.val + 1) (kept j r c + (x (0 : Fin 2)).val) (x (1 : Fin 2)).val)
    {hx : (accM.access (Rect.unit (s := SR 1024) off sz inb)).Stores Finset.univ} {hm : Finset.univ = Finset.univ ∨ ∀ a, (Rect.unit (s := SR 1024) off sz inb).stride a = 1}
    {α : Type} {Q : α → sProp 𝕄} {k : PUnit → Prog (TpuEff nD τ sig (Elt F) Λ₀ .tc) α} :
    rowsPts accM c fullShare (kept j r c) (half j r) (A P c j r.val)
      ⊢ iprop((rowsPts accM c fullShare (kept j r c) (half j r) (A P c j (r.val + 1))
            -∗ wp frame (wpE (defs₀ (F := F)) 𝒱₀ (c : Thread nD τ) none) Set.univ (k ⟨⟩) Q)
          -∗ wp frame (wpE (defs₀ (F := F)) 𝒱₀ (c : Thread nD τ) none) Set.univ
            (.op (.load accM (Rect.unit (s := SR 1024) off sz inb).toLoadRect hl) fun _ =>
              .op (.store accM (Rect.unit (s := SR 1024) off sz inb) v Finset.univ hx hm) k) Q) := by
  iintro Hrows Hk
  iapply (wp_load_rows accM c ho hs) $$ Hrows
  iintro Hrows
  ihave Hany := (rowsPts_any accM c _ _ _) $$ Hrows
  iapply (wp_store_rows accM c ho hs (A P c j (r.val + 1)) hv) $$ Hany
  iexact Hk

/-- Awaiting a departure. -/
theorem wp_back (t : Fin 18) {n n' : ℕ} (hn : t.val = n) (hn' : t.val + 1 = n') {s r : ℕ} (hts : t.val < s) {q : DmaSem sig} (hq : q = xsem (.inl t))
    {sp sp' : Space} {sh : Shape} {e : EltTy} {src : Memref sig .tc sp sh e} {dst : Memref sig .tc sp' sh e}
    (hN : dst.view.dmaCredit = N t) {hsrc : src.view.WordExact} {hdst : dst.view.WordExact}
    {α : Type} {Q : α → sProp 𝕄} {k : PUnit → Prog (TpuEff nD τ sig (Elt F) Λ₀ .tc) α} :
    proto2 P K c s r n
      ⊢ iprop((proto2 P K c s r n' -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst hn hn'
  unfold proto2
  rw [below_succ t, bigSep_ins (not_below t)]
  iintro ⟨Hp, Hl, Hb⟩ Hk
  iapply (wp_depart P K c t hts hq hN) $$ Hp
  iintro ⟨Hp, Hs⟩
  iapply Hk
  isplitl [Hp]; · iexact Hp
  isplitl [Hl]; · iexact Hl
  isplitl [Hs] <;> iassumption

/-! ## The all-gather -/

/-- Copying the finished rows to the result. -/
theorem wp_finish {j : Fin 3} {off sz : Fin 2 → ℕ} {inb} (ho : off = ![kept j 2 c, 0]) (hs : sz = ![half j 2, 1024])
    {hl : accM.view.LoadsAt (Rect.unit (s := SR 1024) off sz inb).toLoadRect} {hl' : outM.view.LoadsAt (Rect.unit (s := SR 1024) off sz inb).toLoadRect}
    {hx : (outM.access (Rect.unit (s := SR 1024) off sz inb)).Stores Finset.univ} {hm : Finset.univ = Finset.univ ∨ ∀ a, (Rect.unit (s := SR 1024) off sz inb).stride a = 1}
    {α : Type} {Q : α → sProp 𝕄} {k : PUnit → Prog (TpuEff nD τ sig (Elt F) Λ₀ .tc) α} :
    iprop(rowsPts accM c fullShare (kept j 2 c) (half j 2) (A P c j 3) ∗ rowsAny outM c (kept j 2 c) (half j 2))
      ⊢ iprop(((rowsPts accM c fullShare (kept j 2 c) (half j 2) (A P c j 3) ∗ rowsPts outM c fullShare (kept j 2 c) (half j 2) (O P))
            -∗ wp frame (wpE (defs₀ (F := F)) 𝒱₀ (c : Thread nD τ) none) Set.univ (k ⟨⟩) Q)
          -∗ wp frame (wpE (defs₀ (F := F)) 𝒱₀ (c : Thread nD τ) none) Set.univ
            (.op (.load accM (Rect.unit (s := SR 1024) off sz inb).toLoadRect hl) fun a =>
              .op (.load outM (Rect.unit (s := SR 1024) off sz inb).toLoadRect hl') fun _ =>
              .op (.store outM (Rect.unit (s := SR 1024) off sz inb) a Finset.univ hx hm) k) Q) := by
  iintro ⟨Ha, Ho⟩ Hk
  iapply (wp_load_rows accM c ho hs) $$ Ha
  iintro Ha
  iapply (wp_load_any outM c ho hs) $$ Ho
  iintro %a Ho
  iapply (wp_store_rows outM c ho hs (O P) (fun x => by
    rw [O_kept P j c _ _ (Nat.le_add_right _ _) (Nat.add_lt_add_left (lt_of_lt_of_eq (x (0 : Fin 2)).isLt (by show sz 0 = half j 2; rw [hs]; rfl)) _)])) $$ Ho
  iintro Ho
  iapply Hk
  isplitl [Ha] <;> iassumption

/-- The share of the rows it reads that the transfer of finished rows in round `r` takes. -/
theorem gshare_two : gshare 2 = fullShare.left := rfl

/-- The bytes of `n` rows of the result. -/
abbrev bytesOut (n : ℕ) : ℕ := sig.dmaCredit .tc (Kind.tc.table .vmem) outM.view.buf (SR n) .f32
/-- The bytes of a transfer of finished rows. -/
theorem N_back {t : Fin 18} {j r : Fin 3} (ht : ¬ t.val < 9) (hj : tj t = j) (hr : tr t = r) : N t = bytesOut (half j r) := by
  unfold N; rw [if_neg ht, hj, hr]

/-- Awaiting the departure of finished rows. -/
theorem wp_back_out (t : Fin 18) {j r : Fin 3} (ht : ¬ t.val < 9) (hj : tj t = j) (hr : tr t = r) {n n' : ℕ} (hn : t.val = n) (hn' : t.val + 1 = n') {s r' : ℕ} (hts : t.val < s) {q : DmaSem sig} (hq : q = xsem (.inl t))
    {sp sp' : Space} {sh : Shape} {e : EltTy} {src : Memref sig .tc sp sh e} {dst : Memref sig .tc sp' sh e}
    (hN : dst.view.dmaCredit = bytesOut (half j r)) {hsrc : src.view.WordExact} {hdst : dst.view.WordExact}
    {α : Type} {Q : α → sProp 𝕄} {k : PUnit → Prog (TpuEff nD τ sig (Elt F) Λ₀ .tc) α} :
    proto2 P K c s r' n
      ⊢ iprop((proto2 P K c s r' n' -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) :=
  wp_back (P := P) K c t hn hn' hts hq (hN.trans (N_back ht hj hr).symm)

/-- Starting a transfer of finished rows. -/
theorem wp_ag {t : Fin 18} {j r : Fin 3} (ht : ¬ t.val < 9) (hj : tj t = j) (hr : tr t = r) {n n' : ℕ} (hn : t.val = n) (hn' : t.val + 1 = n') {r' w : ℕ} (hw : w ≤ t.val) {p : Dev nD} (hp : p = par (axis j r) c)
    {off sz : Fin 2 → ℕ} {inb inb'} {hu hu'} (ho : off = ![kept j r c, 0]) (hs : sz = ![half j r, 1024])
    {qs qr : DmaSem sig} (hqs : qs = xsem (.inl t)) (hqr : qr = xsem (.inr t))
    {hsc : (outM.slice (Rect.unit (s := SR 1024) off sz inb') hu' : Memref sig (Dev.tc p : Thread nD τ).2.kind .vmem _ .f32).view.ref.isScScratch = false}
    {hsrc : (outM.slice (Rect.unit (s := SR 1024) off sz inb) hu).view.WordExact} {hdst : (outM.slice (Rect.unit (s := SR 1024) off sz inb') hu').view.WordExact}
    {hsem : DmaTarget.Typed .vmem (.dma qr) (.remote (Dev.tc p : Thread nD τ) (outM.slice (Rect.unit (s := SR 1024) off sz inb') hu') (.dma qs) hsc)}
    {α : Type} {Q : α → sProp 𝕄} {k : PUnit → Prog (TpuEff nD τ sig (Elt F) Λ₀ .tc) α} :
    iprop(proto2 P K c n r' w ∗ rowsPts outM c (gshare r) (kept j r c) (half j r) (O P))
      ⊢ iprop((proto2 P K c n' r' w -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (outM.slice (Rect.unit (s := SR 1024) off sz inb) hu)
                (.remote (Dev.tc p : Thread nD τ) (outM.slice (Rect.unit (s := SR 1024) off sz inb') hu') (.dma qs) hsc) (.dma qr) hsrc hdst hsem) k) Q) := by
  subst hn hn'
  have hN : (outM.slice (Rect.unit (s := SR 1024) off sz inb') hu').view.dmaCredit = N t := by
    rw [N_back ht hj hr]; subst hs; rfl
  have hd : td t = axis j r := by unfold td; rw [hj, hr]
  unfold proto2
  iintro ⟨⟨Hp, Hl, Hb⟩, Hrows⟩ Hk
  iapply (wp_start P K c t (w := w) (r := r') hw (p := p) (by rw [hd]; exact hp) outM outM ho ho hs
    (q := gshare r) (g := O P) (g' := O P)
    (by unfold landAny; rw [if_neg ht, hj, hr, hd, sent_par]) (by unfold recvPay; rw [if_neg ht, hj, hr, hd, sent_par])
    (by unfold sendPay; rw [if_neg ht, hj, hr]) (fun i k hi => rfl) hqs hqr hN) $$ [Hp Hrows]
  · isplitl [Hp] <;> iassumption
  iintro Hp
  iapply Hk
  isplitl [Hp]; · iexact Hp
  isplitl [Hl] <;> iassumption

/-- Awaiting finished rows. -/
theorem wp_gathered {t : Fin 18} {j r : Fin 3} (ht : ¬ t.val < 9) (hj : tj t = j) (hr : tr t = r) {n n' : ℕ} (hn : t.val = n) (hn' : t.val + 1 = n') {s w : ℕ} (hts : t.val < s) {q : DmaSem sig} (hq : q = xsem (.inr t))
    {sp sp' : Space} {sh : Shape} {e : EltTy} {src : Memref sig .tc sp sh e} {dst : Memref sig .tc sp' sh e}
    (hN : dst.view.dmaCredit = bytesOut (half j r)) {hsrc : src.view.WordExact} {hdst : dst.view.WordExact}
    {α : Type} {Q : α → sProp 𝕄} {k : PUnit → Prog (TpuEff nD τ sig (Elt F) Λ₀ .tc) α} :
    proto2 P K c s n w
      ⊢ iprop(((proto2 P K c s n' w ∗ rowsPts outM c fullShare (sent j r c) (half j r) (O P))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst hn hn'
  rw [← N_back ht hj hr] at hN
  unfold proto2
  rw [Nat.min_eq_right (by omega : 9 ≤ t.val), Nat.min_eq_right (by omega : 9 ≤ t.val + 1)]
  iintro ⟨Hp, Hl, Hb⟩ Hk
  iapply (wp_arrive P K c t hts hq hN) $$ Hp
  iintro ⟨Hp, Hv⟩
  ihave Hv := (Entails.of_eq (show recvPay P t c = (rowsPts outM c fullShare (sent j r c) (half j r) (O P) : sProp 𝕄) from by unfold recvPay; rw [if_neg ht, hj, hr])) $$ Hv
  iapply Hk
  isplitr [Hv]
  · isplitl [Hp]; · iexact Hp
    isplitl [Hl] <;> iassumption
  iexact Hv

end Cert.Cube

end
-- ==== Proof.Meet.lean ====
/-
# Meeting the neighbours, and all the rows there are

A device gives each neighbour the rows that the neighbour's transfers fill, meets all three at the barrier, and is given
the rows its own transfers fill. Then: how the landing buffers and the result fall into those rows, and how all the rows
that arrived and came back are the landing buffers, the accumulator and the result again.
-/
module

public import proofs.«01_k».proof.Proof.Phases

@[expose] public section

noncomputable section

namespace Cert.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → ℕ → ℕ → Elt F .f32) (K : Dev nD × Option XK → ℕ) (c : Dev nD)

/-- A separating conjunction follows member by member. -/
theorem bigSep_le {I : Type} {s : Finset I} {Φ Ψ : I → sProp 𝕄} (h : ∀ i ∈ s, Φ i ⊢ Ψ i) : bigSep s Φ ⊢ bigSep s Ψ := bigSep_mono h

/-- All that the three neighbours hand over is the rows that the device's transfers fill. -/
theorem barPays : (bigSep Finset.univ fun d => barPay (F := F) d c) = (bigSep Finset.univ fun t => landAny t (par (td t) c) : sProp 𝕄) := by
  rw [bigSep_fiberwise Finset.univ td, show Finset.univ.image td = Finset.univ from by decide]
  refine bigSep_congr fun d _ => ?_
  unfold barPay
  exact bigSep_congr fun t ht => by rw [(Finset.mem_filter.mp ht).2]

/-! ## The barrier -/

/-- Signalling the neighbour along axis `d`, with the rows that its transfers along that axis fill. -/
theorem wp_meet (d : Fin 3) {p : Dev nD} (hp : p = par d c) {q : Sem sig} (hq : q = barS) {n : ℤ} (hn : n = ((1 : ℕ) : ℤ)) {O O' : CellTallies nD τ sig Unit}
    (hO : O = O' + tallyAt (barCell (par d c)) () 1)
    {α : Type} {Q : α → sProp 𝕄} {k : PUnit → Prog (TpuEff nD τ sig (Elt F) Λ₀ .tc) α} :
    iprop(recs P K ∗ (∃ W, owes (c : Thread nD τ) O W) ∗ dutyTok ER (barCell (par d c)) 0 d ∗ barPay d (par d c))
      ⊢ iprop(((∃ W, owes (c : Thread nD τ) O' W) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (p, .tc) q n) k) Q) := by
  subst hp hq hn
  iintro ⟨#Hrec, ⟨%W, HO⟩, Htok, Hpay⟩ Hk
  iapply (Rounds.wp_signal 𝒱₀ ER (sched P) (c : Thread nD τ) none (dst := (par d c : Thread nD τ)) (κ := K (par d c, none))
      (d := d) (by rw [duties_bar]; exact Finset.mem_univ _) (amount_bar P (par d c) d) () O' hO) $$ [HO Htok Hpay]
  · isplitr; · iapply (recs_inv P K (par d c, none)); iexact Hrec
    isplitl [HO]; · iexact HO
    isplitl [Htok]; · iexact Htok
    isplitl [Hpay]; · rw [payload_bar]; iexact Hpay
    iapply (recs_reached P K (par d c, none)); iexact Hrec
  iintro HO
  iapply Hk
  iexists _
  iexact HO

/-- Awaiting all three neighbours: the rows that the device's own transfers fill. -/
theorem wp_met {q : Sem sig} (hq : q = barS) {n : ℤ} (hn : n = ((3 : ℕ) : ℤ))
    {α : Type} {Q : α → sProp 𝕄} {k : PUnit → Prog (TpuEff nD τ sig (Elt F) Λ₀ .tc) α} :
    iprop(recs P K ∗ levAts L lv ∗ (∃ W, owes (c : Thread nD τ) (Orem 0 c) W) ∗ cred (tallyAt (barCell c) () 3) ∗ atPos ER (barCell c) 0 ∅ 0)
      ⊢ iprop((((∃ W, owes (c : Thread nD τ) (Orem 0 c) W) ∗ semVal (barCell c) 0 ∗ bigSep Finset.univ fun t => landAny t (par (td t) c))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait q n) k) Q) := by
  subst hq hn
  iintro ⟨#Hrec, #Hlev, ⟨%W, HO⟩, Hc, Hat⟩ Hk
  iapply (Rounds.wp_wait_rest_token 𝒱₀ ER (sched P) (c : Thread nD τ) none (κ := K (c, none))
      (wpE_semWait_eq 𝒱₀ (c : Thread nD τ) none Set.univ) (Set.mem_univ _) () (O := Orem 0 c) (W := W) (R := 0) (m := 0) (T := ∅)
      (by rw [expect_bar])) $$ [Hc HO Hat]
  · isplitr; · iapply (recs_inv P K (c, none)); iexact Hrec
    isplitl [Hc]; · iexact Hc
    isplitl [HO]; · iexact HO
    isplitr
    · iapply (mayWait_rem c (.reg barS) 0 (by rw [lv_bar]; omega)); iexact Hlev
    iexact Hat
  iintro ⟨HO, Hat, -, Hpay⟩
  ihave Hpay' := (Entails.of_eq (rest_bar P c)) $$ Hpay
  imod (Rounds.cell_close ER (sched P) (Set.mem_univ (K (c, none))) (fun h => h) (R := 0 + 1) (duties_later P (barCell c))) $$ [Hat] with Hz
  · isplitr; · iapply (recs_inv P K (c, none)); iexact Hrec
    iexact Hat
  iapply Hk
  isplitl [HO]; · iexists _; iexact HO
  isplitl [Hz]; · iexact Hz
  iapply (Entails.of_eq (barPays c))
  iexact Hpay'

theorem bigSep_three {Φ : Fin 3 → sProp 𝕄} : bigSep Finset.univ Φ = iprop(Φ 0 ∗ Φ 1 ∗ Φ 2) := by
  rw [show (Finset.univ : Finset (Fin 3)) = {0, 1, 2} from by decide, bigSep_ins (by decide), bigSep_ins (by decide), bigSep_singleton]

/-- The rows that the neighbours' transfers fill on a device, neighbour by neighbour. -/
theorem own_landing : (bigSep Finset.univ fun t => landAny (F := F) t c)
    ⊢ iprop(barPay 0 (par 0 c) ∗ barPay 1 (par 1 c) ∗ barPay 2 (par 2 c) : sProp 𝕄) := by
  rw [bigSep_fiberwise Finset.univ td, show Finset.univ.image td = Finset.univ from by decide, bigSep_three]
  unfold barPay
  simp only [par_par]
  exact Entails.refl _

/-- What a device holds of the protocol before it begins to send. -/
def tokens : sProp 𝕄 :=
  iprop((bigSep Finset.univ fun t => iprop(dutyTok ER (sCell c t) 0 0 ∗ dutyTok ER (rCell (par (td t) c) t) 0 0))
    ∗ (bigSep Finset.univ fun t => arriveOf c t) ∗ (bigSep Finset.univ fun t => atPos ER (sCell c t) 0 ∅ 0))

theorem start_of (t : Fin 18) : iprop((dutyTok ER (sCell c t) 0 0 ∗ dutyTok ER (rCell (par (td t) c) t) 0 0) ∗ landAny (F := F) t (par (td t) c))
    ⊢ (iprop(dutyTok ER (sCell c t) 0 0 ∗ dutyTok ER (rCell (par (td t) c) t) 0 0 ∗ landAny t (par (td t) c)) : sProp 𝕄) := by
  iintro ⟨⟨H1, H2⟩, H3⟩
  isplitl [H1]; · iexact H1
  isplitl [H2] <;> iassumption

/-- That, with the rows its transfers fill, is the protocol's state at the beginning. -/
theorem proto_begin :
    iprop(recs P K ∗ levAts L lv ∗ (∃ W, owes (c : Thread nD τ) (Orem 0 c) W) ∗ tokens c ∗ (bigSep Finset.univ fun t => landAny (F := F) t (par (td t) c)))
      ⊢ (proto2 P K c 0 0 0 : sProp 𝕄) := by
  unfold proto2 proto startOf tokens
  rw [show from' 0 = Finset.univ from by decide, show below 0 = ∅ from by decide, show below (min 0 9) = ∅ from by decide, show span 0 0 = ∅ from by decide]
  simp only [bigSep_empty]
  iintro ⟨#Hrec, #Hlev, HO, ⟨Htok, Harr, Hsnd⟩, Hland⟩
  isplitl
  · isplitr; · iexact Hrec
    isplitr; · iexact Hlev
    isplitl [HO]; · iexact HO
    isplitl [Htok Hland]
    · ihave H := (Entails.of_eq (bigSep_sep' (s := Finset.univ) (Φ := fun t => iprop(dutyTok ER (sCell c t) 0 0 ∗ dutyTok ER (rCell (par (td t) c) t) 0 0)) (Ψ := fun t => landAny (F := F) t (par (td t) c))).symm) $$ [Htok Hland]
      · isplitl [Htok] <;> iassumption
      iapply (bigSep_le fun t _ => start_of c t) $$ H
    isplitr; · iempintro
    isplitl [Harr]; · iexact Harr
    isplitr; · iempintro
    isplitl [Hsnd]; · iexact Hsnd
    iempintro
  isplitr <;> iempintro

/-! ## All the rows -/

theorem bigSep_nine {Φ : Fin 18 → sProp 𝕄} : bigSep (below 9) Φ = iprop(Φ 0 ∗ Φ 3 ∗ Φ 6 ∗ Φ 1 ∗ Φ 4 ∗ Φ 7 ∗ Φ 2 ∗ Φ 5 ∗ Φ 8) := by
  rw [show below 9 = {0, 3, 6, 1, 4, 7, 2, 5, 8} from by decide, bigSep_ins (by decide), bigSep_ins (by decide), bigSep_ins (by decide), bigSep_ins (by decide),
    bigSep_ins (by decide), bigSep_ins (by decide), bigSep_ins (by decide), bigSep_ins (by decide), bigSep_singleton]
theorem bigSep_nine' {Φ : Fin 18 → sProp 𝕄} : bigSep (from' 9) Φ = iprop(Φ 15 ∗ Φ 12 ∗ Φ 9 ∗ Φ 16 ∗ Φ 13 ∗ Φ 10 ∗ Φ 17 ∗ Φ 14 ∗ Φ 11) := by
  rw [show from' 9 = {15, 12, 9, 16, 13, 10, 17, 14, 11} from by decide, bigSep_ins (by decide), bigSep_ins (by decide), bigSep_ins (by decide), bigSep_ins (by decide),
    bigSep_ins (by decide), bigSep_ins (by decide), bigSep_ins (by decide), bigSep_ins (by decide), bigSep_singleton]
theorem bigSep_halves {Φ : Fin 18 → sProp 𝕄} : bigSep Finset.univ Φ = iprop(bigSep (below 9) Φ ∗ bigSep (from' 9) Φ) := by
  rw [show (Finset.univ : Finset (Fin 18)) = below 9 ∪ from' 9 from by decide, bigSep_union (by decide)]; rfl

/-- A landing buffer is the three rows that arrive in it. -/
theorem stg_slots (j : Fin 3) : (rowsAny (F := F) (stgM j) c 0 (stgR j) : sProp 𝕄)
    ⊢ iprop(rowsAny (stgM j) c (slot j 0) (half j 0) ∗ rowsAny (stgM j) c (slot j 1) (half j 1) ∗ rowsAny (stgM j) c (slot j 2) (half j 2)) := by
  have e : (rowsAny (F := F) (stgM j) c 0 (stgR j) : sProp 𝕄) = rowsAny (stgM j) c 0 (half j 0 + (half j 1 + half j 2)) :=
    congrArg (rowsAny (stgM j) c 0) (by revert j; decide)
  iintro H
  ihave H := (Entails.of_eq e) $$ H
  ihave H' := (rowsAny_split (stgM j) c 0 (half j 0) (half j 1 + half j 2)) $$ H
  icases H' with ⟨H0, H⟩
  ihave H := (Entails.of_eq (congrArg (fun lo => rowsAny (F := F) (stgM j) c lo (half j 1 + half j 2)) (Nat.zero_add (half j 0)))) $$ H
  ihave H' := (rowsAny_split (stgM j) c (half j 0) (half j 1) (half j 2)) $$ H
  icases H' with ⟨H1, H2⟩
  unfold slot
  isplitl [H0]; · iexact H0
  isplitl [H1]; · iexact H1
  iexact H2
/-- And back. -/
theorem slots_stg (j : Fin 3) :
    iprop(rowsAny (stgM j) c (slot j 0) (half j 0) ∗ rowsAny (stgM j) c (slot j 1) (half j 1) ∗ rowsAny (stgM j) c (slot j 2) (half j 2))
      ⊢ (rowsAny (F := F) (stgM j) c 0 (stgR j) : sProp 𝕄) := by
  have e : (rowsAny (F := F) (stgM j) c 0 (half j 0 + (half j 1 + half j 2)) : sProp 𝕄) = rowsAny (stgM j) c 0 (stgR j) :=
    congrArg (rowsAny (stgM j) c 0) (by revert j; decide)
  have e' : (rowsAny (F := F) (stgM j) c (half j 0) (half j 1 + half j 2) : sProp 𝕄) = rowsAny (stgM j) c (0 + half j 0) (half j 1 + half j 2) :=
    congrArg (fun lo => rowsAny (stgM j) c lo (half j 1 + half j 2)) (Nat.zero_add (half j 0)).symm
  unfold slot
  iintro ⟨H0, H1, H2⟩
  iapply (Entails.of_eq e)
  iapply (rowsAny_join (stgM j) c 0 (half j 0) (half j 1 + half j 2))
  isplitl [H0]; · iexact H0
  iapply (Entails.of_eq e')
  iapply (rowsAny_join (stgM j) c (half j 0) (half j 1) (half j 2))
  isplitl [H1]; · iexact H1
  iexact H2

/-- The rows of a 1024-row buffer are those of the three parts. -/
theorem parts_split (X : ℕ → ℕ → sProp 𝕄) (split : ∀ (lo a b : ℕ), X lo (a + b) ⊢ iprop(X lo a ∗ X (lo + a) b)) :
    X 0 1024 ⊢ iprop(X (offP 0) (rowsP 0) ∗ X (offP 1) (rowsP 1) ∗ X (offP 2) (rowsP 2)) := by
  have key : X 0 (384 + (384 + 256)) ⊢ iprop(X 0 384 ∗ X (0 + 384) 384 ∗ X (0 + 384 + 384) 256) := by
    iintro H
    ihave H' := (split 0 384 (384 + 256)) $$ H
    icases H' with ⟨H0, H⟩
    ihave H' := (split (0 + 384) 384 256) $$ H
    icases H' with ⟨H1, H2⟩
    isplitl [H0]; · iexact H0
    isplitl [H1]; · iexact H1
    iexact H2
  exact key
theorem parts_join (X : ℕ → ℕ → sProp 𝕄) (join : ∀ (lo a b : ℕ), iprop(X lo a ∗ X (lo + a) b) ⊢ X lo (a + b)) :
    iprop(X (offP 0) (rowsP 0) ∗ X (offP 1) (rowsP 1) ∗ X (offP 2) (rowsP 2)) ⊢ X 0 1024 := by
  have key : iprop(X 0 384 ∗ X (0 + 384) 384 ∗ X (0 + 384 + 384) 256) ⊢ X 0 (384 + (384 + 256)) := by
    iintro ⟨H0, H1, H2⟩
    iapply (join 0 384 (384 + 256))
    isplitl [H0]; · iexact H0
    iapply (join (0 + 384) 384 256)
    isplitl [H1]; · iexact H1
    iexact H2
  exact key

/-- One part is the rows sent in each round and those kept to the end. -/
theorem part_split (X : ℕ → ℕ → sProp 𝕄) (split : ∀ (lo a b : ℕ), X lo (a + b) ⊢ iprop(X lo a ∗ X (lo + a) b)) (j : Fin 3) :
    X (offP j) (rowsP j) ⊢ iprop(X (sent j 0 c) (half j 0) ∗ X (sent j 1 c) (half j 1) ∗ X (sent j 2 c) (half j 2) ∗ X (kept j 2 c) (half j 2)) := by
  iintro H
  ihave H' := (cut0 X split j c) $$ H
  icases H' with ⟨H0, H⟩
  ihave H' := (cut1 X split j c) $$ H
  icases H' with ⟨H1, H⟩
  ihave H' := (cut2 X split j c) $$ H
  icases H' with ⟨H2, H⟩
  isplitl [H0]; · iexact H0
  isplitl [H1]; · iexact H1
  isplitl [H2]; · iexact H2
  iexact H
theorem part_join (X : ℕ → ℕ → sProp 𝕄) (join : ∀ (lo a b : ℕ), iprop(X lo a ∗ X (lo + a) b) ⊢ X lo (a + b)) (j : Fin 3) :
    iprop(X (sent j 0 c) (half j 0) ∗ X (sent j 1 c) (half j 1) ∗ X (sent j 2 c) (half j 2) ∗ X (kept j 2 c) (half j 2)) ⊢ X (offP j) (rowsP j) := by
  iintro ⟨H0, H1, H2, H⟩
  iapply (glue0 X join j c)
  isplitl [H0]; · iexact H0
  iapply (glue1 X join j c)
  isplitl [H1]; · iexact H1
  iapply (glue2 X join j c)
  isplitl [H2]; · iexact H2
  iexact H

theorem landAny_nine : (bigSep (below 9) fun t => landAny (F := F) t c)
    = (iprop(rowsAny (stgM 0) c (slot 0 0) (half 0 0) ∗ rowsAny (stgM 0) c (slot 0 1) (half 0 1) ∗ rowsAny (stgM 0) c (slot 0 2) (half 0 2)
      ∗ rowsAny (stgM 1) c (slot 1 0) (half 1 0) ∗ rowsAny (stgM 1) c (slot 1 1) (half 1 1) ∗ rowsAny (stgM 1) c (slot 1 2) (half 1 2)
      ∗ rowsAny (stgM 2) c (slot 2 0) (half 2 0) ∗ rowsAny (stgM 2) c (slot 2 1) (half 2 1) ∗ rowsAny (stgM 2) c (slot 2 2) (half 2 2)) : sProp 𝕄) :=
  bigSep_nine.trans rfl
theorem landAny_nine' : (bigSep (from' 9) fun t => landAny (F := F) t c)
    = (iprop(rowsAny outM c (sent 0 0 c) (half 0 0) ∗ rowsAny outM c (sent 0 1 c) (half 0 1) ∗ rowsAny outM c (sent 0 2 c) (half 0 2)
      ∗ rowsAny outM c (sent 1 0 c) (half 1 0) ∗ rowsAny outM c (sent 1 1 c) (half 1 1) ∗ rowsAny outM c (sent 1 2 c) (half 1 2)
      ∗ rowsAny outM c (sent 2 0 c) (half 2 0) ∗ rowsAny outM c (sent 2 1 c) (half 2 1) ∗ rowsAny outM c (sent 2 2 c) (half 2 2)) : sProp 𝕄) :=
  bigSep_nine'.trans rfl

/-- The landing buffers and the result are the rows that the neighbours' transfers fill, and the rows of the result
    that the device finishes itself. -/
theorem landings :
    iprop((bigSep Finset.univ fun j => rowsAny (F := F) (stgM j) c 0 (stgR j)) ∗ rowsAny (F := F) outM c 0 1024)
      ⊢ (iprop((bigSep Finset.univ fun t => landAny t c) ∗ (bigSep Finset.univ fun j => rowsAny outM c (kept j 2 c) (half j 2))) : sProp 𝕄) := by
  rw [bigSep_halves, landAny_nine, landAny_nine', bigSep_three, bigSep_three]
  iintro ⟨⟨S0, S1, S2⟩, Ho⟩
  ihave H := (stg_slots c 0) $$ S0
  icases H with ⟨A0, A1, A2⟩
  ihave H := (stg_slots c 1) $$ S1
  icases H with ⟨B0, B1, B2⟩
  ihave H := (stg_slots c 2) $$ S2
  icases H with ⟨C0, C1, C2⟩
  ihave H := (parts_split (rowsAny outM c) (rowsAny_split outM c)) $$ Ho
  icases H with ⟨O0, O1, O2⟩
  ihave H := (part_split c (rowsAny outM c) (rowsAny_split outM c) 0) $$ O0
  icases H with ⟨D0, D1, D2, D3⟩
  ihave H := (part_split c (rowsAny outM c) (rowsAny_split outM c) 1) $$ O1
  icases H with ⟨E0, E1, E2, E3⟩
  ihave H := (part_split c (rowsAny outM c) (rowsAny_split outM c) 2) $$ O2
  icases H with ⟨F0, F1, F2, F3⟩
  isplitr [D3 E3 F3]
  rotate_left
  · isplitl [D3]; · iexact D3
    isplitl [E3]; · iexact E3
    iexact F3
  isplitl [A0 A1 A2 B0 B1 B2 C0 C1 C2]
  · isplitl [A0]; · iexact A0
    isplitl [A1]; · iexact A1
    isplitl [A2]; · iexact A2
    isplitl [B0]; · iexact B0
    isplitl [B1]; · iexact B1
    isplitl [B2]; · iexact B2
    isplitl [C0]; · iexact C0
    isplitl [C1]; · iexact C1
    iexact C2
  isplitl [D0]; · iexact D0
  isplitl [D1]; · iexact D1
  isplitl [D2]; · iexact D2
  isplitl [E0]; · iexact E0
  isplitl [E1]; · iexact E1
  isplitl [E2]; · iexact E2
  isplitl [F0]; · iexact F0
  isplitl [F1]; · iexact F1
  iexact F2

/-- All that arrived for the sums is the landing buffers again. -/
theorem landed : (bigSep (below 9) fun t => recvPay P t c) ⊢ (bigSep Finset.univ fun j => rowsAny (F := F) (stgM j) c 0 (stgR j) : sProp 𝕄) := by
  have any : ∀ t ∈ below 9, recvPay P t c ⊢ (landAny t c : sProp 𝕄) := fun t ht => by
    have h : t.val < 9 := (Finset.mem_filter.mp ht).2
    unfold recvPay landAny
    rw [if_pos h, if_pos h]
    exact rowsPts_any _ c _ _ _
  iintro H
  ihave H := (bigSep_le any) $$ H
  ihave H := (Entails.of_eq (landAny_nine c)) $$ H
  icases H with ⟨A0, A1, A2, B0, B1, B2, C0, C1, C2⟩
  iapply (Entails.of_eq (bigSep_three (Φ := fun j => rowsAny (F := F) (stgM j) c 0 (stgR j))).symm)
  isplitl [A0 A1 A2]
  · iapply (slots_stg c 0)
    isplitl [A0]; · iexact A0
    isplitl [A1]; · iexact A1
    iexact A2
  isplitl [B0 B1 B2]
  · iapply (slots_stg c 1)
    isplitl [B0]; · iexact B0
    isplitl [B1]; · iexact B1
    iexact B2
  iapply (slots_stg c 2)
  isplitl [C0]; · iexact C0
  isplitl [C1]; · iexact C1
  iexact C2

/-- The rows of the accumulator that came back from departures, with those kept, are the accumulator again. -/
theorem acc_back : iprop((bigSep (below 9) fun t => sendPay P t c) ∗ (bigSep Finset.univ fun j => rowsPts accM c fullShare (kept j 2 c) (half j 2) (A P c j 3)))
    ⊢ (rowsAny (F := F) accM c 0 1024 : sProp 𝕄) := by
  have any : ∀ t ∈ below 9, sendPay P t c ⊢ (rowsAny accM c (sent (tj t) (tr t) c) (half (tj t) (tr t)) : sProp 𝕄) := fun t ht => by
    have h : t.val < 9 := (Finset.mem_filter.mp ht).2
    unfold sendPay
    rw [if_pos h]
    exact rowsPts_any _ c _ _ _
  have e : (bigSep (below 9) fun t => rowsAny (F := F) accM c (sent (tj t) (tr t) c) (half (tj t) (tr t)))
    = (iprop(rowsAny accM c (sent 0 0 c) (half 0 0) ∗ rowsAny accM c (sent 0 1 c) (half 0 1) ∗ rowsAny accM c (sent 0 2 c) (half 0 2)
      ∗ rowsAny accM c (sent 1 0 c) (half 1 0) ∗ rowsAny accM c (sent 1 1 c) (half 1 1) ∗ rowsAny accM c (sent 1 2 c) (half 1 2)
      ∗ rowsAny accM c (sent 2 0 c) (half 2 0) ∗ rowsAny accM c (sent 2 1 c) (half 2 1) ∗ rowsAny accM c (sent 2 2 c) (half 2 2)) : sProp 𝕄) :=
    bigSep_nine.trans rfl
  have e' : (bigSep Finset.univ fun j => rowsAny (F := F) accM c (kept j 2 c) (half j 2))
    = (iprop(rowsAny accM c (kept 0 2 c) (half 0 2) ∗ rowsAny accM c (kept 1 2 c) (half 1 2) ∗ rowsAny accM c (kept 2 2 c) (half 2 2)) : sProp 𝕄) := bigSep_three
  iintro ⟨H, H'⟩
  ihave H := (bigSep_le any) $$ H
  ihave H' := (bigSep_le fun j _ => rowsPts_any accM c (kept j 2 c) (half j 2) (A P c j 3)) $$ H'
  ihave H := (Entails.of_eq e) $$ H
  ihave H' := (Entails.of_eq e') $$ H'
  icases H with ⟨A0, A1, A2, B0, B1, B2, C0, C1, C2⟩
  icases H' with ⟨A3, B3, C3⟩
  iapply (parts_join (rowsAny accM c) (rowsAny_join accM c))
  isplitl [A0 A1 A2 A3]
  · iapply (part_join c (rowsAny accM c) (rowsAny_join accM c) 0)
    isplitl [A0]; · iexact A0
    isplitl [A1]; · iexact A1
    isplitl [A2]; · iexact A2
    iexact A3
  isplitl [B0 B1 B2 B3]
  · iapply (part_join c (rowsAny accM c) (rowsAny_join accM c) 1)
    isplitl [B0]; · iexact B0
    isplitl [B1]; · iexact B1
    isplitl [B2]; · iexact B2
    iexact B3
  iapply (part_join c (rowsAny accM c) (rowsAny_join accM c) 2)
  isplitl [C0]; · iexact C0
  isplitl [C1]; · iexact C1
  isplitl [C2]; · iexact C2
  iexact C3

end Cert.Cube

end
-- ==== Proof.Gather.lean ====
/-
# The shares of the finished rows

A device sends its finished rows on while it reads them itself, and sends rows that arrived on to the next neighbour. A
third of each row's share goes with each round: here is how the shares are cut for a round, and how what came back and
what was left is the whole part again.
-/
module

public import proofs.«01_k».proof.Proof.Meet

@[expose] public section

noncomputable section

namespace Cert.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → ℕ → ℕ → Elt F .f32) (c : Dev nD) (j : Fin 3)

/-- Finished rows of the result, of share `q`. -/
abbrev fin (q : PosShare TreeShare) (lo n : ℕ) : sProp 𝕄 := rowsPts outM c q lo n (O P)

theorem fin_split (q : PosShare TreeShare) (lo a b : ℕ) : fin P c q lo (a + b) ⊢ (iprop(fin P c q lo a ∗ fin P c q (lo + a) b) : sProp 𝕄) :=
  rowsPts_split outM c q lo a b (O P)
theorem fin_join (q : PosShare TreeShare) (lo a b : ℕ) : iprop(fin P c q lo a ∗ fin P c q (lo + a) b) ⊢ (fin P c q lo (a + b) : sProp 𝕄) :=
  rowsPts_join outM c q lo a b (O P)
theorem fin_halve (q : PosShare TreeShare) (lo n : ℕ) : fin P c q lo n ⊢ (iprop(fin P c q.left lo n ∗ fin P c q.right lo n) : sProp 𝕄) :=
  rowsPts_halve outM c q lo n (O P)
theorem fin_unhalve (q : PosShare TreeShare) (lo n : ℕ) : iprop(fin P c q.left lo n ∗ fin P c q.right lo n) ⊢ (fin P c q lo n : sProp 𝕄) :=
  rowsPts_unhalve outM c q lo n (O P)

/-- The first round's share of the rows kept to the end. -/
theorem share_two : rowsPts outM c fullShare (kept j 2 c) (half j 2) (O P)
    ⊢ (iprop(rowsPts outM c (gshare 2) (kept j 2 c) (half j 2) (O P) ∗ fin P c fullShare.right (kept j 2 c) (half j 2)) : sProp 𝕄) :=
  fin_halve P c fullShare _ _

/-- The second round's share, once the first round's rows are in. -/
theorem share_one : iprop(fin P c fullShare.right (kept j 2 c) (half j 2) ∗ rowsPts outM c fullShare (sent j 2 c) (half j 2) (O P))
    ⊢ (iprop(rowsPts outM c (gshare 1) (kept j 1 c) (half j 1) (O P) ∗ fin P c fullShare.right.right (kept j 1 c) (half j 1) ∗ fin P c fullShare.left (sent j 2 c) (half j 2)) : sProp 𝕄) := by
  rw [show gshare 1 = fullShare.right.left from rfl]
  have h := fin_halve P c fullShare (sent j 2 c) (half j 2)
  have g := glue2 (fin P c fullShare.right) (fin_join P c fullShare.right) j c
  have h' := fin_halve P c fullShare.right (kept j 1 c) (half j 1)
  iintro ⟨Hk, Hs⟩
  ihave H := h $$ Hs
  icases H with ⟨Hl, Hr⟩
  ihave H := g $$ [Hk Hr]
  · isplitl [Hr] <;> iassumption
  ihave H := h' $$ H
  icases H with ⟨H1, H2⟩
  isplitl [H1]; · iexact H1
  isplitl [H2] <;> iassumption

/-- The last round's share, once the second round's rows are in. -/
theorem share_zero : iprop(fin P c fullShare.right.right (kept j 1 c) (half j 1) ∗ rowsPts outM c fullShare (sent j 1 c) (half j 1) (O P))
    ⊢ (iprop(rowsPts outM c (gshare 0) (kept j 0 c) (half j 0) (O P) ∗ fin P c fullShare.left (sent j 1 c) (half j 1) ∗ fin P c fullShare.right.left (sent j 1 c) (half j 1)) : sProp 𝕄) := by
  rw [show gshare 0 = fullShare.right.right from rfl]
  have h := fin_halve P c fullShare (sent j 1 c) (half j 1)
  have h' := fin_halve P c fullShare.right (sent j 1 c) (half j 1)
  have g := glue1 (fin P c fullShare.right.right) (fin_join P c fullShare.right.right) j c
  iintro ⟨Hk, Hs⟩
  ihave H := h $$ Hs
  icases H with ⟨Hl, Hr⟩
  ihave H := h' $$ Hr
  icases H with ⟨Hrl, Hrr⟩
  ihave H := g $$ [Hk Hrr]
  · isplitl [Hrr] <;> iassumption
  isplitl [H]; · iexact H
  isplitl [Hl] <;> iassumption

/-- What is left of the finished rows of part `j` once the last round's rows are in. -/
def leftOver : sProp 𝕄 :=
  iprop(fin P c fullShare.left (sent j 2 c) (half j 2) ∗ fin P c fullShare.left (sent j 1 c) (half j 1) ∗ fin P c fullShare.right.left (sent j 1 c) (half j 1)
    ∗ fin P c fullShare (sent j 0 c) (half j 0))

/-- What came back and what was left is the whole part. -/
theorem part_back : iprop(leftOver P c j ∗ fin P c fullShare.right.right (kept j 0 c) (half j 0) ∗ fin P c fullShare.right.left (kept j 1 c) (half j 1) ∗ fin P c fullShare.left (kept j 2 c) (half j 2))
    ⊢ (fin P c fullShare (offP j) (rowsP j) : sProp 𝕄) := by
  have g2 := glue2 (fin P c fullShare.left) (fin_join P c fullShare.left) j c
  have g1 := glue1 (fin P c fullShare.left) (fin_join P c fullShare.left) j c
  have g1' := glue1 (fin P c fullShare.right.left) (fin_join P c fullShare.right.left) j c
  have g0 := glue0 (fin P c fullShare) (fin_join P c fullShare) j c
  have u' := fin_unhalve P c fullShare.right (kept j 0 c) (half j 0)
  have u := fin_unhalve P c fullShare (kept j 0 c) (half j 0)
  unfold leftOver
  iintro ⟨⟨A, B, C, D⟩, E, G, I⟩
  iapply g0
  isplitl [D]; · iexact D
  iapply u
  isplitl [A B I]
  · iapply g1
    isplitl [B]; · iexact B
    iapply g2
    isplitl [A] <;> iassumption
  iapply u'
  isplitl [C G]
  · iapply g1'
    isplitl [C] <;> iassumption
  iexact E

/-- All the finished rows. -/
theorem out_back : iprop((bigSep Finset.univ fun j => leftOver P c j) ∗ (bigSep (from' 9) fun t => sendPay P t c))
    ⊢ (rowsPts outM c fullShare 0 1024 (O P) : sProp 𝕄) := by
  have e : (bigSep (from' 9) fun t => sendPay P t c)
    = (iprop(fin P c fullShare.right.right (kept 0 0 c) (half 0 0) ∗ fin P c fullShare.right.left (kept 0 1 c) (half 0 1) ∗ fin P c fullShare.left (kept 0 2 c) (half 0 2)
      ∗ fin P c fullShare.right.right (kept 1 0 c) (half 1 0) ∗ fin P c fullShare.right.left (kept 1 1 c) (half 1 1) ∗ fin P c fullShare.left (kept 1 2 c) (half 1 2)
      ∗ fin P c fullShare.right.right (kept 2 0 c) (half 2 0) ∗ fin P c fullShare.right.left (kept 2 1 c) (half 2 1) ∗ fin P c fullShare.left (kept 2 2 c) (half 2 2)) : sProp 𝕄) :=
    bigSep_nine'.trans rfl
  have e' : (bigSep Finset.univ fun j => leftOver P c j) = (iprop(leftOver P c 0 ∗ leftOver P c 1 ∗ leftOver P c 2) : sProp 𝕄) := bigSep_three
  have last := parts_join (fin P c fullShare) (fin_join P c fullShare)
  iintro ⟨H, H'⟩
  ihave H := (Entails.of_eq e') $$ H
  ihave H' := (Entails.of_eq e) $$ H'
  icases H with ⟨L0, L1, L2⟩
  icases H' with ⟨A0, A1, A2, B0, B1, B2, C0, C1, C2⟩
  iapply last
  isplitl [L0 A0 A1 A2]
  · iapply (part_back P c 0)
    isplitl [L0]; · iexact L0
    isplitl [A0]; · iexact A0
    isplitl [A1] <;> iassumption
  isplitl [L1 B0 B1 B2]
  · iapply (part_back P c 1)
    isplitl [L1]; · iexact L1
    isplitl [B0]; · iexact B0
    isplitl [B1] <;> iassumption
  iapply (part_back P c 2)
  isplitl [L2]; · iexact L2
  isplitl [C0]; · iexact C0
  isplitl [C1] <;> iassumption

end Cert.Cube

end
-- ==== Proof.Contents.lean ====
/-
# What a device computes from its blocks

The five blocks a device loads, the attention it computes from them head by head, and the rows of its partial product
that it stores: `part I`. `at'` puts a piece of the kernel at the kernel's own buffers.
-/
module

public import proofs.«01_k».proof.Proof.Gather

@[expose] public section

noncomputable section

namespace Cert.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A piece of the kernel at the kernel's buffers. -/
abbrev at' {β : Sort _} (f : grid0.Coords → (arg1 : Memref sig .tc .vmem S1024x1024 .f32) → arg1.IsWhole → (arg2 : Memref sig .tc .vmem S1024x1024 .f32) → arg2.IsWhole → (arg3 : Memref sig .tc .vmem S1024x8x128 .f32) → arg3.IsWhole → (arg4 : Memref sig .tc .vmem S1024x8x128 .f32) → arg4.IsWhole → (arg5 : Memref sig .tc .vmem S1024x1024 .f32) → arg5.IsWhole → (arg6 : Memref sig .tc .vmem S1024x1024 .f32) → arg6.IsWhole → (arg7 : Memref sig .tc .vmem S1024x1024 .f32) → arg7.IsWhole → (arg8 : Memref sig .tc .vmem S336x1024 .f32) → arg8.IsWhole → (arg9 : Memref sig .tc .vmem S336x1024 .f32) → arg9.IsWhole → (arg10 : Memref sig .tc .vmem S224x1024 .f32) → arg10.IsWhole → DmaSems sig S3x3 → DmaSems sig S3x3 → DmaSems sig S3x3 → DmaSems sig S3x3 → β)
    (i : grid0.Coords) : β :=
  f i (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7

/-- The blocks a device loads. -/
structure Ins (F : FTy → Type) where
  x : (cc0_stg0_0 : Ref sig .tc).ty.Contents (Elt F)
  wq : (cc0_stg1_0 : Ref sig .tc).ty.Contents (Elt F)
  k : (cc0_stg2_0 : Ref sig .tc).ty.Contents (Elt F)
  v : (cc0_stg3_0 : Ref sig .tc).ty.Contents (Elt F)
  wo : (cc0_stg4_0 : Ref sig .tc).ty.Contents (Elt F)

namespace Ins

variable (I : Ins F)

/-- The activations, as loaded. -/
abbrev X : Vec F S1024x1024 .f32 := (Memref.whole cc0_stg0_0 : Memref sig .tc .vmem S1024x1024 .f32).view.readAt (Elt F) (Rect.unit (s := S1024x1024) ![0, 0] S1024x1024.size inb_S1024x1024_S1024x1024_0_0).toLoadRect I.x
/-- The query weights, as loaded. -/
abbrev Wq : Vec F S1024x1024 .f32 := (Memref.whole cc0_stg1_0 : Memref sig .tc .vmem S1024x1024 .f32).view.readAt (Elt F) (Rect.unit (s := S1024x1024) ![0, 0] S1024x1024.size inb_S1024x1024_S1024x1024_0_0).toLoadRect I.wq
/-- The output weights, as loaded. -/
abbrev Wo : Vec F S1024x1024 .f32 := (Memref.whole cc0_stg4_0 : Memref sig .tc .vmem S1024x1024 .f32).view.readAt (Elt F) (Rect.unit (s := S1024x1024) ![0, 0] S1024x1024.size inb_S1024x1024_S1024x1024_0_0).toLoadRect I.wo
/-- The keys of head `h`, as loaded. -/
abbrev Kh (h : ℕ) (inb : ∀ a, ![0, h, 0] a + S1024x1x128.size a ≤ S1024x8x128.size a) : Vec F S1024x1x128 .f32 :=
  (Memref.whole cc0_stg2_0 : Memref sig .tc .vmem S1024x8x128 .f32).view.readAt (Elt F) (Rect.unit (s := S1024x8x128) ![0, h, 0] S1024x1x128.size inb).toLoadRect I.k
/-- The values of head `h`, as loaded. -/
abbrev Vh (h : ℕ) (inb : ∀ a, ![0, h, 0] a + S1024x1x128.size a ≤ S1024x8x128.size a) : Vec F S1024x1x128 .f32 :=
  (Memref.whole cc0_stg3_0 : Memref sig .tc .vmem S1024x8x128 .f32).view.readAt (Elt F) (Rect.unit (s := S1024x8x128) ![0, h, 0] S1024x1x128.size inb).toLoadRect I.v

/-- The queries, and the mask. -/
abbrev v81 : FVec F S1024x1024 .f32 := k0_pay1 I.X I.Wq
abbrev v93 : IVec S1024x1024 1 := k0_pay2
/-- What each head attends to, as the kernel computes it. -/
abbrev v109 : FVec F S1024x128 .f32 := k0_pay6 (k0_pay3 (I.Vh 0 inb_S1024x8x128_S1024x1x128_0_0_0)) (k0_pay4 I.X I.Wq (I.Kh 0 inb_S1024x8x128_S1024x1x128_0_0_0)) (k0_pay5 I.X I.Wq (I.Kh 0 inb_S1024x8x128_S1024x1x128_0_0_0))
abbrev v125 : FVec F S1024x128 .f32 := k0_pay7 I.v81 v93 (I.Kh 1 inb_S1024x8x128_S1024x1x128_0_1_0) (I.Vh 1 inb_S1024x8x128_S1024x1x128_0_1_0)
abbrev v141 : FVec F S1024x128 .f32 := k0_pay8 I.v81 v93 (I.Kh 2 inb_S1024x8x128_S1024x1x128_0_2_0) (I.Vh 2 inb_S1024x8x128_S1024x1x128_0_2_0)
abbrev v157 : FVec F S1024x128 .f32 := k0_pay10 v93 (k0_pay9 I.v81) (I.Kh 3 inb_S1024x8x128_S1024x1x128_0_3_0) (I.Vh 3 inb_S1024x8x128_S1024x1x128_0_3_0)
abbrev v173 : FVec F S1024x128 .f32 := k0_pay11 I.v81 v93 (I.Kh 4 inb_S1024x8x128_S1024x1x128_0_4_0) (I.Vh 4 inb_S1024x8x128_S1024x1x128_0_4_0)
abbrev v189 : FVec F S1024x128 .f32 := k0_pay14 v93 (k0_pay12 I.v81) (k0_pay13 (I.Kh 5 inb_S1024x8x128_S1024x1x128_0_5_0)) (I.Vh 5 inb_S1024x8x128_S1024x1x128_0_5_0)
abbrev v205 : FVec F S1024x128 .f32 := k0_pay15 I.v81 v93 (I.Kh 6 inb_S1024x8x128_S1024x1x128_0_6_0) (I.Vh 6 inb_S1024x8x128_S1024x1x128_0_6_0)
abbrev v210 : FVec F S1024x128 .f32 := k0_pay16 (I.Vh 7 inb_S1024x8x128_S1024x1x128_0_7_0)
abbrev v211 : FVec F S1024x1024 .f32 := k0_pay17 I.v81 (I.Kh 7 inb_S1024x8x128_S1024x1x128_0_7_0)
abbrev cst : F .f32 := Scalar.ofBits .f32 0x3DB504F3#32
/-- The heads side by side. -/
abbrev v222 : FVec F S1024x1024 .f32 := k0_pay18 v93 I.v109 I.v125 I.v141 I.v157 I.v173 I.v189 I.v205 I.v210 I.v211 cst

/-- The rows of the partial product, part by part. -/
abbrev p0 : FVec F S384x1024 .f32 := k0_pay19 v93 I.v109 I.v125 I.v141 I.v157 I.v173 I.v189 I.v205 I.v210 I.v211 cst I.Wo
abbrev v244 : FVec F S384x1024 .f32 := k0_pay20 v93 I.v109 I.v125 I.v141 I.v157 I.v173 I.v189 I.v205 I.v210 I.v211 cst I.Wo
abbrev p1 : FVec F S384x1024 .f32 := k0_pay21 I.v244
abbrev p2 : FVec F S256x1024 .f32 := k0_pay22 I.v222 I.Wo

end Ins

/-- An index of an `R`-row array, from two numbers. -/
def ix (R : ℕ) (hR : 0 < R) (i k : ℕ) : (⟨2, ![R, 1024]⟩ : Shape).Idx := fun a => match a with
  | ⟨0, _⟩ => (⟨i % R, Nat.mod_lt _ hR⟩ : Fin R)
  | ⟨1, _⟩ => (⟨k % 1024, Nat.mod_lt _ (by decide)⟩ : Fin 1024)

theorem ix_val (R : ℕ) (hR : 0 < R) (x : (⟨2, ![R, 1024]⟩ : Shape).Idx) : ix R hR (x (0 : Fin 2)).val (x (1 : Fin 2)).val = x := by
  funext a
  match a with
  | ⟨0, _⟩ => exact Fin.ext (Nat.mod_eq_of_lt (x (0 : Fin 2)).isLt)
  | ⟨1, _⟩ => exact Fin.ext (Nat.mod_eq_of_lt (x (1 : Fin 2)).isLt)

/-- The partial product that a device stores, row `i`, column `k`. -/
def part (I : Ins F) (i k : ℕ) : Elt F .f32 :=
  if i < 384 then I.p0 (ix 384 (by decide) i k)
  else if i < 768 then I.p1 (ix 384 (by decide) (i - 384) k)
  else I.p2 (ix 256 (by decide) (i - 768) k)

theorem part_0 (I : Ins F) (x : S384x1024.Idx) : I.p0 x = part I (0 + (x (0 : Fin 2)).val) (x (1 : Fin 2)).val := by
  have h : (x (0 : Fin 2)).val < 384 := (x (0 : Fin 2)).isLt
  unfold part
  rw [Nat.zero_add, if_pos h, show ix 384 (by decide) (x (0 : Fin 2)).val (x (1 : Fin 2)).val = x from ix_val 384 (by decide) x]
theorem part_1 (I : Ins F) (x : S384x1024.Idx) : I.p1 x = part I (384 + (x (0 : Fin 2)).val) (x (1 : Fin 2)).val := by
  have h : (x (0 : Fin 2)).val < 384 := (x (0 : Fin 2)).isLt
  unfold part
  rw [if_neg (by omega), if_pos (by omega), Nat.add_sub_cancel_left, show ix 384 (by decide) (x (0 : Fin 2)).val (x (1 : Fin 2)).val = x from ix_val 384 (by decide) x]
theorem part_2 (I : Ins F) (x : S256x1024.Idx) : I.p2 x = part I (768 + (x (0 : Fin 2)).val) (x (1 : Fin 2)).val := by
  unfold part
  rw [if_neg (by omega), if_neg (by omega), Nat.add_sub_cancel_left, show ix 256 (by decide) (x (0 : Fin 2)).val (x (1 : Fin 2)).val = x from ix_val 256 (by decide) x]

/-- The blocks of device `c`, held. -/
def inputs (c : Dev nD) (I : Ins F) : sProp 𝕄 :=
  iprop(((c : Thread nD τ).loc cc0_stg0_0 ↦{fullShare} I.x) ∗ ((c : Thread nD τ).loc cc0_stg1_0 ↦{fullShare} I.wq)
    ∗ ((c : Thread nD τ).loc cc0_stg2_0 ↦{fullShare} I.k) ∗ ((c : Thread nD τ).loc cc0_stg3_0 ↦{fullShare} I.v) ∗ ((c : Thread nD τ).loc cc0_stg4_0 ↦{fullShare} I.wo))

section Loads

variable (c : Dev nD) (I : Ins F)

/-- Loading the activations; the query weights; the keys; the values; the output weights. -/
theorem wp_x {α : Type} {Q : α → sProp 𝕄} {r : LoadRect S1024x1024} {hl} {k : (r.shape.Idx → Elt F .f32) → Prog (TpuEff nD τ sig (Elt F) Λ₀ .tc) α} :
    inputs c I ⊢ iprop((inputs c I -∗ wp frame (wpE (defs₀ (F := F)) 𝒱₀ (c : Thread nD τ) none) Set.univ (k ((Memref.whole cc0_stg0_0 : Memref sig .tc .vmem S1024x1024 .f32).view.readAt (Elt F) r I.x)) Q)
      -∗ wp frame (wpE (defs₀ (F := F)) 𝒱₀ (c : Thread nD τ) none) Set.univ (.op (.load (Memref.whole cc0_stg0_0 : Memref sig .tc .vmem S1024x1024 .f32) r hl) k) Q) := by
  unfold inputs
  iintro ⟨H0, H1, H2, H3, H4⟩ Hk
  iapply (wp_load 𝒱₀ (c : Thread nD τ) none Set.univ (m := (Memref.whole cc0_stg0_0 : Memref sig .tc .vmem S1024x1024 .f32)) (Finset.subset_univ _)) $$ H0; iintro H0
  iapply Hk
  isplitl [H0]; · iexact H0
  isplitl [H1]; · iexact H1
  isplitl [H2]; · iexact H2
  isplitl [H3] <;> iassumption
theorem wp_wq {α : Type} {Q : α → sProp 𝕄} {r : LoadRect S1024x1024} {hl} {k : (r.shape.Idx → Elt F .f32) → Prog (TpuEff nD τ sig (Elt F) Λ₀ .tc) α} :
    inputs c I ⊢ iprop((inputs c I -∗ wp frame (wpE (defs₀ (F := F)) 𝒱₀ (c : Thread nD τ) none) Set.univ (k ((Memref.whole cc0_stg1_0 : Memref sig .tc .vmem S1024x1024 .f32).view.readAt (Elt F) r I.wq)) Q)
      -∗ wp frame (wpE (defs₀ (F := F)) 𝒱₀ (c : Thread nD τ) none) Set.univ (.op (.load (Memref.whole cc0_stg1_0 : Memref sig .tc .vmem S1024x1024 .f32) r hl) k) Q) := by
  unfold inputs
  iintro ⟨H0, H1, H2, H3, H4⟩ Hk
  iapply (wp_load 𝒱₀ (c : Thread nD τ) none Set.univ (m := (Memref.whole cc0_stg1_0 : Memref sig .tc .vmem S1024x1024 .f32)) (Finset.subset_univ _)) $$ H1; iintro H1
  iapply Hk
  isplitl [H0]; · iexact H0
  isplitl [H1]; · iexact H1
  isplitl [H2]; · iexact H2
  isplitl [H3] <;> iassumption
theorem wp_k {α : Type} {Q : α → sProp 𝕄} {r : LoadRect S1024x8x128} {hl} {k : (r.shape.Idx → Elt F .f32) → Prog (TpuEff nD τ sig (Elt F) Λ₀ .tc) α} :
    inputs c I ⊢ iprop((inputs c I -∗ wp frame (wpE (defs₀ (F := F)) 𝒱₀ (c : Thread nD τ) none) Set.univ (k ((Memref.whole cc0_stg2_0 : Memref sig .tc .vmem S1024x8x128 .f32).view.readAt (Elt F) r I.k)) Q)
      -∗ wp frame (wpE (defs₀ (F := F)) 𝒱₀ (c : Thread nD τ) none) Set.univ (.op (.load (Memref.whole cc0_stg2_0 : Memref sig .tc .vmem S1024x8x128 .f32) r hl) k) Q) := by
  unfold inputs
  iintro ⟨H0, H1, H2, H3, H4⟩ Hk
  iapply (wp_load 𝒱₀ (c : Thread nD τ) none Set.univ (m := (Memref.whole cc0_stg2_0 : Memref sig .tc .vmem S1024x8x128 .f32)) (Finset.subset_univ _)) $$ H2; iintro H2
  iapply Hk
  isplitl [H0]; · iexact H0
  isplitl [H1]; · iexact H1
  isplitl [H2]; · iexact H2
  isplitl [H3] <;> iassumption
theorem wp_v {α : Type} {Q : α → sProp 𝕄} {r : LoadRect S1024x8x128} {hl} {k : (r.shape.Idx → Elt F .f32) → Prog (TpuEff nD τ sig (Elt F) Λ₀ .tc) α} :
    inputs c I ⊢ iprop((inputs c I -∗ wp frame (wpE (defs₀ (F := F)) 𝒱₀ (c : Thread nD τ) none) Set.univ (k ((Memref.whole cc0_stg3_0 : Memref sig .tc .vmem S1024x8x128 .f32).view.readAt (Elt F) r I.v)) Q)
      -∗ wp frame (wpE (defs₀ (F := F)) 𝒱₀ (c : Thread nD τ) none) Set.univ (.op (.load (Memref.whole cc0_stg3_0 : Memref sig .tc .vmem S1024x8x128 .f32) r hl) k) Q) := by
  unfold inputs
  iintro ⟨H0, H1, H2, H3, H4⟩ Hk
  iapply (wp_load 𝒱₀ (c : Thread nD τ) none Set.univ (m := (Memref.whole cc0_stg3_0 : Memref sig .tc .vmem S1024x8x128 .f32)) (Finset.subset_univ _)) $$ H3; iintro H3
  iapply Hk
  isplitl [H0]; · iexact H0
  isplitl [H1]; · iexact H1
  isplitl [H2]; · iexact H2
  isplitl [H3] <;> iassumption
theorem wp_wo {α : Type} {Q : α → sProp 𝕄} {r : LoadRect S1024x1024} {hl} {k : (r.shape.Idx → Elt F .f32) → Prog (TpuEff nD τ sig (Elt F) Λ₀ .tc) α} :
    inputs c I ⊢ iprop((inputs c I -∗ wp frame (wpE (defs₀ (F := F)) 𝒱₀ (c : Thread nD τ) none) Set.univ (k ((Memref.whole cc0_stg4_0 : Memref sig .tc .vmem S1024x1024 .f32).view.readAt (Elt F) r I.wo)) Q)
      -∗ wp frame (wpE (defs₀ (F := F)) 𝒱₀ (c : Thread nD τ) none) Set.univ (.op (.load (Memref.whole cc0_stg4_0 : Memref sig .tc .vmem S1024x1024 .f32) r hl) k) Q) := by
  unfold inputs
  iintro ⟨H0, H1, H2, H3, H4⟩ Hk
  iapply (wp_load 𝒱₀ (c : Thread nD τ) none Set.univ (m := (Memref.whole cc0_stg4_0 : Memref sig .tc .vmem S1024x1024 .f32)) (Finset.subset_univ _)) $$ H4; iintro H4
  iapply Hk
  isplitl [H0]; · iexact H0
  isplitl [H1]; · iexact H1
  isplitl [H2]; · iexact H2
  isplitl [H3] <;> iassumption

end Loads

end Cert.Cube

end
-- ==== Proof.Run1.lean ====
/-
# The kernel up to the stored partial product

The meeting, the loads of the blocks head by head, and the stores of the three parts of the partial product, the first
transfers of the first two parts starting on the way.
-/
module

public import proofs.«01_k».proof.Proof.Contents

@[expose] public section

noncomputable section

namespace Cert.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (K : Dev nD × Option XK → ℕ) (c : Dev nD) (i : grid0.Coords) (I : Dev nD → Ins F)

/-- The partial product of every device. -/
abbrev PP (I : Dev nD → Ins F) : Dev nD → ℕ → ℕ → Elt F .f32 := fun p => part (I p)

/-- The device's own number. -/
theorem part1 {Q : _ → sProp 𝕄} :
    iprop(∀ v2, ∀ v12, ∀ v16, ∀ v33, ∀ c4, ∀ v34, ∀ v36, Q ⟨c, v2, v12, v16, v33, c4, v34, v36⟩)
      ⊢ wp frame (wpE (defs₀ (F := F)) 𝒱₀ (c : Thread nD τ) none) Set.univ (at' (k0_part1 (F := F)) i ) Q := by
  unfold at'
  rw [k0_part1_eq_skeleton]; unfold k0_part1_skel
  simp only [Prog.lift, Prog.bind_op, Prog.bind_ret, Prog.pure_eq_ret, wp_deviceId]
  iintro H
  rw [wp_ret]; imodintro
  iapply H

/-- The first neighbour signalled. -/
theorem part2 (P : Dev nD → ℕ → ℕ → Elt F .f32) (v2 v12 c4 v34 v36 : BitVec 32) {Q : _ → sProp 𝕄} :
    iprop(recs P K ∗ (∃ W, owes (c : Thread nD τ) (O₀ c) W) ∗ dutyTok ER (barCell (par 0 c)) 0 0 ∗ barPay 0 (par 0 c))
      ⊢ iprop((∀ v50, ∀ v63, ∀ v66, ∀ v69, ∀ v73, (∃ W, owes (c : Thread nD τ) (O₁ c) W) -∗ Q ⟨v50, v63, v66, v69, SemArray.scalar (sig.barrier 0 rfl), v73⟩)
        -∗ wp frame (wpE (defs₀ (F := F)) 𝒱₀ (c : Thread nD τ) none) Set.univ (at' (k0_part2 (F := F)) i c v2 v12 c4 v34 v36) Q) := by
  unfold at'
  rw [k0_part2_eq_skeleton]; unfold k0_part2_skel
  simp only [semSignalWord, semWaitWord, Prog.lift, Prog.bind_op, Prog.bind_ret, Prog.pure_eq_ret]
  iintro H Hk
  iapply (wp_meet P K c 0 (Fin.ext (dev_eq c).1.1) rfl (by decide) (O := O₀ c) (O' := O₁ c) rfl) $$ H
  iintro HO
  rw [wp_ret]; imodintro
  iapply Hk
  iexact HO

/-- The other two, all three awaited, and the first loads. -/
theorem part3 (P : Dev nD → ℕ → ℕ → Elt F .f32) (v69 v73 : BitVec 32) (J : Ins F) {Q : _ → sProp 𝕄} :
    iprop(recs P K ∗ levAts L lv ∗ (∃ W, owes (c : Thread nD τ) (O₁ c) W) ∗ (dutyTok ER (barCell (par 1 c)) 0 1 ∗ barPay 1 (par 1 c))
        ∗ (dutyTok ER (barCell (par 2 c)) 0 2 ∗ barPay 2 (par 2 c)) ∗ cred (tallyAt (barCell c) () 3) ∗ atPos ER (barCell c) 0 ∅ 0 ∗ inputs c J)
      ⊢ iprop((((∃ W, owes (c : Thread nD τ) (Orem 0 c) W) ∗ semVal (barCell c) 0 ∗ (bigSep Finset.univ fun t => landAny t (par (td t) c)) ∗ inputs c J)
            -∗ Q ⟨J.v81, Ins.v93, k0_pay3 (J.Vh 0 inb_S1024x8x128_S1024x1x128_0_0_0), k0_pay4 J.X J.Wq (J.Kh 0 inb_S1024x8x128_S1024x1x128_0_0_0), k0_pay5 J.X J.Wq (J.Kh 0 inb_S1024x8x128_S1024x1x128_0_0_0)⟩)
        -∗ wp frame (wpE (defs₀ (F := F)) 𝒱₀ (c : Thread nD τ) none) Set.univ (at' (k0_part3 (F := F)) i c v69 (SemArray.scalar (sig.barrier 0 rfl)) v73) Q) := by
  unfold at'
  rw [k0_part3_eq_skeleton]; unfold k0_part3_skel
  simp only [semSignalWord, semWaitWord, Prog.lift, Prog.bind_op, Prog.bind_ret, Prog.pure_eq_ret]
  iintro ⟨#Hrec, #Hlev, HO, ⟨Ht1, Hp1⟩, ⟨Ht2, Hp2⟩, Hc, Hat, Hin⟩ Hk
  iapply (wp_meet P K c 1 (Fin.ext (dev_eq c).1.2.1) rfl (by decide) (O := O₁ c) (O' := O₂ c) rfl) $$ [HO Ht1 Hp1]
  · isplitr; · iexact Hrec
    isplitl [HO]; · iexact HO
    isplitl [Ht1] <;> iassumption
  iintro HO
  iapply (wp_meet P K c 2 (Fin.ext (dev_eq c).1.2.2) rfl (by decide) (O := O₂ c) (O' := Orem 0 c) rfl) $$ [HO Ht2 Hp2]
  · isplitr; · iexact Hrec
    isplitl [HO]; · iexact HO
    isplitl [Ht2] <;> iassumption
  iintro HO
  iapply (wp_met P K c rfl (by decide)) $$ [HO Hc Hat]
  · isplitr; · iexact Hrec
    isplitr; · iexact Hlev
    isplitl [HO]; · iexact HO
    isplitl [Hc] <;> iassumption
  iintro ⟨HO, Hz, Hland⟩
  iapply (wp_x c J) $$ Hin; iintro Hin
  iapply (wp_wq c J) $$ Hin; iintro Hin
  iapply (wp_k c J) $$ Hin; iintro Hin
  iapply (wp_v c J) $$ Hin; iintro Hin
  rw [wp_ret]; imodintro
  iapply Hk
  isplitl [HO]; · iexact HO
  isplitl [Hz]; · iexact Hz
  isplitl [Hland] <;> iassumption

/-- Heads 0 to 2. -/
theorem part4 (J : Ins F) (v81 : FVec F S1024x1024 .f32) (v93 : IVec S1024x1024 1) (v98 : FVec F S1024x128 .f32) (v104 : FVec F S1024x1024 .f32) (v106 : FVec F S1024x1 .f32) {Q : _ → sProp 𝕄} :
    inputs c J
      ⊢ iprop((inputs c J -∗ Q ⟨k0_pay6 v98 v104 v106, k0_pay7 v81 v93 (J.Kh 1 inb_S1024x8x128_S1024x1x128_0_1_0) (J.Vh 1 inb_S1024x8x128_S1024x1x128_0_1_0),
            k0_pay8 v81 v93 (J.Kh 2 inb_S1024x8x128_S1024x1x128_0_2_0) (J.Vh 2 inb_S1024x8x128_S1024x1x128_0_2_0), k0_pay9 v81⟩)
        -∗ wp frame (wpE (defs₀ (F := F)) 𝒱₀ (c : Thread nD τ) none) Set.univ (at' (k0_part4 (F := F)) i v81 v93 v98 v104 v106) Q) := by
  unfold at'
  rw [k0_part4_eq_skeleton]; unfold k0_part4_skel
  simp only [semSignalWord, semWaitWord, Prog.lift, Prog.bind_op, Prog.bind_ret, Prog.pure_eq_ret]
  iintro Hin Hk
  iapply (wp_k c J) $$ Hin; iintro Hin
  iapply (wp_v c J) $$ Hin; iintro Hin
  iapply (wp_k c J) $$ Hin; iintro Hin
  iapply (wp_v c J) $$ Hin; iintro Hin
  rw [wp_ret]; imodintro
  iapply Hk
  iexact Hin

/-- Heads 3 and 4, and the keys of head 5. -/
theorem part5 (J : Ins F) (v81 : FVec F S1024x1024 .f32) (v93 : IVec S1024x1024 1) (v142 : FVec F S1024x128 .f32) {Q : _ → sProp 𝕄} :
    inputs c J
      ⊢ iprop((inputs c J -∗ Q ⟨k0_pay10 v93 v142 (J.Kh 3 inb_S1024x8x128_S1024x1x128_0_3_0) (J.Vh 3 inb_S1024x8x128_S1024x1x128_0_3_0),
            k0_pay11 v81 v93 (J.Kh 4 inb_S1024x8x128_S1024x1x128_0_4_0) (J.Vh 4 inb_S1024x8x128_S1024x1x128_0_4_0), k0_pay12 v81, k0_pay13 (J.Kh 5 inb_S1024x8x128_S1024x1x128_0_5_0)⟩)
        -∗ wp frame (wpE (defs₀ (F := F)) 𝒱₀ (c : Thread nD τ) none) Set.univ (at' (k0_part5 (F := F)) i v81 v93 v142) Q) := by
  unfold at'
  rw [k0_part5_eq_skeleton]; unfold k0_part5_skel
  simp only [semSignalWord, semWaitWord, Prog.lift, Prog.bind_op, Prog.bind_ret, Prog.pure_eq_ret]
  iintro Hin Hk
  iapply (wp_k c J) $$ Hin; iintro Hin
  iapply (wp_v c J) $$ Hin; iintro Hin
  iapply (wp_k c J) $$ Hin; iintro Hin
  iapply (wp_v c J) $$ Hin; iintro Hin
  iapply (wp_k c J) $$ Hin; iintro Hin
  rw [wp_ret]; imodintro
  iapply Hk
  iexact Hin

/-- Heads 5 and 6, and the keys and values of head 7. -/
theorem part6 (J : Ins F) (v81 : FVec F S1024x1024 .f32) (v93 : IVec S1024x1024 1) (v174 v176 : FVec F S1024x128 .f32) {Q : _ → sProp 𝕄} :
    inputs c J
      ⊢ iprop((inputs c J -∗ Q ⟨k0_pay14 v93 v174 v176 (J.Vh 5 inb_S1024x8x128_S1024x1x128_0_5_0), k0_pay15 v81 v93 (J.Kh 6 inb_S1024x8x128_S1024x1x128_0_6_0) (J.Vh 6 inb_S1024x8x128_S1024x1x128_0_6_0),
            k0_pay16 (J.Vh 7 inb_S1024x8x128_S1024x1x128_0_7_0), k0_pay17 v81 (J.Kh 7 inb_S1024x8x128_S1024x1x128_0_7_0), Ins.cst⟩)
        -∗ wp frame (wpE (defs₀ (F := F)) 𝒱₀ (c : Thread nD τ) none) Set.univ (at' (k0_part6 (F := F)) i v81 v93 v174 v176) Q) := by
  unfold at'
  rw [k0_part6_eq_skeleton]; unfold k0_part6_skel
  simp only [semSignalWord, semWaitWord, Prog.lift, Prog.bind_op, Prog.bind_ret, Prog.pure_eq_ret]
  iintro Hin Hk
  iapply (wp_v c J) $$ Hin; iintro Hin
  iapply (wp_k c J) $$ Hin; iintro Hin
  iapply (wp_v c J) $$ Hin; iintro Hin
  iapply (wp_k c J) $$ Hin; iintro Hin
  iapply (wp_v c J) $$ Hin; iintro Hin
  rw [wp_ret]; imodintro
  iapply Hk
  iexact Hin

theorem rs0 (P : Dev nD → ℕ → ℕ → Elt F .f32) : IsRs P 0 0 0 (stgM 0) := ⟨by decide, rfl, rfl, fun _ => rfl, fun _ => rfl⟩
theorem rs1 (P : Dev nD → ℕ → ℕ → Elt F .f32) : IsRs P 1 1 0 (stgM 1) := ⟨by decide, rfl, rfl, fun _ => rfl, fun _ => rfl⟩
theorem rs2 (P : Dev nD → ℕ → ℕ → Elt F .f32) : IsRs P 2 2 0 (stgM 2) := ⟨by decide, rfl, rfl, fun _ => rfl, fun _ => rfl⟩
theorem rs3 (P : Dev nD → ℕ → ℕ → Elt F .f32) : IsRs P 3 0 1 (stgM 0) := ⟨by decide, rfl, rfl, fun _ => rfl, fun _ => rfl⟩
theorem rs4 (P : Dev nD → ℕ → ℕ → Elt F .f32) : IsRs P 4 1 1 (stgM 1) := ⟨by decide, rfl, rfl, fun _ => rfl, fun _ => rfl⟩
theorem rs5 (P : Dev nD → ℕ → ℕ → Elt F .f32) : IsRs P 5 2 1 (stgM 2) := ⟨by decide, rfl, rfl, fun _ => rfl, fun _ => rfl⟩
theorem rs6 (P : Dev nD → ℕ → ℕ → Elt F .f32) : IsRs P 6 0 2 (stgM 0) := ⟨by decide, rfl, rfl, fun _ => rfl, fun _ => rfl⟩
theorem rs7 (P : Dev nD → ℕ → ℕ → Elt F .f32) : IsRs P 7 1 2 (stgM 1) := ⟨by decide, rfl, rfl, fun _ => rfl, fun _ => rfl⟩
theorem rs8 (P : Dev nD → ℕ → ℕ → Elt F .f32) : IsRs P 8 2 2 (stgM 2) := ⟨by decide, rfl, rfl, fun _ => rfl, fun _ => rfl⟩

/-- A part of the partial product, just stored, is the rows sent first and the rows kept. -/
theorem cut_part (P : Dev nD → ℕ → ℕ → Elt F .f32) (j : Fin 3) : rowsPts accM c fullShare (offP j) (rowsP j) (P c)
    ⊢ (iprop(rowsPts accM c fullShare (sent j 0 c) (half j 0) (A P c j (0 : Fin 3).val) ∗ rowsPts accM c fullShare (kept j 0 c) (half j 0) (A P c j (0 : Fin 3).val)) : sProp 𝕄) :=
  cut0 (fun lo n => rowsPts accM c fullShare lo n (P c)) (fun lo a b => rowsPts_split accM c fullShare lo a b (P c)) j c

/-- The sums of round `r - 1` are the rows sent in round `r` and the rows kept. -/
theorem cut_sum1 (P : Dev nD → ℕ → ℕ → Elt F .f32) (j : Fin 3) : rowsPts accM c fullShare (kept j 0 c) (half j 0) (A P c j ((0 : Fin 3).val + 1))
    ⊢ (iprop(rowsPts accM c fullShare (sent j 1 c) (half j 1) (A P c j (1 : Fin 3).val) ∗ rowsPts accM c fullShare (kept j 1 c) (half j 1) (A P c j (1 : Fin 3).val)) : sProp 𝕄) :=
  cut1 (fun lo n => rowsPts accM c fullShare lo n (A P c j 1)) (fun lo a b => rowsPts_split accM c fullShare lo a b (A P c j 1)) j c
theorem cut_sum2 (P : Dev nD → ℕ → ℕ → Elt F .f32) (j : Fin 3) : rowsPts accM c fullShare (kept j 1 c) (half j 1) (A P c j ((1 : Fin 3).val + 1))
    ⊢ (iprop(rowsPts accM c fullShare (sent j 2 c) (half j 2) (A P c j (2 : Fin 3).val) ∗ rowsPts accM c fullShare (kept j 2 c) (half j 2) (A P c j (2 : Fin 3).val)) : sProp 𝕄) :=
  cut2 (fun lo n => rowsPts accM c fullShare lo n (A P c j 2)) (fun lo a b => rowsPts_split accM c fullShare lo a b (A P c j 2)) j c

variable (v16 v63 : BitVec 32)

/-- The rest of head 7, the first part stored and its first transfer started. -/
theorem part7 {Q : _ → sProp 𝕄} :
    iprop(proto2 (PP I) K c 0 0 0 ∗ inputs c (I c) ∗ rowsAny accM c 0 384)
      ⊢ iprop(((proto2 (PP I) K c 1 0 0 ∗ inputs c (I c) ∗ rowsPts accM c fullShare (kept 0 0 c) (half 0 0) (A (PP I) c 0 (0 : Fin 3).val)) -∗ Q ⟨(I c).v222, (I c).v244⟩)
        -∗ wp frame (wpE (defs₀ (F := F)) 𝒱₀ (c : Thread nD τ) none) Set.univ (at' (k0_part7 (F := F)) i c v16 v63 Ins.v93 (I c).v109 (I c).v125 (I c).v141 (I c).v157 (I c).v173 (I c).v189 (I c).v205 (I c).v210 (I c).v211 Ins.cst) Q) := by
  unfold at'
  rw [k0_part7_eq_skeleton]; unfold k0_part7_skel
  simp only [semSignalWord, semWaitWord, Prog.lift, Prog.bind_op, Prog.bind_ret, Prog.pure_eq_ret]
  iintro ⟨Hp, Hin, Hacc⟩ Hk
  iapply (wp_wo c (I c)) $$ Hin; iintro Hin
  iapply (wp_load_any accM c rfl rfl) $$ Hacc
  iintro %a Hacc
  iapply (wp_store_rows accM c rfl rfl (PP I c) (fun x => part_0 (I c) x)) $$ Hacc
  iintro Hacc
  have cp0 : rowsPts accM c fullShare 0 384 (PP I c) ⊢ _ := cut_part c (PP I) 0
  ihave H := cp0 $$ Hacc
  icases H with ⟨Hs, Hr⟩
  iapply (wp_rs K c (rs0 (PP I)) (n := 0) (n' := 1) rfl rfl (w := 0) (r' := 0) (le_refl 0) (Fin.ext (dev_eq c).2.1.1) (off_sent c).1.1 rfl rfl rfl rfl rfl) $$ [Hp Hs]
  · isplitl [Hp] <;> iassumption
  iintro Hp
  iapply (wp_wo c (I c)) $$ Hin; iintro Hin
  rw [wp_ret]; imodintro
  iapply Hk
  isplitl [Hp]; · iexact Hp
  isplitl [Hin] <;> iassumption

/-- The second part stored and its first transfer started; the third part stored. -/
theorem part8 (v33 v50 v66 v69 : BitVec 32) {Q : _ → sProp 𝕄} :
    iprop(proto2 (PP I) K c 1 0 0 ∗ inputs c (I c) ∗ rowsAny accM c 384 384 ∗ rowsAny accM c 768 256)
      ⊢ iprop(((proto2 (PP I) K c 2 0 0 ∗ inputs c (I c) ∗ rowsPts accM c fullShare (kept 1 0 c) (half 1 0) (A (PP I) c 1 (0 : Fin 3).val)
              ∗ rowsPts accM c fullShare (sent 2 0 c) (half 2 0) (A (PP I) c 2 (0 : Fin 3).val) ∗ rowsPts accM c fullShare (kept 2 0 c) (half 2 0) (A (PP I) c 2 (0 : Fin 3).val)) -∗ Q ⟨⟩)
        -∗ wp frame (wpE (defs₀ (F := F)) 𝒱₀ (c : Thread nD τ) none) Set.univ (at' (k0_part8 (F := F)) i c v33 v50 v66 v69 (I c).v222 (I c).v244) Q) := by
  unfold at'
  rw [k0_part8_eq_skeleton]; unfold k0_part8_skel
  simp only [semSignalWord, semWaitWord, Prog.lift, Prog.bind_op, Prog.bind_ret, Prog.pure_eq_ret]
  iintro ⟨Hp, Hin, Ha, Hb⟩ Hk
  iapply (wp_load_any accM c rfl rfl) $$ Ha
  iintro %a Ha
  iapply (wp_store_rows accM c rfl rfl (PP I c) (fun x => part_1 (I c) x)) $$ Ha
  iintro Ha
  have cp1 : rowsPts accM c fullShare 384 384 (PP I c) ⊢ _ := cut_part c (PP I) 1
  ihave H := cp1 $$ Ha
  icases H with ⟨Hs, Hr⟩
  iapply (wp_rs K c (rs1 (PP I)) (n := 1) (n' := 2) rfl rfl (w := 0) (r' := 0) (Nat.zero_le _) (Fin.ext (dev_eq c).2.1.2.1) (off_sent c).1.2.1 rfl rfl rfl rfl rfl) $$ [Hp Hs]
  · isplitl [Hp] <;> iassumption
  iintro Hp
  iapply (wp_wo c (I c)) $$ Hin; iintro Hin
  iapply (wp_load_any accM c rfl rfl) $$ Hb
  iintro %b Hb
  iapply (wp_store_rows accM c rfl rfl (PP I c) (fun x => part_2 (I c) x)) $$ Hb
  iintro Hb
  have cp2 : rowsPts accM c fullShare 768 256 (PP I c) ⊢ _ := cut_part c (PP I) 2
  ihave H := cp2 $$ Hb
  icases H with ⟨Hs2, Hr2⟩
  rw [wp_ret]; imodintro
  iapply Hk
  isplitl [Hp]; · iexact Hp
  isplitl [Hin]; · iexact Hin
  isplitl [Hr]; · iexact Hr
  isplitl [Hs2] <;> iassumption

end Cert.Cube

end
-- ==== Proof.Run2.lean ====
/-
# The reduce-scatter

Each lemma runs one stretch of the body: the transfers of partial sums it starts and awaits, and the sums it stores.
-/
module

public import proofs.«01_k».proof.Proof.Run1
public import Idealize.ShloMosaic.Lib.Pipeline.Value

@[expose] public section

noncomputable section

namespace Cert.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → ℕ → ℕ → Elt F .f32) (K : Dev nD × Option XK → ℕ) (c : Dev nD) (i : grid0.Coords)

/-- The rows of part `j` sent in round `r`, holding the partial sums of the round. -/
abbrev RS (j r : Fin 3) : sProp 𝕄 := rowsPts accM c fullShare (sent j r c) (half j r) (A P c j r.val)
/-- The rows of part `j` kept in round `r`, before the sum of the round. -/
abbrev RK (j r : Fin 3) : sProp 𝕄 := rowsPts accM c fullShare (kept j r c) (half j r) (A P c j r.val)
/-- The rows of part `j` kept in round `r`, after the sum of the round. -/
abbrev RK' (j r : Fin 3) : sProp 𝕄 := rowsPts accM c fullShare (kept j r c) (half j r) (A P c j (r.val + 1))

/-- The first round: part 2 starts, part 0 is summed. -/
theorem part9 (v16 v33 v63 v66 : BitVec 32) {Q : _ → sProp 𝕄} :
    iprop(proto2 P K c 2 0 0 ∗ RS P c 2 0 ∗ RK P c 0 0)
      ⊢ iprop((∀ v278, (proto2 P K c 3 1 0 ∗ RS P c 0 1 ∗ RK P c 0 1) -∗ Q v278)
        -∗ wp frame (wpE (defs₀ (F := F)) 𝒱₀ (c : Thread nD τ) none) Set.univ (at' (k0_part9 (F := F)) i c v16 v33 v63 v66) Q) := by
  unfold at'
  rw [k0_part9_eq_skeleton]; unfold k0_part9_skel
  simp only [semSignalWord, semWaitWord, Prog.lift, Prog.bind_op, Prog.bind_ret, Prog.pure_eq_ret]
  iintro ⟨Hp, S2, K0⟩ Hk
  iapply (wp_rs K c (rs2 P) (n := 2) (n' := 3) rfl rfl (w := 0) (by decide) (Fin.ext (dev_eq c).2.1.2.2) (off_sent c).1.2.2 rfl rfl rfl rfl rfl) $$ [Hp S2]
  · isplitl [Hp] <;> iassumption
  iintro Hp
  iapply (wp_arrive_read K c (rs0 P) (n := 0) (n' := 1) rfl rfl (s := 3) (by decide) rfl rfl (off_kept c).1.1 rfl rfl) $$ [Hp K0]
  · isplitl [Hp] <;> iassumption
  iintro ⟨Hp, K0⟩
  iapply (wp_restore c (P := P) (j := 0) (r := 0) (off_kept c).1.1 rfl (fun x => by unfold k0_pay23; rw [shapeCast_self]; rfl)) $$ K0
  iintro K0
  ihave H := (cut_sum1 c P 0) $$ K0
  icases H with ⟨S0, K0⟩
  rw [wp_ret]; imodintro
  iapply Hk
  isplitl [Hp]; · iexact Hp
  isplitl [S0] <;> iassumption

/-- Part 1 is summed; the second round of parts 0 and 1 starts. -/
theorem part10 (v33 v50 v66 v69 : BitVec 32) {Q : _ → sProp 𝕄} :
    iprop(proto2 P K c 3 1 0 ∗ RS P c 0 1 ∗ RK P c 1 0)
      ⊢ iprop((∀ v305, ∀ v331, (proto2 P K c 5 2 0 ∗ RK P c 1 1) -∗ Q ⟨v305, v331, 768#32⟩)
        -∗ wp frame (wpE (defs₀ (F := F)) 𝒱₀ (c : Thread nD τ) none) Set.univ (at' (k0_part10 (F := F)) i c v33 v50 v66 v69) Q) := by
  unfold at'
  rw [k0_part10_eq_skeleton]; unfold k0_part10_skel
  simp only [semSignalWord, semWaitWord, Prog.lift, Prog.bind_op, Prog.bind_ret, Prog.pure_eq_ret]
  iintro ⟨Hp, S0, K1⟩ Hk
  iapply (wp_rs K c (rs3 P) (n := 3) (n' := 4) rfl rfl (w := 0) (by decide) (Fin.ext (dev_eq c).2.2.1.1) (off_sent c).2.1.1 rfl rfl rfl rfl rfl) $$ [Hp S0]
  · isplitl [Hp] <;> iassumption
  iintro Hp
  iapply (wp_arrive_read K c (rs1 P) (n := 1) (n' := 2) rfl rfl (s := 4) (by decide) rfl rfl (off_kept c).1.2.1 rfl rfl) $$ [Hp K1]
  · isplitl [Hp] <;> iassumption
  iintro ⟨Hp, K1⟩
  iapply (wp_restore c (P := P) (j := 1) (r := 0) (off_kept c).1.2.1 rfl (fun x => by unfold k0_pay24; rw [shapeCast_self]; rfl)) $$ K1
  iintro K1
  ihave H := (cut_sum1 c P 1) $$ K1
  icases H with ⟨S1, K1⟩
  iapply (wp_rs K c (rs4 P) (n := 4) (n' := 5) rfl rfl (w := 0) (by decide) (Fin.ext (dev_eq c).2.2.1.2.1) (off_sent c).2.1.2.1 rfl rfl rfl rfl rfl) $$ [Hp S1]
  · isplitl [Hp] <;> iassumption
  iintro Hp
  rw [wp_ret]; imodintro
  iapply Hk
  isplitl [Hp] <;> iassumption

/-- Part 2 is summed and its second round starts. -/
theorem part11 (v16 v63 v69 v331 c7 : BitVec 32) {Q : _ → sProp 𝕄} :
    iprop(proto2 P K c 5 2 0 ∗ RK P c 2 0)
      ⊢ iprop((∀ v332, (proto2 P K c 6 3 0 ∗ RK P c 2 1) -∗ Q v332)
        -∗ wp frame (wpE (defs₀ (F := F)) 𝒱₀ (c : Thread nD τ) none) Set.univ (at' (k0_part11 (F := F)) i c v16 v63 v69 v331 c7) Q) := by
  unfold at'
  rw [k0_part11_eq_skeleton]; unfold k0_part11_skel
  simp only [semSignalWord, semWaitWord, Prog.lift, Prog.bind_op, Prog.bind_ret, Prog.pure_eq_ret]
  iintro ⟨Hp, K2⟩ Hk
  iapply (wp_arrive_read K c (rs2 P) (n := 2) (n' := 3) rfl rfl (s := 5) (by decide) rfl rfl (off_kept c).1.2.2 rfl rfl) $$ [Hp K2]
  · isplitl [Hp] <;> iassumption
  iintro ⟨Hp, K2⟩
  iapply (wp_restore c (P := P) (j := 2) (r := 0) (off_kept c).1.2.2 rfl (fun x => by unfold k0_pay25; rw [shapeCast_self]; rfl)) $$ K2
  iintro K2
  ihave H := (cut_sum1 c P 2) $$ K2
  icases H with ⟨S2, K2⟩
  iapply (wp_rs K c (rs5 P) (n := 5) (n' := 6) rfl rfl (w := 0) (by decide) (Fin.ext (dev_eq c).2.2.1.2.2) (off_sent c).2.1.2.2 rfl rfl rfl rfl rfl) $$ [Hp S2]
  · isplitl [Hp] <;> iassumption
  iintro Hp
  rw [wp_ret]; imodintro
  iapply Hk
  isplitl [Hp] <;> iassumption

/-- The departures of the first round; the second sum of part 0 is read. -/
theorem part12 (v33 v66 v278 : BitVec 32) {Q : _ → sProp 𝕄} :
    iprop(proto2 P K c 6 3 0 ∗ RK P c 0 1)
      ⊢ iprop((∀ v371, ∀ (w : FVec F S96x1024 .f32), (proto2 P K c 6 4 3 ∗ RK P c 0 1 ∗ ⌜∀ x : S96x1024.Idx, w x = A P c 0 ((1 : Fin 3).val + 1) (kept 0 1 c + (x (0 : Fin 2)).val) (x (1 : Fin 2)).val⌝) -∗ Q ⟨v371, w⟩)
        -∗ wp frame (wpE (defs₀ (F := F)) 𝒱₀ (c : Thread nD τ) none) Set.univ (at' (k0_part12 (F := F)) i c v33 v66 v278) Q) := by
  unfold at'
  rw [k0_part12_eq_skeleton]; unfold k0_part12_skel
  simp only [semSignalWord, semWaitWord, Prog.lift, Prog.bind_op, Prog.bind_ret, Prog.pure_eq_ret]
  iintro ⟨Hp, K0⟩ Hk
  iapply (wp_back K c (P := P) 0 (n := 0) (n' := 1) rfl rfl (s := 6) (by decide) rfl rfl) $$ Hp
  iintro Hp
  iapply (wp_back K c (P := P) 1 (n := 1) (n' := 2) rfl rfl (s := 6) (by decide) rfl rfl) $$ Hp
  iintro Hp
  iapply (wp_back K c (P := P) 2 (n := 2) (n' := 3) rfl rfl (s := 6) (by decide) rfl rfl) $$ Hp
  iintro Hp
  iapply (wp_arrive_read K c (rs3 P) (n := 3) (n' := 4) rfl rfl (s := 6) (by decide) rfl rfl (off_kept c).2.1.1 rfl rfl) $$ [Hp K0]
  · isplitl [Hp] <;> iassumption
  iintro ⟨Hp, K0⟩
  rw [wp_ret]; imodintro
  iapply Hk
  isplitl [Hp]; · iexact Hp
  isplitl [K0]; · iexact K0
  ipureintro; intro x; rfl

/-- The second sum of part 0 is stored and its third round starts; the second sum of part 1. -/
theorem part13 (v50 v69 v305 v371 : BitVec 32) (w : FVec F S96x1024 .f32) (hw : ∀ x : S96x1024.Idx, w x = A P c 0 ((1 : Fin 3).val + 1) (kept 0 1 c + (x (0 : Fin 2)).val) (x (1 : Fin 2)).val) {Q : _ → sProp 𝕄} :
    iprop(proto2 P K c 6 4 3 ∗ RK P c 0 1 ∗ RK P c 1 1)
      ⊢ iprop((∀ v398, (proto2 P K c 7 5 3 ∗ RK P c 0 2 ∗ RS P c 1 2 ∗ RK P c 1 2) -∗ Q ⟨v398, 1#32⟩)
        -∗ wp frame (wpE (defs₀ (F := F)) 𝒱₀ (c : Thread nD τ) none) Set.univ (at' (k0_part13 (F := F)) i c v50 v69 v305 v371 w) Q) := by
  unfold at'
  rw [k0_part13_eq_skeleton]; unfold k0_part13_skel
  simp only [semSignalWord, semWaitWord, Prog.lift, Prog.bind_op, Prog.bind_ret, Prog.pure_eq_ret]
  iintro ⟨Hp, K0, K1⟩ Hk
  iapply (wp_restore c (P := P) (j := 0) (r := 1) (off_kept c).2.1.1 rfl (fun x => by unfold k0_pay27; rw [shapeCast_self]; exact hw x)) $$ K0
  iintro K0
  ihave H := (cut_sum2 c P 0) $$ K0
  icases H with ⟨S0, K0⟩
  iapply (wp_rs K c (rs6 P) (n := 6) (n' := 7) rfl rfl (w := 3) (by decide) (Fin.ext (dev_eq c).2.2.2.1.1) (off_sent c).2.2.1 rfl rfl rfl rfl rfl) $$ [Hp S0]
  · isplitl [Hp] <;> iassumption
  iintro Hp
  iapply (wp_arrive_read K c (rs4 P) (n := 4) (n' := 5) rfl rfl (s := 7) (by decide) rfl rfl (off_kept c).2.1.2.1 rfl rfl) $$ [Hp K1]
  · isplitl [Hp] <;> iassumption
  iintro ⟨Hp, K1⟩
  iapply (wp_restore c (P := P) (j := 1) (r := 1) (off_kept c).2.1.2.1 rfl (fun x => by unfold k0_pay28; rw [shapeCast_self]; rfl)) $$ K1
  iintro K1
  ihave H := (cut_sum2 c P 1) $$ K1
  icases H with ⟨S1, K1⟩
  rw [wp_ret]; imodintro
  iapply Hk
  isplitl [Hp]; · iexact Hp
  isplitl [K0]; · iexact K0
  isplitl [S1] <;> iassumption

/-- The third round of part 1 starts; the second sum of part 2. -/
theorem part14 (v16 v33 v63 v332 v398 c1 : BitVec 32) {Q : _ → sProp 𝕄} :
    iprop(proto2 P K c 7 5 3 ∗ RS P c 1 2 ∗ RK P c 2 1)
      ⊢ iprop((∀ v425, (proto2 P K c 8 6 3 ∗ RS P c 2 2 ∗ RK P c 2 2) -∗ Q v425)
        -∗ wp frame (wpE (defs₀ (F := F)) 𝒱₀ (c : Thread nD τ) none) Set.univ (at' (k0_part14 (F := F)) i c v16 v33 v63 v332 v398 c1) Q) := by
  unfold at'
  rw [k0_part14_eq_skeleton]; unfold k0_part14_skel
  simp only [semSignalWord, semWaitWord, Prog.lift, Prog.bind_op, Prog.bind_ret, Prog.pure_eq_ret]
  iintro ⟨Hp, S1, K2⟩ Hk
  iapply (wp_rs K c (rs7 P) (n := 7) (n' := 8) rfl rfl (w := 3) (by decide) (Fin.ext (dev_eq c).2.2.2.1.2.1) (off_sent c).2.2.2.1 rfl rfl rfl rfl rfl) $$ [Hp S1]
  · isplitl [Hp] <;> iassumption
  iintro Hp
  iapply (wp_arrive_read K c (rs5 P) (n := 5) (n' := 6) rfl rfl (s := 8) (by decide) rfl rfl (off_kept c).2.1.2.2 rfl rfl) $$ [Hp K2]
  · isplitl [Hp] <;> iassumption
  iintro ⟨Hp, K2⟩
  iapply (wp_restore c (P := P) (j := 2) (r := 1) (off_kept c).2.1.2.2 rfl (fun x => by unfold k0_pay29; rw [shapeCast_self]; rfl)) $$ K2
  iintro K2
  ihave H := (cut_sum2 c P 2) $$ K2
  icases H with ⟨S2, K2⟩
  rw [wp_ret]; imodintro
  iapply Hk
  isplitl [Hp]; · iexact Hp
  isplitl [S2] <;> iassumption

/-- The third round of part 2 starts; the departures of the second round. -/
theorem part15 (v50 v66 v371 : BitVec 32) {Q : _ → sProp 𝕄} :
    iprop(proto2 P K c 8 6 3 ∗ RS P c 2 2)
      ⊢ iprop((∀ v464, (proto2 P K c 9 6 6) -∗ Q v464)
        -∗ wp frame (wpE (defs₀ (F := F)) 𝒱₀ (c : Thread nD τ) none) Set.univ (at' (k0_part15 (F := F)) i c v50 v66 v371) Q) := by
  unfold at'
  rw [k0_part15_eq_skeleton]; unfold k0_part15_skel
  simp only [semSignalWord, semWaitWord, Prog.lift, Prog.bind_op, Prog.bind_ret, Prog.pure_eq_ret]
  iintro ⟨Hp, S2⟩ Hk
  iapply (wp_rs K c (rs8 P) (n := 8) (n' := 9) rfl rfl (w := 3) (by decide) (Fin.ext (dev_eq c).2.2.2.1.2.2) (off_sent c).2.2.2.2 rfl rfl rfl rfl rfl) $$ [Hp S2]
  · isplitl [Hp] <;> iassumption
  iintro Hp
  iapply (wp_back K c (P := P) 3 (n := 3) (n' := 4) rfl rfl (s := 9) (by decide) rfl rfl) $$ Hp
  iintro Hp
  iapply (wp_back K c (P := P) 4 (n := 4) (n' := 5) rfl rfl (s := 9) (by decide) rfl rfl) $$ Hp
  iintro Hp
  iapply (wp_back K c (P := P) 5 (n := 5) (n' := 6) rfl rfl (s := 9) (by decide) rfl rfl) $$ Hp
  iintro Hp
  rw [wp_ret]; imodintro
  iapply Hk
  iexact Hp

/-- The third sums of parts 0 and 1. -/
theorem part16 (v16 v63 v69 v398 v464 : BitVec 32) {Q : _ → sProp 𝕄} :
    iprop(proto2 P K c 9 6 6 ∗ RK P c 0 2 ∗ RK P c 1 2)
      ⊢ iprop((∀ v480, (proto2 P K c 9 8 6 ∗ RK' P c 0 2 ∗ RK' P c 1 2) -∗ Q v480)
        -∗ wp frame (wpE (defs₀ (F := F)) 𝒱₀ (c : Thread nD τ) none) Set.univ (at' (k0_part16 (F := F)) i c v16 v63 v69 v398 v464) Q) := by
  unfold at'
  rw [k0_part16_eq_skeleton]; unfold k0_part16_skel
  simp only [semSignalWord, semWaitWord, Prog.lift, Prog.bind_op, Prog.bind_ret, Prog.pure_eq_ret]
  iintro ⟨Hp, K0, K1⟩ Hk
  iapply (wp_arrive_read K c (rs6 P) (n := 6) (n' := 7) rfl rfl (s := 9) (by decide) rfl rfl (off_kept c).2.2.1 rfl rfl) $$ [Hp K0]
  · isplitl [Hp] <;> iassumption
  iintro ⟨Hp, K0⟩
  iapply (wp_restore c (P := P) (j := 0) (r := 2) (off_kept c).2.2.1 rfl (fun x => by unfold k0_pay30; rw [shapeCast_self]; rfl)) $$ K0
  iintro K0
  iapply (wp_arrive_read K c (rs7 P) (n := 7) (n' := 8) rfl rfl (s := 9) (by decide) rfl rfl (off_kept c).2.2.2.1 rfl rfl) $$ [Hp K1]
  · isplitl [Hp] <;> iassumption
  iintro ⟨Hp, K1⟩
  iapply (wp_restore c (P := P) (j := 1) (r := 2) (off_kept c).2.2.2.1 rfl (fun x => by unfold k0_pay31; rw [shapeCast_self]; rfl)) $$ K1
  iintro K1
  rw [wp_ret]; imodintro
  iapply Hk
  isplitl [Hp]; · iexact Hp
  isplitl [K0] <;> iassumption

/-- The third sum of part 2; two departures of the third round. -/
theorem part17 (v33 v66 v425 : BitVec 32) {Q : _ → sProp 𝕄} :
    iprop(proto2 P K c 9 8 6 ∗ RK P c 2 2)
      ⊢ iprop((∀ v496, (proto2 P K c 9 9 8 ∗ RK' P c 2 2) -∗ Q v496)
        -∗ wp frame (wpE (defs₀ (F := F)) 𝒱₀ (c : Thread nD τ) none) Set.univ (at' (k0_part17 (F := F)) i c v33 v66 v425) Q) := by
  unfold at'
  rw [k0_part17_eq_skeleton]; unfold k0_part17_skel
  simp only [semSignalWord, semWaitWord, Prog.lift, Prog.bind_op, Prog.bind_ret, Prog.pure_eq_ret]
  iintro ⟨Hp, K2⟩ Hk
  iapply (wp_arrive_read K c (rs8 P) (n := 8) (n' := 9) rfl rfl (s := 9) (by decide) rfl rfl (off_kept c).2.2.2.2 rfl rfl) $$ [Hp K2]
  · isplitl [Hp] <;> iassumption
  iintro ⟨Hp, K2⟩
  iapply (wp_restore c (P := P) (j := 2) (r := 2) (off_kept c).2.2.2.2 rfl (fun x => by unfold k0_pay32; rw [shapeCast_self]; rfl)) $$ K2
  iintro K2
  iapply (wp_back K c (P := P) 6 (n := 6) (n' := 7) rfl rfl (s := 9) (by decide) rfl rfl) $$ Hp
  iintro Hp
  iapply (wp_back K c (P := P) 7 (n := 7) (n' := 8) rfl rfl (s := 9) (by decide) rfl rfl) $$ Hp
  iintro Hp
  rw [wp_ret]; imodintro
  iapply Hk
  isplitl [Hp] <;> iassumption

end Cert.Cube

end
-- ==== Proof.Run3.lean ====
/-
# The all-gather

The finished rows are copied to the result and passed on, axis by axis, in the reverse order.
-/
module

public import proofs.«01_k».proof.Proof.Run2
public import Idealize.ShloMosaic.Lib.Pipeline.Value

@[expose] public section

noncomputable section

namespace Cert.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → ℕ → ℕ → Elt F .f32) (K : Dev nD × Option XK → ℕ) (c : Dev nD) (i : grid0.Coords)

/-- The finished rows of part `j`, in the accumulator. -/
abbrev F3 (j : Fin 3) : sProp 𝕄 := rowsPts accM c fullShare (kept j 2 c) (half j 2) (A P c j 3)
/-- The rows of the result that device `c` finishes in part `j`, before. -/
abbrev Out (j : Fin 3) : sProp 𝕄 := rowsAny outM c (kept j 2 c) (half j 2)
/-- The half of its finished rows that device `c` retains while they are sent. -/
abbrev G2 (j : Fin 3) : sProp 𝕄 := fin P c fullShare.right (kept j 2 c) (half j 2)
/-- What it retains after the second transfer. -/
abbrev G1 (j : Fin 3) : sProp 𝕄 := fin P c fullShare.right.right (kept j 1 c) (half j 1)
/-- Ready for the second transfer. -/
abbrev R1 (j : Fin 3) : sProp 𝕄 := rowsPts outM c (gshare 1) (kept j 1 c) (half j 1) (O P)
/-- Ready for the third transfer. -/
abbrev R0 (j : Fin 3) : sProp 𝕄 := rowsPts outM c (gshare 0) (kept j 0 c) (half j 0) (O P)
/-- Retained of the rows that arrived first. -/
abbrev L2 (j : Fin 3) : sProp 𝕄 := fin P c fullShare.left (sent j 2 c) (half j 2)
/-- Retained of the rows that arrived second. -/
abbrev L1 (j : Fin 3) : sProp 𝕄 := iprop(fin P c fullShare.left (sent j 1 c) (half j 1) ∗ fin P c fullShare.right.left (sent j 1 c) (half j 1))
/-- The rows that arrived third. -/
abbrev L0 (j : Fin 3) : sProp 𝕄 := rowsPts outM c fullShare (sent j 0 c) (half j 0) (O P)

theorem last_sum (j : Fin 3) : RK' P c j 2 ⊢ F3 P c j := Entails.of_eq rfl

/-- The last departure of the sums; parts 0 and 1 are copied to the result and start. -/
theorem part18 (v63 v69 v464 v480 v496 : BitVec 32) {Q : _ → sProp 𝕄} :
    iprop(proto2 P K c 9 9 8 ∗ RK' P c 0 2 ∗ RK' P c 1 2 ∗ Out c 0 ∗ Out c 1)
      ⊢ iprop(((proto2 P K c 11 9 9 ∗ F3 P c 0 ∗ F3 P c 1 ∗ G2 P c 0 ∗ G2 P c 1) -∗ Q ⟨⟩)
        -∗ wp frame (wpE (defs₀ (F := F)) 𝒱₀ (c : Thread nD τ) none) Set.univ (at' (k0_part18 (F := F)) i c v63 v69 v464 v480 v496) Q) := by
  unfold at'
  rw [k0_part18_eq_skeleton]; unfold k0_part18_skel
  simp only [semSignalWord, semWaitWord, Prog.lift, Prog.bind_op, Prog.bind_ret, Prog.pure_eq_ret]
  iintro ⟨Hp, K0, K1, O0, O1⟩ Hk
  iapply (wp_back K c (P := P) 8 (n := 8) (n' := 9) rfl rfl (s := 9) (by decide) rfl rfl) $$ Hp
  iintro Hp
  ihave K0 := (last_sum P c 0) $$ K0
  iapply (wp_finish c (P := P) (j := 0) (off_kept c).2.2.1 rfl) $$ [K0 O0]
  · isplitl [K0] <;> iassumption
  iintro ⟨K0, O0⟩
  ihave H := (share_two P c 0) $$ O0
  icases H with ⟨S, G20⟩
  iapply (wp_ag K c (P := P) (t := 9) (j := 0) (r := 2) (by decide) rfl rfl (n := 9) (n' := 10) rfl rfl (w := 9) (by decide) (Fin.ext (dev_eq c).2.2.2.2.1.1) (off_gather c).1.1 rfl rfl rfl) $$ [Hp S]
  · isplitl [Hp] <;> iassumption
  iintro Hp
  ihave K1 := (last_sum P c 1) $$ K1
  iapply (wp_finish c (P := P) (j := 1) (off_kept c).2.2.2.1 rfl) $$ [K1 O1]
  · isplitl [K1] <;> iassumption
  iintro ⟨K1, O1⟩
  ihave H := (share_two P c 1) $$ O1
  icases H with ⟨S, G21⟩
  iapply (wp_ag K c (P := P) (t := 10) (j := 1) (r := 2) (by decide) rfl rfl (n := 10) (n' := 11) rfl rfl (w := 9) (by decide) (Fin.ext (dev_eq c).2.2.2.2.1.2.1) (off_gather c).1.2.1 rfl rfl rfl) $$ [Hp S]
  · isplitl [Hp] <;> iassumption
  iintro Hp
  rw [wp_ret]; imodintro
  iapply Hk
  isplitl [Hp]; · iexact Hp
  isplitl [K0]; · iexact K0
  isplitl [K1]; · iexact K1
  isplitl [G20] <;> iassumption

/-- Part 2 is copied and starts; the first rows of part 0 arrive and its second transfer starts. -/
theorem part19 (v50 v66 v69 v464 v496 : BitVec 32) {Q : _ → sProp 𝕄} :
    iprop(proto2 P K c 11 9 9 ∗ RK' P c 2 2 ∗ Out c 2 ∗ G2 P c 0)
      ⊢ iprop((∀ v566, (proto2 P K c 13 10 9 ∗ F3 P c 2 ∗ G2 P c 2 ∗ G1 P c 0 ∗ L2 P c 0) -∗ Q v566)
        -∗ wp frame (wpE (defs₀ (F := F)) 𝒱₀ (c : Thread nD τ) none) Set.univ (at' (k0_part19 (F := F)) i c v50 v66 v69 v464 v496) Q) := by
  unfold at'
  rw [k0_part19_eq_skeleton]; unfold k0_part19_skel
  simp only [semSignalWord, semWaitWord, Prog.lift, Prog.bind_op, Prog.bind_ret, Prog.pure_eq_ret]
  iintro ⟨Hp, K2, O2, G20⟩ Hk
  ihave K2 := (last_sum P c 2) $$ K2
  iapply (wp_finish c (P := P) (j := 2) (off_kept c).2.2.2.2 rfl) $$ [K2 O2]
  · isplitl [K2] <;> iassumption
  iintro ⟨K2, O2⟩
  ihave H := (share_two P c 2) $$ O2
  icases H with ⟨S, G22⟩
  iapply (wp_ag K c (P := P) (t := 11) (j := 2) (r := 2) (by decide) rfl rfl (n := 11) (n' := 12) rfl rfl (w := 9) (by decide) (Fin.ext (dev_eq c).2.2.2.2.1.2.2) (off_gather c).1.2.2 rfl rfl rfl) $$ [Hp S]
  · isplitl [Hp] <;> iassumption
  iintro Hp
  iapply (wp_gathered K c (P := P) (t := 9) (j := 0) (r := 2) (by decide) rfl rfl (n := 9) (n' := 10) rfl rfl (s := 12) (by decide) rfl rfl) $$ Hp
  iintro ⟨Hp, W0⟩
  ihave H := (share_one P c 0) $$ [G20 W0]
  · isplitl [G20] <;> iassumption
  icases H with ⟨R10, G10, L20⟩
  iapply (wp_ag K c (P := P) (t := 12) (j := 0) (r := 1) (by decide) rfl rfl (n := 12) (n' := 13) rfl rfl (w := 9) (by decide) (Fin.ext (dev_eq c).2.2.2.2.2.1.1) (off_gather c).2.1.1 rfl rfl rfl) $$ [Hp R10]
  · isplitl [Hp] <;> iassumption
  iintro Hp
  rw [wp_ret]; imodintro
  iapply Hk
  isplitl [Hp]; · iexact Hp
  isplitl [K2]; · iexact K2
  isplitl [G22]; · iexact G22
  isplitl [G10] <;> iassumption

/-- The first rows of parts 1 and 2 arrive; the second transfer of part 1 starts. -/
theorem part20 (v16 v33 v63 v66 v69 v480 v496 : BitVec 32) {Q : _ → sProp 𝕄} :
    iprop(proto2 P K c 13 10 9 ∗ G2 P c 1 ∗ G2 P c 2)
      ⊢ iprop((∀ v582, ∀ v598, (proto2 P K c 14 12 9 ∗ G1 P c 1 ∗ L2 P c 1 ∗ R1 P c 2 ∗ G1 P c 2 ∗ L2 P c 2) -∗ Q ⟨v582, v598⟩)
        -∗ wp frame (wpE (defs₀ (F := F)) 𝒱₀ (c : Thread nD τ) none) Set.univ (at' (k0_part20 (F := F)) i c v16 v33 v63 v66 v69 v480 v496) Q) := by
  unfold at'
  rw [k0_part20_eq_skeleton]; unfold k0_part20_skel
  simp only [semSignalWord, semWaitWord, Prog.lift, Prog.bind_op, Prog.bind_ret, Prog.pure_eq_ret]
  iintro ⟨Hp, G21, G22⟩ Hk
  iapply (wp_gathered K c (P := P) (t := 10) (j := 1) (r := 2) (by decide) rfl rfl (n := 10) (n' := 11) rfl rfl (s := 13) (by decide) rfl rfl) $$ Hp
  iintro ⟨Hp, W1⟩
  ihave H := (share_one P c 1) $$ [G21 W1]
  · isplitl [G21] <;> iassumption
  icases H with ⟨R11, G11, L21⟩
  iapply (wp_ag K c (P := P) (t := 13) (j := 1) (r := 1) (by decide) rfl rfl (n := 13) (n' := 14) rfl rfl (w := 9) (by decide) (Fin.ext (dev_eq c).2.2.2.2.2.1.2.1) (off_gather c).2.1.2.1 rfl rfl rfl) $$ [Hp R11]
  · isplitl [Hp] <;> iassumption
  iintro Hp
  iapply (wp_gathered K c (P := P) (t := 11) (j := 2) (r := 2) (by decide) rfl rfl (n := 11) (n' := 12) rfl rfl (s := 14) (by decide) rfl rfl) $$ Hp
  iintro ⟨Hp, W2⟩
  ihave H := (share_one P c 2) $$ [G22 W2]
  · isplitl [G22] <;> iassumption
  icases H with ⟨R12, G12, L22⟩
  rw [wp_ret]; imodintro
  iapply Hk
  isplitl [Hp]; · iexact Hp
  isplitl [G11]; · iexact G11
  isplitl [L21]; · iexact L21
  isplitl [R12]; · iexact R12
  isplitl [G12] <;> iassumption

/-- The second transfer of part 2 starts; three departures; the second rows of part 0 arrive. -/
theorem part21 (v66 : BitVec 32) {Q : _ → sProp 𝕄} :
    iprop(proto2 P K c 14 12 9 ∗ R1 P c 2 ∗ G1 P c 0)
      ⊢ iprop((∀ v, (proto2 P K c 15 13 12 ∗ R0 P c 0 ∗ L1 P c 0) -∗ Q v)
        -∗ wp frame (wpE (defs₀ (F := F)) 𝒱₀ (c : Thread nD τ) none) Set.univ (at' (k0_part21 (F := F)) i c v66) Q) := by
  unfold at'
  rw [k0_part21_eq_skeleton]; unfold k0_part21_skel
  simp only [semSignalWord, semWaitWord, Prog.lift, Prog.bind_op, Prog.bind_ret, Prog.pure_eq_ret]
  iintro ⟨Hp, R12, G10⟩ Hk
  iapply (wp_ag K c (P := P) (t := 14) (j := 2) (r := 1) (by decide) rfl rfl (n := 14) (n' := 15) rfl rfl (w := 9) (by decide) (Fin.ext (dev_eq c).2.2.2.2.2.1.2.2) (off_gather c).2.1.2.2 rfl rfl rfl) $$ [Hp R12]
  · isplitl [Hp] <;> iassumption
  iintro Hp
  iapply (wp_back_out K c (P := P) 9 (j := 0) (r := 2) (by decide) rfl rfl (n := 9) (n' := 10) rfl rfl (s := 15) (by decide) rfl rfl) $$ Hp
  iintro Hp
  iapply (wp_back_out K c (P := P) 10 (j := 1) (r := 2) (by decide) rfl rfl (n := 10) (n' := 11) rfl rfl (s := 15) (by decide) rfl rfl) $$ Hp
  iintro Hp
  iapply (wp_back_out K c (P := P) 11 (j := 2) (r := 2) (by decide) rfl rfl (n := 11) (n' := 12) rfl rfl (s := 15) (by decide) rfl rfl) $$ Hp
  iintro Hp
  iapply (wp_gathered K c (P := P) (t := 12) (j := 0) (r := 1) (by decide) rfl rfl (n := 12) (n' := 13) rfl rfl (s := 15) (by decide) rfl rfl) $$ Hp
  iintro ⟨Hp, W0⟩
  ihave H := (share_zero P c 0) $$ [G10 W0]
  · isplitl [G10] <;> iassumption
  icases H with ⟨R00, L10⟩
  rw [wp_ret]; imodintro
  iapply Hk
  isplitl [Hp]; · iexact Hp
  isplitl [R00] <;> iassumption

/-- The third transfer of part 0 starts; the second rows of part 1 arrive and its third transfer starts. -/
theorem part22 (v33 v50 v63 v66 v69 v566 v582 c96 : BitVec 32) {Q : _ → sProp 𝕄} :
    iprop(proto2 P K c 15 13 12 ∗ R0 P c 0 ∗ G1 P c 1)
      ⊢ iprop((∀ v651, (proto2 P K c 17 14 12 ∗ L1 P c 1) -∗ Q v651)
        -∗ wp frame (wpE (defs₀ (F := F)) 𝒱₀ (c : Thread nD τ) none) Set.univ (at' (k0_part22 (F := F)) i c v33 v50 v63 v66 v69 v566 v582 c96) Q) := by
  unfold at'
  rw [k0_part22_eq_skeleton]; unfold k0_part22_skel
  simp only [semSignalWord, semWaitWord, Prog.lift, Prog.bind_op, Prog.bind_ret, Prog.pure_eq_ret]
  iintro ⟨Hp, R00, G11⟩ Hk
  iapply (wp_ag K c (P := P) (t := 15) (j := 0) (r := 0) (by decide) rfl rfl (n := 15) (n' := 16) rfl rfl (w := 12) (by decide) (Fin.ext (dev_eq c).2.2.2.2.2.2.1) (off_gather c).2.2.1 rfl rfl rfl) $$ [Hp R00]
  · isplitl [Hp] <;> iassumption
  iintro Hp
  iapply (wp_gathered K c (P := P) (t := 13) (j := 1) (r := 1) (by decide) rfl rfl (n := 13) (n' := 14) rfl rfl (s := 16) (by decide) rfl rfl) $$ Hp
  iintro ⟨Hp, W1⟩
  ihave H := (share_zero P c 1) $$ [G11 W1]
  · isplitl [G11] <;> iassumption
  icases H with ⟨R01, L11⟩
  iapply (wp_ag K c (P := P) (t := 16) (j := 1) (r := 0) (by decide) rfl rfl (n := 16) (n' := 17) rfl rfl (w := 12) (by decide) (Fin.ext (dev_eq c).2.2.2.2.2.2.2.1) (off_gather c).2.2.2.1 rfl rfl rfl) $$ [Hp R01]
  · isplitl [Hp] <;> iassumption
  iintro Hp
  rw [wp_ret]; imodintro
  iapply Hk
  isplitl [Hp] <;> iassumption

/-- The second rows of part 2 arrive and its third transfer starts; two departures. -/
theorem part23 (v16 v69 v598 v651 : BitVec 32) {Q : _ → sProp 𝕄} :
    iprop(proto2 P K c 17 14 12 ∗ G1 P c 2)
      ⊢ iprop(((proto2 P K c 18 15 14 ∗ L1 P c 2) -∗ Q ⟨⟩)
        -∗ wp frame (wpE (defs₀ (F := F)) 𝒱₀ (c : Thread nD τ) none) Set.univ (at' (k0_part23 (F := F)) i c v16 v69 v598 v651) Q) := by
  unfold at'
  rw [k0_part23_eq_skeleton]; unfold k0_part23_skel
  simp only [semSignalWord, semWaitWord, Prog.lift, Prog.bind_op, Prog.bind_ret, Prog.pure_eq_ret]
  iintro ⟨Hp, G12⟩ Hk
  iapply (wp_gathered K c (P := P) (t := 14) (j := 2) (r := 1) (by decide) rfl rfl (n := 14) (n' := 15) rfl rfl (s := 17) (by decide) rfl rfl) $$ Hp
  iintro ⟨Hp, W2⟩
  ihave H := (share_zero P c 2) $$ [G12 W2]
  · isplitl [G12] <;> iassumption
  icases H with ⟨R02, L12⟩
  iapply (wp_ag K c (P := P) (t := 17) (j := 2) (r := 0) (by decide) rfl rfl (n := 17) (n' := 18) rfl rfl (w := 12) (by decide) (Fin.ext (dev_eq c).2.2.2.2.2.2.2.2) (off_gather c).2.2.2.2 rfl rfl rfl) $$ [Hp R02]
  · isplitl [Hp] <;> iassumption
  iintro Hp
  iapply (wp_back_out K c (P := P) 12 (j := 0) (r := 1) (by decide) rfl rfl (n := 12) (n' := 13) rfl rfl (s := 18) (by decide) rfl rfl) $$ Hp
  iintro Hp
  iapply (wp_back_out K c (P := P) 13 (j := 1) (r := 1) (by decide) rfl rfl (n := 13) (n' := 14) rfl rfl (s := 18) (by decide) rfl rfl) $$ Hp
  iintro Hp
  rw [wp_ret]; imodintro
  iapply Hk
  isplitl [Hp] <;> iassumption

/-- The third rows of every part arrive. -/
theorem part24 (v63 v66 v69 : BitVec 32) {Q : _ → sProp 𝕄} :
    iprop(proto2 P K c 18 15 14)
      ⊢ iprop(((proto2 P K c 18 18 15 ∗ L0 P c 0 ∗ L0 P c 1 ∗ L0 P c 2) -∗ Q ⟨⟩)
        -∗ wp frame (wpE (defs₀ (F := F)) 𝒱₀ (c : Thread nD τ) none) Set.univ (at' (k0_part24 (F := F)) i c v63 v66 v69) Q) := by
  unfold at'
  rw [k0_part24_eq_skeleton]; unfold k0_part24_skel
  simp only [semSignalWord, semWaitWord, Prog.lift, Prog.bind_op, Prog.bind_ret, Prog.pure_eq_ret]
  iintro Hp Hk
  iapply (wp_back_out K c (P := P) 14 (j := 2) (r := 1) (by decide) rfl rfl (n := 14) (n' := 15) rfl rfl (s := 18) (by decide) rfl rfl) $$ Hp
  iintro Hp
  iapply (wp_gathered K c (P := P) (t := 15) (j := 0) (r := 0) (by decide) rfl rfl (n := 15) (n' := 16) rfl rfl (s := 18) (by decide) rfl rfl) $$ Hp
  iintro ⟨Hp, L00⟩
  iapply (wp_gathered K c (P := P) (t := 16) (j := 1) (r := 0) (by decide) rfl rfl (n := 16) (n' := 17) rfl rfl (s := 18) (by decide) rfl rfl) $$ Hp
  iintro ⟨Hp, L01⟩
  iapply (wp_gathered K c (P := P) (t := 17) (j := 2) (r := 0) (by decide) rfl rfl (n := 17) (n' := 18) rfl rfl (s := 18) (by decide) rfl rfl) $$ Hp
  iintro ⟨Hp, L02⟩
  rw [wp_ret]; imodintro
  iapply Hk
  isplitl [Hp]; · iexact Hp
  isplitl [L00]; · iexact L00
  isplitl [L01] <;> iassumption

end Cert.Cube

end
-- ==== Proof.Run4.lean ====
/-
# The whole body

From what a device holds at its start to what it holds at its end.
-/
module

public import proofs.«01_k».proof.Proof.Run3
public import Idealize.ShloMosaic.Lib.Pipeline.Value

@[expose] public section

noncomputable section

namespace Cert.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (K : Dev nD × Option XK → ℕ) (c : Dev nD) (i : grid0.Coords) (I : Dev nD → Ins F)

/-- The scratch buffers, with any contents. -/
def scratch (c : Dev nD) : sProp 𝕄 := iprop((bigSep Finset.univ fun j => rowsAny (F := F) (stgM j) c 0 (stgR j)) ∗ rowsAny (F := F) accM c 0 1024)

/-- What device `c` holds at its start, its result buffer and its blocks apart. -/
def atStart (P : Dev nD → ℕ → ℕ → Elt F .f32) : sProp 𝕄 :=
  iprop(recs P K ∗ levAts L lv ∗ (∃ W, owes (c : Thread nD τ) (O₀ c) W)
    ∗ (dutyTok ER (barCell (par 0 c)) 0 0 ∗ dutyTok ER (barCell (par 1 c)) 0 1 ∗ dutyTok ER (barCell (par 2 c)) 0 2)
    ∗ cred (tallyAt (barCell c) () 3) ∗ atPos ER (barCell c) 0 ∅ 0 ∗ tokens c ∗ scratch c)

/-- What it holds at its end, its result buffer and its blocks apart. -/
def atEnd : sProp 𝕄 :=
  iprop((∃ W, owes (c : Thread nD τ) 0 W) ∗ semVal (barCell c) 0 ∗ (bigSep Finset.univ fun t => semVal (sCell c t) 0)
    ∗ (bigSep Finset.univ fun t => semVal (rCell c t) 0) ∗ scratch (F := F) c)

/-- The accumulator's rows, part by part. -/
theorem acc_parts : rowsAny (F := F) accM c 0 1024 ⊢ (iprop(rowsAny accM c 0 384 ∗ rowsAny accM c 384 384 ∗ rowsAny accM c 768 256) : sProp 𝕄) := by
  have h1 : rowsAny (F := F) accM c 0 1024 ⊢ (iprop(rowsAny accM c 0 384 ∗ rowsAny accM c 384 640) : sProp 𝕄) := rowsAny_split accM c 0 384 640
  have h2 : rowsAny (F := F) accM c 384 640 ⊢ (iprop(rowsAny accM c 384 384 ∗ rowsAny accM c 768 256) : sProp 𝕄) := rowsAny_split accM c 384 384 256
  iintro H
  ihave H := h1 $$ H
  icases H with ⟨A, B⟩
  isplitl [A]; · iexact A
  iapply h2 $$ B

/-- The state after the last wait is the end. -/
theorem proto_end (P : Dev nD → ℕ → ℕ → Elt F .f32) :
    iprop(proto2 P K c 18 18 18 ∗ (bigSep Finset.univ fun j => F3 P c j) ∗ (bigSep Finset.univ fun j => leftOver P c j) ∗ semVal (barCell c) 0)
      ⊢ (iprop(atEnd c ∗ rowsPts outM c fullShare 0 1024 (O P)) : sProp 𝕄) := by
  have ha := acc_back P c
  have hl := landed P c
  have ho := out_back P c
  have hz : (iprop(∃ W, owes (c : Thread nD τ) (Orem 18 c) W) : sProp 𝕄) ⊢ iprop(∃ W, owes (c : Thread nD τ) 0 W) := by rw [Orem_end]
  unfold proto2 proto atEnd scratch
  rw [show min 18 9 = 9 from rfl, show below 18 = Finset.univ from by decide, bigSep_halves (Φ := fun t => sendPay P t c)]
  iintro ⟨⟨⟨-, -, HO, -, Hr, -, Hs, -⟩, Hl, ⟨Hb, Hb'⟩⟩, HF, HL, Hz⟩
  isplitr [HL Hb']
  · isplitl [HO]; · iapply hz $$ HO
    isplitl [Hz]; · iexact Hz
    isplitl [Hs]; · iexact Hs
    isplitl [Hr]; · iexact Hr
    isplitl [Hl]; · iapply hl $$ Hl
    iapply ha
    isplitl [Hb] <;> iassumption
  iapply ho
  isplitl [HL] <;> iassumption

/-- The landing rows of a device, given to its neighbours as they signal. -/
theorem start_rows : iprop((bigSep Finset.univ fun j => rowsAny (F := F) (stgM j) c 0 (stgR j)) ∗ rowsAny (F := F) outM c 0 1024)
    ⊢ (iprop((barPay 0 (par 0 c) ∗ barPay 1 (par 1 c) ∗ barPay 2 (par 2 c)) ∗ Out c 0 ∗ Out c 1 ∗ Out c 2) : sProp 𝕄) := by
  have h := landings (F := F) c
  have h' := own_landing (F := F) c
  have h3 : (bigSep Finset.univ fun j => Out (F := F) c j) ⊢ (iprop(Out c 0 ∗ Out c 1 ∗ Out c 2) : sProp 𝕄) := Entails.of_eq bigSep_three
  iintro H
  ihave H := h $$ H
  icases H with ⟨H1, H2⟩
  isplitl [H1]
  · iapply h' $$ H1
  iapply h3 $$ H2

/-- The body, from its start to its end. -/
theorem body {Q : PUnit → sProp 𝕄} :
    iprop(atStart K c (PP I) ∗ rowsAny outM c 0 1024 ∗ inputs c (I c))
      ⊢ iprop(((atEnd c ∗ rowsPts outM c fullShare 0 1024 (O (PP I)) ∗ inputs c (I c)) -∗ Q ⟨⟩)
        -∗ wp frame (wpE (defs₀ (F := F)) 𝒱₀ (c : Thread nD τ) none) Set.univ (at' (cc0_body (F := F)) i) Q) := by
  have hsr := start_rows (F := F) c
  have hap := acc_parts (F := F) c
  have hpb := proto_begin (PP I) K c
  have hpe := proto_end K c (PP I)
  unfold at'
  rw [cc0_body_eq_skeleton]; unfold cc0_body_skel atStart scratch
  iintro ⟨⟨#Hrec, #Hlev, HO, ⟨T0, T1, T2⟩, Hc, Hat, Htok, Hstg, Hacc⟩, Hout, Hin⟩ Hk
  ihave H := hsr $$ [Hstg Hout]
  · isplitl [Hstg] <;> iassumption
  icases H with ⟨⟨B0, B1, B2⟩, O0, O1, O2⟩
  ihave H := hap $$ Hacc
  icases H with ⟨A0, A1, A2⟩
  rw [wp_bind]
  iapply (part1 c i)
  iintro %v2 %v12 %v16 %v33 %c4 %v34 %v36
  dsimp only
  rw [wp_bind]
  iapply (part2 K c i (PP I) v2 v12 c4 v34 v36) $$ [HO T0 B0]
  · isplitr; · iexact Hrec
    isplitl [HO]; · iexact HO
    isplitl [T0] <;> iassumption
  iintro %v50 %v63 %v66 %v69 %v73 HO
  dsimp only
  rw [wp_bind]
  iapply (part3 K c i (PP I) v69 v73 (I c)) $$ [HO T1 B1 T2 B2 Hc Hat Hin]
  · isplitr; · iexact Hrec
    isplitr; · iexact Hlev
    isplitl [HO]; · iexact HO
    isplitl [T1 B1]
    · isplitl [T1] <;> iassumption
    isplitl [T2 B2]
    · isplitl [T2] <;> iassumption
    isplitl [Hc]; · iexact Hc
    isplitl [Hat] <;> iassumption
  iintro ⟨HO, Hz, Hland, Hin⟩
  dsimp only
  rw [wp_bind]
  iapply (part4 c i (I c) _ _ _ _ _) $$ Hin
  iintro Hin
  dsimp only
  rw [wp_bind]
  iapply (part5 c i (I c) _ _ _) $$ Hin
  iintro Hin
  dsimp only
  rw [wp_bind]
  iapply (part6 c i (I c) _ _ _ _) $$ Hin
  iintro Hin
  dsimp only
  ihave Hp := hpb $$ [HO Htok Hland]
  · isplitr; · iexact Hrec
    isplitr; · iexact Hlev
    isplitl [HO]; · iexact HO
    isplitl [Htok] <;> iassumption
  rw [wp_bind]
  iapply (part7 K c i I v16 v63) $$ [Hp Hin A0]
  · isplitl [Hp]; · iexact Hp
    isplitl [Hin] <;> iassumption
  iintro ⟨Hp, Hin, K0⟩
  dsimp only
  rw [wp_bind]
  iapply (part8 K c i I v33 v50 v66 v69) $$ [Hp Hin A1 A2]
  · isplitl [Hp]; · iexact Hp
    isplitl [Hin]; · iexact Hin
    isplitl [A1] <;> iassumption
  iintro ⟨Hp, Hin, K1, S2, K2⟩
  rw [wp_bind]
  iapply (part9 (PP I) K c i v16 v33 v63 v66) $$ [Hp S2 K0]
  · isplitl [Hp]; · iexact Hp
    isplitl [S2] <;> iassumption
  iintro %v278
  iintro ⟨Hp, S0, K0⟩
  rw [wp_bind]
  iapply (part10 (PP I) K c i v33 v50 v66 v69) $$ [Hp S0 K1]
  · isplitl [Hp]; · iexact Hp
    isplitl [S0] <;> iassumption
  iintro %v305 %v331
  iintro ⟨Hp, K1⟩
  dsimp only
  rw [wp_bind]
  iapply (part11 (PP I) K c i v16 v63 v69 v331 _) $$ [Hp K2]
  · isplitl [Hp] <;> iassumption
  iintro %v332
  iintro ⟨Hp, K2⟩
  rw [wp_bind]
  iapply (part12 (PP I) K c i v33 v66 v278) $$ [Hp K0]
  · isplitl [Hp] <;> iassumption
  iintro %v371 %w
  iintro ⟨Hp, K0, %hw⟩
  dsimp only
  rw [wp_bind]
  iapply (part13 (PP I) K c i v50 v69 v305 v371 w hw) $$ [Hp K0 K1]
  · isplitl [Hp]; · iexact Hp
    isplitl [K0] <;> iassumption
  iintro %v398
  iintro ⟨Hp, K0, S1, K1⟩
  dsimp only
  rw [wp_bind]
  iapply (part14 (PP I) K c i v16 v33 v63 v332 v398 _) $$ [Hp S1 K2]
  · isplitl [Hp]; · iexact Hp
    isplitl [S1] <;> iassumption
  iintro %v425
  iintro ⟨Hp, S2, K2⟩
  rw [wp_bind]
  iapply (part15 (PP I) K c i v50 v66 v371) $$ [Hp S2]
  · isplitl [Hp] <;> iassumption
  iintro %v464
  iintro Hp
  rw [wp_bind]
  iapply (part16 (PP I) K c i v16 v63 v69 v398 v464) $$ [Hp K0 K1]
  · isplitl [Hp]; · iexact Hp
    isplitl [K0] <;> iassumption
  iintro %v480
  iintro ⟨Hp, K0, K1⟩
  rw [wp_bind]
  iapply (part17 (PP I) K c i v33 v66 v425) $$ [Hp K2]
  · isplitl [Hp] <;> iassumption
  iintro %v496
  iintro ⟨Hp, K2⟩
  rw [wp_bind]
  iapply (part18 (PP I) K c i v63 v69 v464 v480 v496) $$ [Hp K0 K1 O0 O1]
  · isplitl [Hp]; · iexact Hp
    isplitl [K0]; · iexact K0
    isplitl [K1]; · iexact K1
    isplitl [O0] <;> iassumption
  iintro ⟨Hp, K0, K1, G0, G1⟩
  rw [wp_bind]
  iapply (part19 (PP I) K c i v50 v66 v69 v464 v496) $$ [Hp K2 O2 G0]
  · isplitl [Hp]; · iexact Hp
    isplitl [K2]; · iexact K2
    isplitl [O2] <;> iassumption
  iintro %v566
  iintro ⟨Hp, K2, G2, G0, X0⟩
  rw [wp_bind]
  iapply (part20 (PP I) K c i v16 v33 v63 v66 v69 v480 v496) $$ [Hp G1 G2]
  · isplitl [Hp]; · iexact Hp
    isplitl [G1] <;> iassumption
  iintro %v582 %v598
  iintro ⟨Hp, G1, X1, R2, G2, X2⟩
  dsimp only
  rw [wp_bind]
  iapply (part21 (PP I) K c i v66) $$ [Hp R2 G0]
  · isplitl [Hp]; · iexact Hp
    isplitl [R2] <;> iassumption
  iintro %c96
  iintro ⟨Hp, R0, Y0⟩
  rw [wp_bind]
  iapply (part22 (PP I) K c i v33 v50 v63 v66 v69 v566 v582 c96) $$ [Hp R0 G1]
  · isplitl [Hp]; · iexact Hp
    isplitl [R0] <;> iassumption
  iintro %v651
  iintro ⟨Hp, Y1⟩
  rw [wp_bind]
  iapply (part23 (PP I) K c i v16 v69 v598 v651) $$ [Hp G2]
  · isplitl [Hp] <;> iassumption
  iintro ⟨Hp, Y2⟩
  rw [wp_bind]
  iapply (part24 (PP I) K c i v63 v66 v69) $$ Hp
  iintro ⟨Hp, Z0, Z1, Z2⟩
  simp only [Prog.lift, Prog.bind_op, Prog.bind_ret, Prog.pure_eq_ret]
  iapply (wp_back_out K c (P := PP I) 15 (j := 0) (r := 0) (by decide) rfl rfl (n := 15) (n' := 16) rfl rfl (s := 18) (by decide) rfl rfl) $$ Hp
  iintro Hp
  iapply (wp_back_out K c (P := PP I) 16 (j := 1) (r := 0) (by decide) rfl rfl (n := 16) (n' := 17) rfl rfl (s := 18) (by decide) rfl rfl) $$ Hp
  iintro Hp
  iapply (wp_back_out K c (P := PP I) 17 (j := 2) (r := 0) (by decide) rfl rfl (n := 17) (n' := 18) rfl rfl (s := 18) (by decide) rfl rfl) $$ Hp
  iintro Hp
  rw [wp_ret]; imodintro
  have h3 : iprop(F3 (PP I) c 0 ∗ F3 (PP I) c 1 ∗ F3 (PP I) c 2) ⊢ (bigSep Finset.univ fun j => F3 (PP I) c j : sProp 𝕄) := Entails.of_eq bigSep_three.symm
  have hL : iprop(leftOver (PP I) c 0 ∗ leftOver (PP I) c 1 ∗ leftOver (PP I) c 2) ⊢ (bigSep Finset.univ fun j => leftOver (PP I) c j : sProp 𝕄) := Entails.of_eq bigSep_three.symm
  have hl : ∀ j, iprop(L2 (PP I) c j ∗ L1 (PP I) c j ∗ L0 (PP I) c j) ⊢ (leftOver (PP I) c j : sProp 𝕄) := fun j => by
    unfold leftOver
    iintro ⟨X, ⟨Y, Y'⟩, Z⟩
    isplitl [X]; · iexact X
    isplitl [Y]; · iexact Y
    isplitl [Y'] <;> iassumption
  ihave HE := hpe $$ [Hp K0 K1 K2 X0 X1 X2 Y0 Y1 Y2 Z0 Z1 Z2 Hz]
  · isplitl [Hp]; · iexact Hp
    isplitl [K0 K1 K2]
    · iapply h3
      isplitl [K0]; · iexact K0
      isplitl [K1] <;> iassumption
    isplitr [Hz]
    · iapply hL
      isplitl [X0 Y0 Z0]
      · iapply (hl 0)
        isplitl [X0]; · iexact X0
        isplitl [Y0] <;> iassumption
      isplitl [X1 Y1 Z1]
      · iapply (hl 1)
        isplitl [X1]; · iexact X1
        isplitl [Y1] <;> iassumption
      iapply (hl 2)
      isplitl [X2]; · iexact X2
      isplitl [Y2] <;> iassumption
    iexact Hz
  icases HE with ⟨HE, Ho⟩
  iapply Hk
  isplitl [HE]; · iexact HE
  isplitl [Ho] <;> iassumption

end Cert.Cube

end
-- ==== Proof.Launch1.lean ====
/-
# The cells at the launch

The units, positions and payments of every cell, dealt to the devices that use them.
-/
module

public import proofs.«01_k».proof.Proof.Run4
public import Idealize.ShloMosaic.Lib.Pipeline.Value

@[expose] public section

noncomputable section

namespace Cert.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → ℕ → ℕ → Elt F .f32) (K : Dev nD × Option XK → ℕ) (c : Dev nD)

/-- A conjunction over a device's cells: the barrier's, and the transfers'. -/
theorem bigSep_cells' (Φ : Option XK → sProp 𝕄) : bigSep Finset.univ Φ = iprop(Φ none ∗ bigSep Finset.univ fun k => Φ (some k)) := by
  rw [show (Finset.univ : Finset (Option XK)) = insert none (Finset.univ.map Function.Embedding.some) from by decide, bigSep_ins (by decide), bigSep_map]
  rfl
/-- A conjunction over the ends of the transfers. -/
theorem bigSep_ends (Φ : XK → sProp 𝕄) : bigSep Finset.univ Φ = iprop((bigSep Finset.univ fun t => Φ (.inl t)) ∗ bigSep Finset.univ fun t => Φ (.inr t)) :=
  bigSep_univ_sum Φ

theorem csem_inj : Function.Injective csem := by
  rintro (_ | k) (_ | k') h
  · rfl
  · cases h
  · cases h
  · exact congrArg some (xsem_inj (by injection h))
theorem kcell_inj : Function.Injective (kcell : Dev nD × Option XK → GSem nD τ sig) := by
  rintro ⟨c, k⟩ ⟨c', k'⟩ h
  have h1 : c = c' := congrArg (fun g : GSem nD τ sig => g.1.1) h
  have h2 : csem k = csem k' := congrArg Prod.snd h
  rw [h1, csem_inj h2]
def allCells : Finset (GSem nD τ sig) := Finset.univ.map ⟨kcell, kcell_inj⟩

/-- The payments on a device's own cells: three on its barrier, one on each end of a transfer. -/
abbrev TK : Type := Fin 3 ⊕ XK
abbrev tokOf (ck : Dev nD × TK) : GSem nD τ sig × ℕ × Fin 3 := match ck.2 with
  | .inl d => (barCell ck.1, 0, d) | .inr k => (xCell ck.1 k, 0, 0)
theorem tokOf_inj : Function.Injective (tokOf : Dev nD × TK → GSem nD τ sig × ℕ × Fin 3) := by
  rintro ⟨c, k⟩ ⟨c', k'⟩ h
  have h1 : c = c' := by
    have := congrArg (fun x : GSem nD τ sig × ℕ × Fin 3 => x.1.1.1) h
    rcases k with d | k <;> rcases k' with d' | k' <;> exact this
  have h2 : (tokOf (c, k)).1.2 = (tokOf (c', k')).1.2 := congrArg (fun x : GSem nD τ sig × ℕ × Fin 3 => x.1.2) h
  have h3 : (tokOf (c, k)).2.2 = (tokOf (c', k')).2.2 := congrArg (fun x : GSem nD τ sig × ℕ × Fin 3 => x.2.2) h
  have h4 : k = k' := by
    rcases k with d | k <;> rcases k' with d' | k'
    · exact congrArg Sum.inl h3
    · cases h2
    · cases h2
    · exact congrArg Sum.inr (xsem_inj (SemLoc.dma.inj h2))
  rw [h1, h4]
def allToks : Finset (GSem nD τ sig × ℕ × Fin 3) := Finset.univ.map ⟨tokOf, tokOf_inj⟩

/-- The launch's element: the pipeline's, and the protocol's. -/
def u₀ : UU := (initOf (Pipeline.cells cfgs cellOf_inj) (Pipeline.launchToks cfgs cellOf_inj), initOf allCells allToks)

/-- The payments on device `c`'s own cells. -/
def toks (c : Dev nD) : sProp 𝕄 :=
  iprop((bigSep Finset.univ fun d => dutyTok ER (barCell c) 0 d) ∗ (bigSep Finset.univ fun t => dutyTok ER (sCell c t) 0 0) ∗ (bigSep Finset.univ fun t => dutyTok ER (rCell c t) 0 0))
/-- The payments device `c` makes. -/
def payToks (c : Dev nD) : sProp 𝕄 :=
  iprop((bigSep Finset.univ fun d => dutyTok ER (barCell (par d c)) 0 d) ∗ (bigSep Finset.univ fun t => dutyTok ER (sCell c t) 0 0) ∗ (bigSep Finset.univ fun t => dutyTok ER (rCell (par (td t) c) t) 0 0))

/-- What the launch deals device `c`. -/
def G (c : Dev nD) : sProp 𝕄 :=
  iprop((bigSep Finset.univ fun k => roundState ER (sched P) (kcell (c, k)) 0)
    ∗ (bigSep Finset.univ fun k => iprop(atPos ER (kcell (c, k)) 0 ∅ 0 ∗ reached ER (kcell (c, k)) 0)) ∗ toks c)

/-- What device `c` alone holds of the protocol. -/
def linear (c : Dev nD) : sProp 𝕄 := iprop((bigSep Finset.univ fun k => atPos ER (kcell (c, k)) 0 ∅ 0) ∗ payToks c)
/-- What it holds once every cell's invariant stands. -/
def G' (c : Dev nD) : sProp 𝕄 := iprop(∃ K, recs P K ∗ linear c)

theorem fund_all : BI.own (ER (initOf allCells allToks)) ⊢ (|==> bigSep Finset.univ (G P) : sProp 𝕄) := by
  have hX (Φ : GSem nD τ sig → sProp 𝕄) : bigSep allCells Φ = bigSep Finset.univ fun c : Dev nD => bigSep Finset.univ fun k => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum, bigSep_ends]; rfl
  iintro HX
  imod (Rounds.fund ER (sched P) allCells allToks) $$ HX with ⟨Hst, Hr, Hat, Htok⟩
  imodintro
  ihave Hst' := (Entails.of_eq (hX fun g => roundState ER (sched P) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The kernel's own semaphores at zero, end by end. -/
theorem ownSems0_eq : (Pipeline.ownSems0 (Ix := Unit) (Name := ℕ) (U := UU) (Lvl := ℕ) (Val := Elt F) (τ := τ) osem c : sProp 𝕄)
    = iprop((bigSep Finset.univ fun t => semVal (sCell c t) 0) ∗ bigSep Finset.univ fun t => semVal (rCell c t) 0) := by
  unfold Pipeline.ownSems0; rw [bigSep_ends]
/-- The barrier's semaphore is the launch's one unscoped semaphore. -/
theorem unscopedSems0_eq : (unscopedSems0 c : sProp 𝕄) = semVal (barCell c) 0 := by
  unfold unscopedSems0; rw [bigSep_eq_bigSepL_of_eq [SemLoc.reg barS] (by decide) (by decide)]; rfl

theorem sems0_eq :
    iprop(Pipeline.ownSems0 (Ix := Unit) (Name := ℕ) (U := UU) (Lvl := ℕ) (Val := Elt F) (τ := τ) osem c ∗ unscopedSems0 c)
      ⊢ (bigSep Finset.univ fun k => semVal (kcell (c, k)) 0 : sProp 𝕄) := by
  rw [unscopedSems0_eq, bigSep_cells']
  unfold Pipeline.ownSems0
  iintro ⟨HS, HB⟩
  isplitl [HB] <;> iassumption

theorem core_alloc :
    iprop(Pipeline.ownSems0 (Ix := Unit) (Name := ℕ) (U := UU) (Lvl := ℕ) (Val := Elt F) (τ := τ) osem c ∗ unscopedSems0 c ∗ G P c)
      ⊢ |={Set.univ}=> iprop((bigSep Finset.univ fun k => iprop(∃ κ : ℕ, cellInv ER (sched P) κ (kcell (c, k))))
          ∗ (bigSep Finset.univ fun k => iprop(atPos ER (kcell (c, k)) 0 ∅ 0 ∗ reached ER (kcell (c, k)) 0)) ∗ toks c) := by
  have alloc : iprop((bigSep Finset.univ fun k => semVal (kcell (c, k)) 0) ∗ bigSep Finset.univ fun k => roundState ER (sched P) (kcell (c, k)) 0)
      ⊢ (|={Set.univ}=> bigSep Finset.univ fun k => iprop(∃ κ : ℕ, cellInv ER (sched P) κ (kcell (c, k))) : sProp 𝕄) := by
    rw [← bigSep_sep']
    exact (bigSep_mono fun k _ => (Rounds.body_intro ER (sched P) (kcell (c, k))).trans inv_alloc).trans (bigSep_fupd _ _)
  unfold G
  iintro ⟨Hos, Hus, Hst, Hat, Htok⟩
  ihave Hv := (sems0_eq (F := F) c) $$ [Hos Hus]
  · isplitl [Hos] <;> iassumption
  imod alloc $$ [Hv Hst] with Hinv
  · isplitl [Hv] <;> iassumption
  imodintro
  isplitl [Hinv]; · iexact Hinv
  isplitl [Hat] <;> iassumption

/-- Each payment goes to the device that makes it: the neighbour along its axis. -/
theorem toks_around : (bigSep Finset.univ fun c : Dev nD => (toks c : sProp 𝕄)) ⊢ bigSep Finset.univ fun c : Dev nD => payToks c := by
  have along {I : Type} [Fintype I] [DecidableEq I] (Φ : I → Dev nD → sProp 𝕄) (d : I → Fin 3) :
      (bigSep Finset.univ fun c => bigSep Finset.univ fun t => Φ t c) = bigSep Finset.univ fun c => bigSep Finset.univ fun t => Φ t (par (d t) c) := by
    rw [BI.bigSep_univ_comm fun c t => Φ t c, BI.bigSep_univ_comm fun c t => Φ t (par (d t) c)]
    exact bigSep_congr fun t _ => bigSep_univ_equiv (flip (d t)) (Φ t)
  unfold toks payToks
  rw [bigSep_sep', bigSep_sep', bigSep_sep', bigSep_sep', along (fun d c => dutyTok ER (barCell c) 0 d) id, along (fun t c => dutyTok ER (rCell c t) 0 0) td]
  exact Entails.refl _

theorem give_all {R : sProp 𝕄} [BI.Persistent R] {Φ Ψ : Dev nD → sProp 𝕄} (h : ∀ i, iprop(R ∗ Φ i) ⊢ Ψ i) :
    iprop(R ∗ bigSep Finset.univ Φ) ⊢ bigSep Finset.univ Ψ :=
  (sep_mono_left (BI.bigSep_of_persistent Finset.univ R)).trans (by rw [← bigSep_sep']; exact bigSep_mono fun i _ => h i)

theorem regroup :
    (bigSep Finset.univ fun c : Dev nD => iprop((bigSep Finset.univ fun k => iprop(∃ κ : ℕ, cellInv ER (sched P) κ (kcell (c, k))))
          ∗ (bigSep Finset.univ fun k => iprop(atPos ER (kcell (c, k)) 0 ∅ 0 ∗ reached ER (kcell (c, k)) 0)) ∗ toks c) : sProp 𝕄)
      ⊢ bigSep Finset.univ (G' P) := by
  have hG : ∀ K c, iprop(recs P K ∗ linear c) ⊢ G' P c := fun K c => by
    unfold G'
    iintro H
    iexists K; iexact H
  have hlin : iprop((bigSep Finset.univ fun c : Dev nD => bigSep Finset.univ fun k => (atPos ER (kcell (c, k)) 0 ∅ 0 : sProp 𝕄)) ∗ bigSep Finset.univ fun c : Dev nD => payToks c)
      ⊢ (bigSep Finset.univ fun c : Dev nD => linear c : sProp 𝕄) := by unfold linear; rw [bigSep_sep']
  rw [bigSep_sep', bigSep_sep', ← bigSep_univ_prod (fun ck : Dev nD × Option XK => iprop(∃ κ : ℕ, cellInv ER (sched P) κ (kcell ck))),
    bigSep_congr (s := Finset.univ) (fun (c : Dev nD) _ => bigSep_sep' Finset.univ (fun k => (atPos ER (kcell (c, k)) 0 ∅ 0 : sProp 𝕄)) (fun k => reached ER (kcell (c, k)) 0)),
    bigSep_sep', ← bigSep_univ_prod (fun ck : Dev nD × Option XK => (reached ER (kcell ck) 0 : sProp 𝕄))]
  iintro ⟨HI, ⟨Hat, #HR⟩, Htok⟩
  ihave HK := (BI.bigSep_exists_pi Finset.univ (fun (ck : Dev nD × Option XK) (κ : ℕ) => (cellInv ER (sched P) κ (kcell ck) : sProp 𝕄))) $$ HI
  icases HK with ⟨%K, #HI⟩
  ihave Htk := (toks_around (F := F)) $$ Htok
  iapply (give_all (R := recs P K) fun c => hG K c)
  isplitr
  · unfold recs; rw [bigSep_sep']; isplitl; · iexact HI
    iexact HR
  iapply hlin
  isplitl [Hat] <;> iassumption

/-- The global step: the semaphores of every device become invariants. -/
theorem glob : (bigSep Finset.univ fun c => iprop(Pipeline.ownSems0 (Ix := Unit) (Name := ℕ) (U := UU) (Lvl := ℕ) (Val := Elt F) (τ := τ) osem c ∗ unscopedSems0 c ∗ G P c) : sProp 𝕄)
    ⊢ |={Set.univ}=> bigSep Finset.univ (G' P) :=
  ((bigSep_mono fun c _ => core_alloc P c).trans (bigSep_fupd _ _)).trans (BI.fupd_mono (regroup P))

/-! ## What the devices owe is what they may await -/

theorem tally_bar (d c : Dev nD) (x : Fin 3) : tallyAt (nD := nD) (τ := τ) (sig := sig) (barCell (par x d)) () 1 (barCell c) () = if d = par x c then 1 else 0 := by
  rw [tallyAt_apply]
  refine if_congr ⟨fun h => ?_, fun h => ?_⟩ rfl rfl
  · have : c = par x d := congrArg (fun g : GSem nD τ sig => g.1.1) h.1
    rw [this, par_par]
  · rw [h, par_par]; exact ⟨rfl, rfl⟩

theorem tally_x (d c : Dev nD) (t u : Fin 18) : tallyAt (nD := nD) (τ := τ) (sig := sig) (rCell (par (td u) d) u) () (N u) (rCell c t) () = if u = t then (if d = par (td t) c then N t else 0) else 0 := by
  rw [tallyAt_apply]
  by_cases h : u = t
  · subst h
    rw [if_pos rfl]
    refine if_congr ⟨fun h => ?_, fun h => ?_⟩ rfl rfl
    · have : c = par (td u) d := congrArg (fun g : GSem nD τ sig => g.1.1) h.1
      rw [this, par_par]
    · rw [h, par_par]; exact ⟨rfl, rfl⟩
  · rw [if_neg h, if_neg fun h' => h (Sum.inr.inj (xsem_inj (SemLoc.dma.inj (congrArg Prod.snd h'.1)))).symm]

theorem bar_ne_x (c d : Dev nD) (k : XK) : barCell c ≠ xCell d k := fun h => by cases congrArg Prod.snd h

theorem Orem_bar (d c : Dev nD) : Orem 0 d (barCell c) () = 0 := by
  by_contra h
  obtain ⟨t, -, ht⟩ := Orem_pos (Nat.pos_of_ne_zero h)
  exact bar_ne_x _ _ _ ht

theorem Orem_x (d c : Dev nD) (t : Fin 18) : Orem 0 d (rCell c t) () = if d = par (td t) c then N t else 0 := by
  unfold Orem
  rw [Finset.sum_apply, Finsupp.finset_sum_apply, show from' 0 = Finset.univ from by decide, Finset.sum_congr rfl fun u _ => tally_x d c t u,
    Finset.sum_ite_eq' Finset.univ t, if_pos (Finset.mem_univ _)]

/-- What device `d` owes device `c`'s barrier. -/
theorem owed_bar (d c : Dev nD) : O₀ d (barCell c) () = (if d = par 2 c then 1 else 0) + (if d = par 1 c then 1 else 0) + (if d = par 0 c then 1 else 0) := by
  unfold O₀ O₁ O₂
  rw [Pi.add_apply, Finsupp.add_apply, Pi.add_apply, Finsupp.add_apply, Pi.add_apply, Finsupp.add_apply, Orem_bar, tally_bar, tally_bar, tally_bar, Nat.zero_add]

/-- What device `d` owes the receiver's cell of transfer `t` on device `c`. -/
theorem owed_x (d c : Dev nD) (t : Fin 18) : O₀ d (rCell c t) () = if d = par (td t) c then N t else 0 := by
  unfold O₀ O₁ O₂
  rw [Pi.add_apply, Finsupp.add_apply, Pi.add_apply, Finsupp.add_apply, Pi.add_apply, Finsupp.add_apply, Orem_x,
    tallyAt_ne_cell (fun h => bar_ne_x _ _ _ h.symm), tallyAt_ne_cell (fun h => bar_ne_x _ _ _ h.symm), tallyAt_ne_cell (fun h => bar_ne_x _ _ _ h.symm), Finsupp.zero_apply, Nat.add_zero,
    Nat.add_zero, Nat.add_zero]

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib]
  simp only [Finset.sum_ite_eq' Finset.univ, Finset.mem_univ, if_true]

theorem launch_x (c : Dev nD) (t : Fin 18) :
    tallyOn (rCell c t) (launchCredit (Pipeline.owing O₀) 0 (rCell c t)) = (tallyAt (rCell c t) () (N t) : CellTallies nD τ sig Unit) := by
  unfold tallyAt; refine congrArg _ (Finsupp.ext fun u => ?_); cases u
  rw [Pipeline.launchCredit_owing, Finsupp.single_eq_same, Finset.sum_congr rfl fun d _ => owed_x d c t, Finset.sum_ite_eq' Finset.univ (par (td t) c) fun _ => N t,
    if_pos (Finset.mem_univ _)]

/-- The semaphores of the arrivals are among a device's. -/
abbrev rLoc : Fin 18 ↪ SemLoc sig := ⟨fun t => .dma (rsem t), fun _ _ h => rsem_inj (SemLoc.dma.inj h)⟩

/-- The credits a device starts with. -/
theorem creds (c : Dev nD) :
    (Pipeline.launchCred O₀ c : sProp 𝕄) ⊢ iprop(cred (tallyAt (barCell c) () 3) ∗ bigSep Finset.univ fun t => cred (tallyAt (rCell c t) () (N t))) := by
  unfold Pipeline.launchCred
  rw [bigSep_univ_at _ (SemLoc.reg barS), launch_bar]
  refine sep_mono_right ?_
  have hs : Finset.univ.map rLoc ⊆ Finset.univ.erase (SemLoc.reg barS) := fun x hx => by
    obtain ⟨t, -, rfl⟩ := Finset.mem_map.mp hx
    exact Finset.mem_erase.mpr ⟨(fun h => by cases h), Finset.mem_univ _⟩
  refine (bigSep_subset hs).trans ?_
  rw [bigSep_map]
  exact bigSep_mono fun t _ => Entails.of_eq (congrArg cred (launch_x c t))

end Cert.Cube

end
-- ==== Proof.Launch2.lean ====
/-
# The whole run

The kernel from any memory with its counters at zero: every execution ends, the arguments as they were, the
result at what the devices computed, every counter at zero.
-/
module

public import proofs.«01_k».proof.Proof.Launch1
public import Idealize.ShloMosaic.Lib.Pipeline.Value
public import Idealize.ShloMosaic.Lib.Pipeline.CollectiveSegs
public import Idealize.ShloMosaic.Lib.Pipeline.FrameBody
public import proofs.«01_k».proof.Proof.Gen.KernelIdeal.Points

@[expose] public section

noncomputable section

namespace Cert.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-- The blocks each device loads, from memory. -/
def inp (c : Dev nD) : Ins F where
  x := (win0_0.blk t0_0).view.read (Elt F) (m ((c : Thread nD τ).loc main_arg0))
  wq := (win0_1.blk t0_0).view.read (Elt F) (m ((c : Thread nD τ).loc main_arg1))
  k := (win0_2.blk t0_0).view.read (Elt F) (m ((c : Thread nD τ).loc main_arg2))
  v := (win0_3.blk t0_0).view.read (Elt F) (m ((c : Thread nD τ).loc main_arg3))
  wo := (win0_4.blk t0_0).view.read (Elt F) (m ((c : Thread nD τ).loc main_arg4))

/-- The result, as every device stores it. -/
def outAt (c : Dev nD) : (cc0_stg5_0 : Ref sig .tc).ty.Contents (Elt F) := fun x => O (PP (inp m)) (x (0 : Fin 2)).val (x (1 : Fin 2)).val

/-- What device `c`'s body starts from, next to its scratch. -/
def start (c : Dev nD) : sProp 𝕄 :=
  iprop(G' (PP (inp m)) c ∗ (cred (tallyAt (barCell c) () 3) ∗ bigSep Finset.univ fun t => cred (tallyAt (rCell c t) () (N t))) ∗ levAts L lv)
def Φ₀ (c : Dev nD) : sProp 𝕄 := iprop(start m c ∗ scratch c)
/-- What it ends with: its scratch, and every semaphore at zero. -/
def Φ₁ (c : Dev nD) : sProp 𝕄 := iprop(semVal (barCell c) 0 ∗ (bigSep Finset.univ fun t => semVal (sCell c t) 0) ∗ (bigSep Finset.univ fun t => semVal (rCell c t) 0) ∗ scratch c)

def dats (_ : Fin 1) (c : Dev nD) : Dat τ (Elt F) Unit ℕ UU ℕ cfg0 c where
  A w := m ((cfg0.win w).arr.view.loc (c : Thread nD τ))
  after w _ := match w with
    | ⟨0, _⟩ => (inp m c).x
    | ⟨1, _⟩ => (inp m c).wq
    | ⟨2, _⟩ => (inp m c).k
    | ⟨3, _⟩ => (inp m c).v
    | ⟨4, _⟩ => (inp m c).wo
    | ⟨5, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem owns_whole (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body's obligation -/

abbrev stg (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre : sProp 𝕄 :=
  iprop(Φ₀ m c ∗ (dats m 0 c).owesAt () t0_0.castSucc
    ∗ (∃ d, owns (c : Thread nD τ) (Memref.whole cc0_stg0_0) fullShare ((dats m 0 c).before (0 : Fin 6) t0_0 d))
    ∗ (∃ d, owns (c : Thread nD τ) (Memref.whole cc0_stg1_0) fullShare ((dats m 0 c).before (1 : Fin 6) t0_0 d))
    ∗ (∃ d, owns (c : Thread nD τ) (Memref.whole cc0_stg2_0) fullShare ((dats m 0 c).before (2 : Fin 6) t0_0 d))
    ∗ (∃ d, owns (c : Thread nD τ) (Memref.whole cc0_stg3_0) fullShare ((dats m 0 c).before (3 : Fin 6) t0_0 d))
    ∗ (∃ d, owns (c : Thread nD τ) (Memref.whole cc0_stg4_0) fullShare ((dats m 0 c).before (4 : Fin 6) t0_0 d))
    ∗ (∃ d, owns (c : Thread nD τ) (Memref.whole cc0_stg5_0) fullShare ((dats m 0 c).before (5 : Fin 6) t0_0 d)))
def bodyPost : sProp 𝕄 :=
  iprop(Φ₁ c ∗ (dats m 0 c).owesAt () t0_0.succ
    ∗ owns (c : Thread nD τ) (Memref.whole cc0_stg0_0) fullShare (inp m c).x
    ∗ owns (c : Thread nD τ) (Memref.whole cc0_stg1_0) fullShare (inp m c).wq
    ∗ owns (c : Thread nD τ) (Memref.whole cc0_stg2_0) fullShare (inp m c).k
    ∗ owns (c : Thread nD τ) (Memref.whole cc0_stg3_0) fullShare (inp m c).v
    ∗ owns (c : Thread nD τ) (Memref.whole cc0_stg4_0) fullShare (inp m c).wo
    ∗ owns (c : Thread nD τ) (Memref.whole cc0_stg5_0) fullShare (outAt m c))

/-- What the launch deals is what the body starts from. -/
theorem enter (K : Dev nD × Option XK → ℕ) :
    iprop((recs (PP (inp m)) K ∗ linear c) ∗ ((cred (tallyAt (barCell c) () 3) ∗ bigSep Finset.univ fun t => cred (tallyAt (rCell c t) () (N t))) ∗ levAts L lv) ∗ scratch (F := F) c
        ∗ (dats m 0 c).owesAt () t0_0.castSucc)
      ⊢ atStart K c (PP (inp m)) := by
  have h3 : (bigSep Finset.univ fun d => (dutyTok ER (barCell (par d c)) 0 d : sProp 𝕄)) ⊢ iprop(dutyTok ER (barCell (par 0 c)) 0 0 ∗ dutyTok ER (barCell (par 1 c)) 0 1 ∗ dutyTok ER (barCell (par 2 c)) 0 2) :=
    Entails.of_eq bigSep_three
  have hat : (bigSep Finset.univ fun k => (atPos ER (kcell (c, k)) 0 ∅ 0 : sProp 𝕄))
      ⊢ iprop(atPos ER (barCell c) 0 ∅ 0 ∗ (bigSep Finset.univ fun t => atPos ER (sCell c t) 0 ∅ 0) ∗ (bigSep Finset.univ fun t => atPos ER (rCell c t) 0 ∅ 0)) := by
    rw [bigSep_cells', bigSep_ends]
  unfold atStart tokens linear payToks arriveOf Dat.owesAt Pipeline.owesWithin
  rw [bigSep_sep', bigSep_sep', show (dats m 0 c).owed t0_0.castSucc = O₀ c from rfl]
  iintro ⟨⟨Hrec, Hat, Hb, Hs, Hr⟩, ⟨⟨Hc, Hcr⟩, Hlev⟩, Hscr, ⟨%W, -, HO⟩⟩
  ihave Hb' := h3 $$ Hb
  ihave Hat' := hat $$ Hat
  icases Hat' with ⟨HaB, HaS, HaR⟩
  isplitl [Hrec]; · iexact Hrec
  isplitl [Hlev]; · iexact Hlev
  isplitl [HO]; · iexists W; iexact HO
  isplitl [Hb']; · iexact Hb'
  isplitl [Hc]; · iexact Hc
  isplitl [HaB]; · iexact HaB
  isplitr [Hscr]
  · isplitl [Hs Hr]
    · isplitl [Hs] <;> iassumption
    isplitr [HaS]
    · isplitl [HaR] <;> iassumption
    iexact HaS
  iexact Hscr

theorem out_any (f : Buf (Elt F) ((c : Thread nD τ).loc cc0_stg5_0)) : (((c : Thread nD τ).loc cc0_stg5_0) ↦{fullShare} f) ⊢ (rowsAny outM c 0 1024 : sProp 𝕄) := by
  rw [rowsAny_whole outM (View.set_whole _)]
  iintro H
  iexists f; iexact H

theorem out_whole (g : ℕ → ℕ → Elt F .f32) : (rowsPts outM c fullShare 0 1024 g : sProp 𝕄) ⊢ stg c cc0_stg5_0 (fun x => g (x (0 : Fin 2)).val (x (1 : Fin 2)).val) := by
  unfold rowsPts
  rw [rows_all, View.setOn_univ, show outM.view.set = Finset.univ from View.set_whole _]
  iintro ⟨%f, %hf, H⟩
  iexists f
  isplitr
  · ipureintro; exact funext fun x => hf x (Finset.mem_univ _)
  iexact H

theorem body_row (t : Fin cfg0.N) : defs₀ (F := F) .tc cfg0.body (cfg0.bodyArgs t (cfg0.slots t)) = bodyAt0 t := by unfold defs₀; rw [Defs.onTc_tc]
theorem body_here : bodyAt0 (F := F) t0_0 = at' (cc0_body (F := F)) (grid0.coords t0_0) := rfl

theorem sound : bodyPre m c ⊢ wp frame (wpE (defs₀ (F := F)) 𝒱₀ c none) Set.univ (at' (cc0_body (F := F)) (grid0.coords t0_0)) (fun _ => bodyPost m c) := by
  have hbody := fun K => body K c (grid0.coords t0_0) (inp m) (Q := fun _ => bodyPost m c)
  unfold bodyPre Φ₀ start G'
  simp only [owns_whole]
  iintro ⟨⟨⟨⟨%K, Hg⟩, Hcr, Hlev⟩, Hscr⟩, Ho, ⟨%d0, %g0, %hg0, H0⟩, ⟨%d1, %g1, %hg1, H1⟩, ⟨%d2, %g2, %hg2, H2⟩, ⟨%d3, %g3, %hg3, H3⟩, ⟨%d4, %g4, %hg4, H4⟩, ⟨%d5, %g5, %hg5, H5⟩⟩
  have h0 : g0 = (inp m c).x := by rw [hg0]; unfold Dat.before; rw [if_pos (fetch0_0 t0_0)]; rfl
  have h1 : g1 = (inp m c).wq := by rw [hg1]; unfold Dat.before; rw [if_pos (fetch0_1 t0_0)]; rfl
  have h2 : g2 = (inp m c).k := by rw [hg2]; unfold Dat.before; rw [if_pos (fetch0_2 t0_0)]; rfl
  have h3 : g3 = (inp m c).v := by rw [hg3]; unfold Dat.before; rw [if_pos (fetch0_3 t0_0)]; rfl
  have h4 : g4 = (inp m c).wo := by rw [hg4]; unfold Dat.before; rw [if_pos (fetch0_4 t0_0)]; rfl
  subst h0 h1 h2 h3 h4
  ihave Hst := (enter m c K) $$ [Hg Hcr Hlev Hscr Ho]
  · isplitl [Hg]; · iexact Hg
    isplitl [Hcr Hlev]
    · isplitl [Hcr] <;> iassumption
    isplitl [Hscr] <;> iassumption
  ihave Hout := (out_any c g5) $$ H5
  iapply (hbody K) $$ [Hst Hout H0 H1 H2 H3 H4]
  · isplitl [Hst]; · iexact Hst
    isplitl [Hout]; · iexact Hout
    unfold inputs
    isplitl [H0]; · iexact H0
    isplitl [H1]; · iexact H1
    isplitl [H2]; · iexact H2
    isplitl [H3] <;> iassumption
  unfold atEnd inputs bodyPost Φ₁ Dat.owesAt Pipeline.owesWithin
  simp only [owns_whole]
  rw [show (dats m 0 c).owed t0_0.succ = 0 from rfl]
  iintro ⟨⟨⟨%W, HO⟩, HvB, HvS, HvR, Hscr⟩, Hout, H0, H1, H2, H3, H4⟩
  isplitl [HvB HvS HvR Hscr]
  · isplitl [HvB]; · iexact HvB
    isplitl [HvS]; · iexact HvS
    isplitl [HvR] <;> iassumption
  isplitl [HO]
  · iexists W
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  isplitl [H4]
  · iexists _; isplitr; · (ipureintro; rfl)
    iexact H4
  ihave Hw := (out_whole c (O (PP (inp m)))) $$ Hout
  iexact Hw

theorem body_obligation : BodyObligation (dats (F := F) m 0 c) (defs₀ (F := F)) 𝒱₀ () Set.univ := fun t => by
  rw [fin_N0 t, bigSep_W0, bigSep_W0, body_row, body_here]
  exact triple_restated (sound m c) rfl .rfl fun _ => .rfl

/-! ## The launch -/

theorem ownSemFacts : Pipeline.OwnSemFacts cfg0.spec osem := by decide

theorem share_eq (w : Fin cfg0.W) : (dats m 0 c).share w = fullShare := by unfold Dat.share; split <;> rfl

theorem start_intro :
    iprop(Pipeline.unscopedRestP Pipeline.Prefetch.none cfg0.spec c (fun b => m ((c : Thread nD τ).loc b)) ∗ levAts L lv
        ∗ Pipeline.launchCred O₀ c ∗ prngReg c (ρ c) ∗ G' (PP (inp m)) c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc] <;> iassumption
  · iempintro

theorem scratch_in : (Pipeline.scopedRest cfg0.spec c : sProp 𝕄) ⊢ scratch c := by
  unfold scratch
  rw [bigSep_three, rowsAny_whole (stgM 0) (View.set_whole _), rowsAny_whole (stgM 1) (View.set_whole _), rowsAny_whole (stgM 2) (View.set_whole _),
    rowsAny_whole accM (View.set_whole _), scopedRest0_eq]
  iintro ⟨H0, H1, H2, H3⟩
  isplitr [H0]
  · isplitl [H1]; · iexact H1
    isplitl [H2] <;> iassumption
  iexact H0
theorem scratch_out : (scratch c : sProp 𝕄) ⊢ Pipeline.scopedRest cfg0.spec c := by
  unfold scratch
  rw [bigSep_three, rowsAny_whole (stgM 0) (View.set_whole _), rowsAny_whole (stgM 1) (View.set_whole _), rowsAny_whole (stgM 2) (View.set_whole _),
    rowsAny_whole accM (View.set_whole _), scopedRest0_eq]
  iintro ⟨⟨H1, H2, H3⟩, H0⟩
  isplitl [H0]; · iexact H0
  isplitl [H1]; · iexact H1
  isplitl [H2] <;> iassumption

theorem phi0_intro :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  ihave Hr' := (scratch_in (F := F) c) $$ Hr
  isplitl [Hs] <;> iassumption

theorem phi1_exit :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, ownSems0_eq, unscopedSems0_eq]
  unfold Φ₁
  iintro ⟨HB, HS, HR, Hr⟩
  isplitl [HB]; · iexact HB
  isplitl [HS HR]
  · isplitl [HS] <;> iassumption
  iapply (scratch_out (F := F) c); iexact Hr

theorem waits : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-- A window's array after the run. -/
def finalA (w : Fin cfg0.W) : Buf (Elt F) ((cfg0.win w).arr.view.loc (c : Thread nD τ)) := (dats m 0 c).arrAt w cfg0.N

set_option maxRecDepth 8000 in
/-- From any memory with the counters at zero, every weakly fair execution of the kernel on the mesh ends, and every
    state it ends in has each window's array at its final contents and every counter at zero. -/
theorem run_main : θ_run defs (onTc (τ := τ) (main (F := F))) ⟨m, fun _ => 0, ρ⟩
    (fun r => (∀ c : Dev nD, ∀ w : Fin cfg0.W, r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (PP (inp m))) (G' := G' (PP (inp m))) (u₀ := u₀)
    (hu₀ := by
      unfold u₀
      iintro Hu
      ihave H := (ownU_pair _ _) $$ Hu
      icases H with ⟨HP, HX⟩
      imod (fund_all (PP (inp m))) $$ HX with HG
      imodintro
      isplitl [HP] <;> iassumption)
    (hglob := glob (PP (inp m)))
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem finalA_0 : finalA m c (0 : Fin 6) = m (win0_0.arr.view.loc (c : Thread nD τ)) := (dats (F := F) m 0 c).arrAt_in (0 : Fin 6) rfl _
theorem finalA_1 : finalA m c (1 : Fin 6) = m (win0_1.arr.view.loc (c : Thread nD τ)) := (dats (F := F) m 0 c).arrAt_in (1 : Fin 6) rfl _
theorem finalA_2 : finalA m c (2 : Fin 6) = m (win0_2.arr.view.loc (c : Thread nD τ)) := (dats (F := F) m 0 c).arrAt_in (2 : Fin 6) rfl _
theorem finalA_3 : finalA m c (3 : Fin 6) = m (win0_3.arr.view.loc (c : Thread nD τ)) := (dats (F := F) m 0 c).arrAt_in (3 : Fin 6) rfl _
theorem finalA_4 : finalA m c (4 : Fin 6) = m (win0_4.arr.view.loc (c : Thread nD τ)) := (dats (F := F) m 0 c).arrAt_in (4 : Fin 6) rfl _

end Cert.Cube

end
-- ==== Proof.Softmax.lean ====
/-
# A query's attention, by two formulas

The kernel divides the weighted sum of the values by the sum of the weights, and takes the exponentials of the scores as
they are. The reference takes the greatest score from each first, and divides every weight. Over the extended reals the two
agree when the scores are real and the query attends to some key: `soft_eq`.
-/
module

public import Idealize.ShloMosaic.Lib.Pointwise
public import Idealize.ShloMosaic.PureOps.Ideal.Laws

@[expose] public section

noncomputable section

namespace Cert.Soft

open Idealize.ShloMosaic
open scoped BigOperators

variable {n : ℕ}

/-- The attention of one query, as the kernel computes it: `M` masks the keys, `s` are the scores, `v` the values. -/
def soft (M : Fin n → BitVec 1) (s v : Fin n → EReal) : EReal :=
  Ideal.div (∑ j, Scalar.select (M j) (Ideal.exp (s j) * v j) 0) (∑ j, Scalar.select (M j) (Ideal.exp (s j)) 0)

/-- A score as the reference reads it: −∞ off the mask. -/
def cut (M : Fin n → BitVec 1) (s : Fin n → EReal) (j : Fin n) : EReal := Scalar.select (M j) (s j) ⊥

/-- The greatest of them. -/
def top (M : Fin n → BitVec 1) (s : Fin n → EReal) : EReal := Finset.univ.fold max ⊥ fun j => cut M s j

/-- Multiplication by a nonnegative real passes through a sum. -/
theorem sum_mul_real {ι : Type*} (t : Finset ι) (f : ι → EReal) (r : ℝ) (hr : 0 ≤ r) : (∑ j ∈ t, f j) * (r : EReal) = ∑ j ∈ t, f j * (r : EReal) := by
  classical
  induction t using Finset.induction_on with
  | empty => simp
  | insert a t ha ih =>
    rw [Finset.sum_insert ha, Finset.sum_insert ha, EReal.right_distrib_of_nonneg_of_ne_top (EReal.coe_nonneg.mpr hr) (EReal.coe_ne_top r), ih]

/-- A sum of reals. -/
theorem sum_real {ι : Type*} (t : Finset ι) (f : ι → ℝ) : (∑ j ∈ t, (f j : EReal)) = ((∑ j ∈ t, f j : ℝ) : EReal) := by
  classical
  induction t using Finset.induction_on with
  | empty => simp
  | insert a t ha ih => rw [Finset.sum_insert ha, Finset.sum_insert ha, ih, EReal.coe_add]

/-- Division by a positive real. -/
theorem div_real (x : EReal) (r : ℝ) (hr : 0 < r) : Ideal.div x (r : EReal) = x * ((r⁻¹ : ℝ) : EReal) := by
  unfold Ideal.div
  rw [if_neg (by exact_mod_cast hr.ne'), EReal.coe_inv]

/-- The greatest score is real. -/
theorem top_real (M : Fin n → BitVec 1) (r : Fin n → ℝ) (h : ∃ j, M j = 1#1) : ∃ g : ℝ, top M (fun j => (r j : EReal)) = (g : EReal) := by
  obtain ⟨j0, h0⟩ := h
  have hlt : top M (fun j => (r j : EReal)) < ⊤ := by
    refine (Finset.fold_max_lt _).mpr ⟨bot_lt_top, fun j _ => ?_⟩
    unfold cut Scalar.select
    split
    · exact EReal.coe_lt_top _
    · exact bot_lt_top
  have hgt : ⊥ < top M (fun j => (r j : EReal)) := by
    refine (Finset.lt_fold_max _).mpr (.inr ⟨j0, Finset.mem_univ _, ?_⟩)
    unfold cut Scalar.select
    rw [if_pos (show M j0 = 1 from h0)]
    exact EReal.bot_lt_coe _
  exact ⟨_, (EReal.coe_toReal hlt.ne hgt.ne').symm⟩

/-- The two formulas agree. -/
theorem soft_eq (M : Fin n → BitVec 1) (s v : Fin n → EReal) (hs : ∀ j, ∃ r : ℝ, s j = (r : EReal)) (h : ∃ j, M j = 1#1) :
    (∑ j, v j * Ideal.div (Ideal.exp (cut M s j - top M s)) (∑ j', Ideal.exp (cut M s j' - top M s))) = soft M s v := by
  choose r hr using hs
  obtain rfl : s = fun j => (r j : EReal) := funext hr
  obtain ⟨g, hg⟩ := top_real M r h
  obtain ⟨j0, h0⟩ := h
  have he : ∀ x : ℝ, Ideal.exp (x : EReal) = (Real.exp x : EReal) := fun x => rfl
  let a : Fin n → ℝ := fun j => if M j = 1 then Real.exp (r j) else 0
  have ha : ∀ j, 0 ≤ a j := fun j => by
    change 0 ≤ (if M j = 1 then Real.exp (r j) else 0)
    split
    · exact (Real.exp_pos _).le
    · exact le_refl _
  have hS : 0 < ∑ j, a j := by
    refine Finset.sum_pos' (fun j _ => ha j) ⟨j0, Finset.mem_univ _, ?_⟩
    change 0 < (if M j0 = 1 then Real.exp (r j0) else 0)
    rw [if_pos (show M j0 = 1 from h0)]
    exact Real.exp_pos _
  have hw : ∀ j, Ideal.exp (cut M (fun j => (r j : EReal)) j - top M (fun j => (r j : EReal))) = ((a j * Real.exp (-g) : ℝ) : EReal) := fun j => by
    rw [hg]
    change Ideal.exp ((if M j = 1 then (r j : EReal) else ⊥) - (g : EReal)) = (((if M j = 1 then Real.exp (r j) else 0) * Real.exp (-g) : ℝ) : EReal)
    by_cases hm : M j = 1
    · rw [if_pos hm, if_pos hm, ← EReal.coe_sub, he, ← Real.exp_add, sub_eq_add_neg]
    · rw [if_neg hm, if_neg hm, EReal.bot_sub, zero_mul]
      rfl
  have hden : ∀ j, Scalar.select (M j) (Ideal.exp (r j : EReal)) 0 = (a j : EReal) := fun j => by
    change (if M j = 1 then (Real.exp (r j) : EReal) else 0) = ((if M j = 1 then Real.exp (r j) else 0 : ℝ) : EReal)
    split <;> rfl
  have hnum : ∀ j, Scalar.select (M j) (Ideal.exp (r j : EReal) * v j) 0 = (a j : EReal) * v j := fun j => by
    change (if M j = 1 then (Real.exp (r j) : EReal) * v j else 0) = ((if M j = 1 then Real.exp (r j) else 0 : ℝ) : EReal) * v j
    split
    · rfl
    · rw [EReal.coe_zero, zero_mul]
  have hγ : 0 < Real.exp (-g) := Real.exp_pos _
  unfold soft
  simp only [hw, hden, hnum]
  rw [sum_real, sum_real, ← Finset.sum_mul, div_real _ _ hS, sum_mul_real _ _ _ (inv_nonneg.mpr hS.le)]
  refine Finset.sum_congr rfl fun j _ => ?_
  rw [div_real _ _ (mul_pos hS hγ), ← EReal.coe_mul, mul_comm (a j : EReal) (v j), mul_assoc (v j), ← EReal.coe_mul]
  congr 2
  field_simp

end Cert.Soft

end
-- ==== Proof.Heads.lean ====
/-
# What a device computes, index by index

Each head of a device is `headOf` the queries, the mask, and its keys and values; the heads stand side by side; the partial
product's rows are the heads' rows times the output weights.
-/
module

public import proofs.«01_k».proof.Proof.Contents
public import proofs.«01_k».proof.Proof.Softmax

@[expose] public section

set_option maxRecDepth 16384

noncomputable section

namespace Cert.Cube

open Cert.KernelIdeal Cert.KernelIdeal.Gen Cert.Soft
open Idealize.ShloMosaic
open scoped BigOperators

/-- The scale of the scores. -/
abbrev scale : EReal := Ideal.ofBits .f32 0x3DB504F3#32

/-- Column `d` of head `h`. -/
abbrev col (h : Fin 8) (d : Fin 128) : Fin 1024 := ⟨h.val * 128 + d.val, by omega⟩

/-- A head's output for query `i`, column `d`. -/
def headOf (Q : FVec Ideal S1024x1024 .f32) (M : IVec S1024x1024 1) (K V : FVec Ideal S1024x1x128 .f32) (h : Fin 8) (i : Fin 1024) (d : Fin 128) : EReal :=
  soft (fun j => M (ix2 i j)) (fun j => (∑ e : Fin 128, Q (ix2 i (col h e)) * K (ix3 j 0 e)) * scale) (fun j => V (ix3 j 0 d))

section
variable (x wq : FVec Ideal S1024x1024 .f32) (Q : FVec Ideal S1024x1024 .f32) (M : IVec S1024x1024 1) (K V : FVec Ideal S1024x1x128 .f32) (i : Fin 1024) (d : Fin 128)

theorem pay1_at (j : Fin 1024) : k0_pay1 x wq (ix2 i j) = ∑ y : Fin 1024, x (ix2 i y) * wq (ix2 y j) := by pointwise! [k0_pay1]
theorem pay3_at (j : Fin 1024) : k0_pay3 (F := Ideal) V (ix2 j d) = V (ix3 j 0 d) := by pointwise! [k0_pay3]
theorem pay4_at (j : Fin 1024) : k0_pay4 (F := Ideal) x wq K (ix2 i j)
    = Scalar.select (k0_pay2 (ix2 i j)) (Ideal.exp ((∑ e : Fin 128, k0_pay1 (F := Ideal) x wq (ix2 i (col 0 e)) * K (ix3 j 0 e)) * scale)) 0 := by
  unfold k0_pay4
  generalize k0_pay1 (F := Ideal) x wq = Q
  generalize k0_pay2 = M
  have hc : ∀ e : Fin 128, col 0 e = ⟨e.val, by omega⟩ := fun e => Fin.ext (by show 0 * 128 + e.val = e.val; omega)
  simp only [hc]
  pointwise! []
theorem pay5_at : k0_pay5 (F := Ideal) x wq K (ix2 i 0) = ∑ j : Fin 1024, k0_pay4 (F := Ideal) x wq K (ix2 i j) := by
  unfold k0_pay5
  generalize k0_pay4 (F := Ideal) x wq K = P
  pointwise! []
theorem pay6_at (W : FVec Ideal S1024x128 .f32) (P : FVec Ideal S1024x1024 .f32) (S : FVec Ideal S1024x1 .f32) :
    k0_pay6 (F := Ideal) W P S (ix2 i d) = Ideal.div (∑ j : Fin 1024, P (ix2 i j) * W (ix2 j d)) (S (ix2 i 0)) := by pointwise! [k0_pay6]
theorem head_0 : k0_pay6 (F := Ideal) (k0_pay3 (F := Ideal) V) (k0_pay4 (F := Ideal) x wq K) (k0_pay5 (F := Ideal) x wq K) (ix2 i d) = headOf (k0_pay1 (F := Ideal) x wq) k0_pay2 K V 0 i d := by
  rw [pay6_at, pay5_at]
  unfold headOf soft
  congr 1
  · refine Finset.sum_congr rfl fun j _ => ?_
    rw [pay4_at, pay3_at]
    unfold Scalar.select
    split
    · rfl
    · exact zero_mul _
  · exact Finset.sum_congr rfl fun j _ => pay4_at x wq K i j
theorem head_1 : k0_pay7 Q M K V (ix2 i d) = headOf Q M K V 1 i d := by pointwise! [k0_pay7, headOf, soft]
theorem head_2 : k0_pay8 Q M K V (ix2 i d) = headOf Q M K V 2 i d := by pointwise! [k0_pay8, headOf, soft]
theorem head_3 : k0_pay10 M (k0_pay9 Q) K V (ix2 i d) = headOf Q M K V 3 i d := by pointwise! [k0_pay10, k0_pay9, headOf, soft]
theorem head_4 : k0_pay11 Q M K V (ix2 i d) = headOf Q M K V 4 i d := by pointwise! [k0_pay11, headOf, soft]
theorem head_5 : k0_pay14 M (k0_pay12 Q) (k0_pay13 K) V (ix2 i d) = headOf Q M K V 5 i d := by pointwise! [k0_pay14, k0_pay12, k0_pay13, headOf, soft]
theorem head_6 : k0_pay15 Q M K V (ix2 i d) = headOf Q M K V 6 i d := by pointwise! [k0_pay15, headOf, soft]
end

section
variable (I : Ins Ideal)
theorem X_at (i j : Fin 1024) : I.X (ix2 i j) = I.x (ix2 i j) := by
  refine congrArg I.x (funext fun a => ?_)
  match a with
  | ⟨0, _⟩ => exact Fin.ext (by simp [Rect.unit])
  | ⟨1, _⟩ => exact Fin.ext (by simp [Rect.unit])
theorem Wq_at (i j : Fin 1024) : I.Wq (ix2 i j) = I.wq (ix2 i j) := by
  refine congrArg I.wq (funext fun a => ?_)
  match a with
  | ⟨0, _⟩ => exact Fin.ext (by simp [Rect.unit])
  | ⟨1, _⟩ => exact Fin.ext (by simp [Rect.unit])
theorem Wo_at (i j : Fin 1024) : I.Wo (ix2 i j) = I.wo (ix2 i j) := by
  refine congrArg I.wo (funext fun a => ?_)
  match a with
  | ⟨0, _⟩ => exact Fin.ext (by simp [Rect.unit])
  | ⟨1, _⟩ => exact Fin.ext (by simp [Rect.unit])
theorem K_at (h : Fin 8) (inb) (j : Fin 1024) (d : Fin 128) : I.Kh h.val inb (ix3 j 0 d) = I.k (ix3 j h d) := by
  refine congrArg I.k (funext fun a => ?_)
  match a with
  | ⟨0, _⟩ => exact Fin.ext (by simp [Rect.unit])
  | ⟨1, _⟩ => exact Fin.ext (by simp [Rect.unit])
  | ⟨2, _⟩ => exact Fin.ext (by simp [Rect.unit])
theorem V_at (h : Fin 8) (inb) (j : Fin 1024) (d : Fin 128) : I.Vh h.val inb (ix3 j 0 d) = I.v (ix3 j h d) := by
  refine congrArg I.v (funext fun a => ?_)
  match a with
  | ⟨0, _⟩ => exact Fin.ext (by simp [Rect.unit])
  | ⟨1, _⟩ => exact Fin.ext (by simp [Rect.unit])
  | ⟨2, _⟩ => exact Fin.ext (by simp [Rect.unit])
end

section
variable (M : IVec S1024x1024 1) (v109 v125 v141 v157 v173 v189 v205 : FVec Ideal S1024x128 .f32) (Q : FVec Ideal S1024x1024 .f32) (K V : FVec Ideal S1024x1x128 .f32)

/-- Entry `n` of a row of the heads side by side is entry `n % 128` of head `n / 128`. -/
theorem side (i n : Fin 1024) (H : Fin 8 → Fin 128 → EReal) (h0 : ∀ d, v109 (ix2 i d) = H 0 d) (h1 : ∀ d, v125 (ix2 i d) = H 1 d) (h2 : ∀ d, v141 (ix2 i d) = H 2 d)
    (h3 : ∀ d, v157 (ix2 i d) = H 3 d) (h4 : ∀ d, v173 (ix2 i d) = H 4 d) (h5 : ∀ d, v189 (ix2 i d) = H 5 d) (h6 : ∀ d, v205 (ix2 i d) = H 6 d)
    (h7 : ∀ d, headOf Q M K V 7 i d = H 7 d) :
    k0_pay18 (F := Ideal) M v109 v125 v141 v157 v173 v189 v205 (k0_pay16 (F := Ideal) V) (k0_pay17 (F := Ideal) Q K) (Scalar.ofBits .f32 0x3DB504F3#32) (ix2 i n)
      = H ⟨n.val / 128, by omega⟩ ⟨n.val % 128, by omega⟩ := by
  have hn := n.isLt
  pointwise [k0_pay18, k0_pay16, k0_pay17]
  have fin : ∀ (h : Fin 8) (d : Fin 128), n.val = h.val * 128 + d.val → H h d = H ⟨n.val / 128, by omega⟩ ⟨n.val % 128, by omega⟩ := fun h d e => by
    congr 1
    · exact Fin.ext (by show h.val = n.val / 128; omega)
    · exact Fin.ext (by show d.val = n.val % 128; omega)
  by_cases c0 : n.val < 128
  · rw [dif_pos c0, h0]; exact fin 0 _ (by show n.val = 0 * 128 + (n.val); omega)
  rw [dif_neg c0]
  by_cases c1 : n.val - 128 < 128
  · rw [dif_pos c1, h1]; exact fin 1 _ (by show n.val = 1 * 128 + (n.val - 128); omega)
  rw [dif_neg c1]
  by_cases c2 : n.val - 128 - 128 < 128
  · rw [dif_pos c2, h2]; exact fin 2 _ (by show n.val = 2 * 128 + (n.val - 128 - 128); omega)
  rw [dif_neg c2]
  by_cases c3 : n.val - 128 - 128 - 128 < 128
  · rw [dif_pos c3, h3]; exact fin 3 _ (by show n.val = 3 * 128 + (n.val - 128 - 128 - 128); omega)
  rw [dif_neg c3]
  by_cases c4 : n.val - 128 - 128 - 128 - 128 < 128
  · rw [dif_pos c4, h4]; exact fin 4 _ (by show n.val = 4 * 128 + (n.val - 128 - 128 - 128 - 128); omega)
  rw [dif_neg c4]
  by_cases c5 : n.val - 128 - 128 - 128 - 128 - 128 < 128
  · rw [dif_pos c5, h5]; exact fin 5 _ (by show n.val = 5 * 128 + (n.val - 128 - 128 - 128 - 128 - 128); omega)
  rw [dif_neg c5]
  by_cases c6 : n.val - 128 - 128 - 128 - 128 - 128 - 128 < 128
  · rw [dif_pos c6, h6]; exact fin 6 _ (by show n.val = 6 * 128 + (n.val - 128 - 128 - 128 - 128 - 128 - 128); omega)
  rw [dif_neg c6]
  exact (h7 _).trans (fin 7 _ (by show n.val = 7 * 128 + (n.val - 128 - 128 - 128 - 128 - 128 - 128 - 128); omega))

variable (L Wo : FVec Ideal S1024x1024 .f32)
theorem rows_0 (i : Fin 384) (k : Fin 1024) (cst : Ideal .f32) : k0_pay19 (F := Ideal) M v109 v125 v141 v157 v173 v189 v205 (k0_pay16 (F := Ideal) V) (k0_pay17 (F := Ideal) Q K) cst Wo (ix2 i k)
    = ∑ n : Fin 1024, k0_pay18 (F := Ideal) M v109 v125 v141 v157 v173 v189 v205 (k0_pay16 (F := Ideal) V) (k0_pay17 (F := Ideal) Q K) cst (ix2 ⟨i.val, by omega⟩ n) * Wo (ix2 n k) := by
  unfold k0_pay19
  generalize k0_pay18 (F := Ideal) M v109 v125 v141 v157 v173 v189 v205 (k0_pay16 (F := Ideal) V) (k0_pay17 (F := Ideal) Q K) cst = L
  pointwise! []
theorem rows_1 (i : Fin 384) (k : Fin 1024) (cst : Ideal .f32) : k0_pay21 (F := Ideal) (k0_pay20 (F := Ideal) M v109 v125 v141 v157 v173 v189 v205 (k0_pay16 (F := Ideal) V) (k0_pay17 (F := Ideal) Q K) cst Wo) (ix2 i k)
    = ∑ n : Fin 1024, k0_pay18 (F := Ideal) M v109 v125 v141 v157 v173 v189 v205 (k0_pay16 (F := Ideal) V) (k0_pay17 (F := Ideal) Q K) cst (ix2 ⟨384 + i.val, by omega⟩ n) * Wo (ix2 n k) := by
  unfold k0_pay20
  generalize k0_pay18 (F := Ideal) M v109 v125 v141 v157 v173 v189 v205 (k0_pay16 (F := Ideal) V) (k0_pay17 (F := Ideal) Q K) cst = L
  pointwise! [k0_pay21]
theorem rows_2 (i : Fin 256) (k : Fin 1024) : k0_pay22 (F := Ideal) L Wo (ix2 i k) = ∑ n : Fin 1024, L (ix2 ⟨768 + i.val, by omega⟩ n) * Wo (ix2 n k) := by
  pointwise! [k0_pay22]
end

section
variable (I : Ins Ideal)

/-- A device's scores: head `h`, query `i`, key `j`. -/
def score (x wq : FVec Ideal S1024x1024 .f32) (k : FVec Ideal S1024x8x128 .f32) (h : Fin 8) (i j : Fin 1024) : EReal :=
  (∑ e : Fin 128, (∑ y : Fin 1024, x (ix2 i y) * wq (ix2 y (col h e))) * k (ix3 j h e)) * scale
/-- Which key each query attends to. -/
def keep (i j : Fin 1024) : BitVec 1 := k0_pay2 (ix2 i j)
/-- A device's head `h`, for query `i`, column `d`. -/
def head (h : Fin 8) (i : Fin 1024) (d : Fin 128) : EReal := soft (keep i) (score I.x I.wq I.k h i) (fun j => I.v (ix3 j h d))

theorem headOf_eq (h : Fin 8) (inb inb') (i : Fin 1024) (d : Fin 128) : headOf I.v81 Ins.v93 (I.Kh h.val inb) (I.Vh h.val inb') h i d = head I h i d := by
  unfold headOf head score keep
  simp only [pay1_at, X_at, Wq_at, K_at, V_at]

/-- A row of a device's heads, side by side. -/
theorem v222_at (i n : Fin 1024) : I.v222 (ix2 i n) = head I ⟨n.val / 128, by omega⟩ i ⟨n.val % 128, by omega⟩ :=
  side _ _ _ _ _ _ _ _ _ _ _ i n (fun h d => head I h i d)
    (fun d => (head_0 _ _ _ _ i d).trans (headOf_eq I 0 _ _ i d)) (fun d => (head_1 _ _ _ _ i d).trans (headOf_eq I 1 _ _ i d))
    (fun d => (head_2 _ _ _ _ i d).trans (headOf_eq I 2 _ _ i d)) (fun d => (head_3 _ _ _ _ i d).trans (headOf_eq I 3 _ _ i d))
    (fun d => (head_4 _ _ _ _ i d).trans (headOf_eq I 4 _ _ i d)) (fun d => (head_5 _ _ _ _ i d).trans (headOf_eq I 5 _ _ i d))
    (fun d => (head_6 _ _ _ _ i d).trans (headOf_eq I 6 _ _ i d)) (fun d => headOf_eq I 7 _ _ i d)

theorem ix_eq (R : ℕ) (hR : 0 < R) (i k : ℕ) (hi : i < R) (hk : k < 1024) : ix R hR i k = ix2 ⟨i, hi⟩ ⟨k, hk⟩ := by
  funext a
  match a with
  | ⟨0, _⟩ => exact Fin.ext (Nat.mod_eq_of_lt hi)
  | ⟨1, _⟩ => exact Fin.ext (Nat.mod_eq_of_lt hk)

/-- A device's partial product: its heads' rows times its output weights. -/
theorem part_at (i k : Fin 1024) : part I i.val k.val = ∑ n : Fin 1024, head I ⟨n.val / 128, by omega⟩ i ⟨n.val % 128, by omega⟩ * I.wo (ix2 n k) := by
  have hi := i.isLt
  have key : ∀ i' : Fin 1024, i' = i → (∑ n : Fin 1024, I.v222 (ix2 i' n) * I.Wo (ix2 n k)) = ∑ n : Fin 1024, head I ⟨n.val / 128, by omega⟩ i ⟨n.val % 128, by omega⟩ * I.wo (ix2 n k) := by
    rintro i' rfl
    refine Finset.sum_congr rfl fun n _ => ?_
    rw [v222_at, Wo_at]
  unfold part
  split_ifs with h h'
  · rw [ix_eq 384 _ _ _ h k.isLt]
    exact (rows_0 _ _ _ _ _ _ _ _ _ _ _ _ _ _ _).trans (key _ (Fin.ext rfl))
  · rw [ix_eq 384 _ _ _ (by omega) k.isLt]
    exact (rows_1 _ _ _ _ _ _ _ _ _ _ _ _ _ _ _).trans (key _ (Fin.ext (by simp; omega)))
  · rw [ix_eq 256 _ _ _ (by omega) k.isLt]
    exact (rows_2 _ _ _ _).trans (key _ (Fin.ext (by simp; omega)))
end

end Cert.Cube

end
-- ==== Proof.Result.lean ====
/-
# The result, and the sum over the devices

Every block a device loads is its whole argument, and the result it stores is its whole result: `finalA_5`. The result's
row is the sum of the eight devices' partial products, in whatever order the exchanges took them: `O_sum`.
-/
module

public import proofs.«01_k».proof.Proof.Launch2
public import proofs.«01_k».proof.Proof.Heads

@[expose] public section

noncomputable section

namespace Cert.Cube

open Cert.KernelIdeal Cert.KernelIdeal.Gen
open Idealize.ShloMosaic
open Idealize.ShloMosaic.TcCoe
open scoped BigOperators

section
variable {F : FTy → Type} [FloatOps F]
variable (m : (ℓ : Loc nD τ sig) → Buf (Elt F) ℓ) (c : Dev nD)

theorem read_0 (G : Buf (Elt F) ((c : Thread nD τ).loc main_arg0)) : (win0_0.blk t0_0).view.read (Elt F) G = G :=
  Memref.read_access_unit_zero (Elt F) main_arg0
    (show (fun a => (win0_0.index t0_0) a * main_arg0.ty.shape.size a) = fun _ => 0 from funext fun a => by fin_cases a <;> decide) (fun a => by fin_cases a <;> decide) G
theorem read_1 (G : Buf (Elt F) ((c : Thread nD τ).loc main_arg1)) : (win0_1.blk t0_0).view.read (Elt F) G = G :=
  Memref.read_access_unit_zero (Elt F) main_arg1
    (show (fun a => (win0_1.index t0_0) a * main_arg1.ty.shape.size a) = fun _ => 0 from funext fun a => by fin_cases a <;> decide) (fun a => by fin_cases a <;> decide) G
theorem read_2 (G : Buf (Elt F) ((c : Thread nD τ).loc main_arg2)) : (win0_2.blk t0_0).view.read (Elt F) G = G :=
  Memref.read_access_unit_zero (Elt F) main_arg2
    (show (fun a => (win0_2.index t0_0) a * main_arg2.ty.shape.size a) = fun _ => 0 from funext fun a => by fin_cases a <;> decide) (fun a => by fin_cases a <;> decide) G
theorem read_3 (G : Buf (Elt F) ((c : Thread nD τ).loc main_arg3)) : (win0_3.blk t0_0).view.read (Elt F) G = G :=
  Memref.read_access_unit_zero (Elt F) main_arg3
    (show (fun a => (win0_3.index t0_0) a * main_arg3.ty.shape.size a) = fun _ => 0 from funext fun a => by fin_cases a <;> decide) (fun a => by fin_cases a <;> decide) G
theorem read_4 (G : Buf (Elt F) ((c : Thread nD τ).loc main_arg4)) : (win0_4.blk t0_0).view.read (Elt F) G = G :=
  Memref.read_access_unit_zero (Elt F) main_arg4
    (show (fun a => (win0_4.index t0_0) a * main_arg4.ty.shape.size a) = fun _ => 0 from funext fun a => by fin_cases a <;> decide) (fun a => by fin_cases a <;> decide) G
theorem read_5 (G : Buf (Elt F) ((c : Thread nD τ).loc main_v1)) : (win0_5.blk t0_0).view.read (Elt F) G = G :=
  Memref.read_access_unit_zero (Elt F) main_v1
    (show (fun a => (win0_5.index t0_0) a * main_v1.ty.shape.size a) = fun _ => 0 from funext fun a => by fin_cases a <;> decide) (fun a => by fin_cases a <;> decide) G

/-- The whole result is the one block that is written back. -/
theorem set_5 : (win0_5.blk t0_0).view.set = Finset.univ := by
  have key : ∀ (off : Fin main_v1.ty.shape.rank → ℕ) (h : off = fun _ => 0) (inb : ∀ a, off a + main_v1.ty.shape.size a ≤ main_v1.ty.shape.size a),
      ((Memref.whole main_v1).access (Rect.unit off main_v1.ty.shape.size inb) : View sig .tc _ _ _).set = Finset.univ := fun off h inb => by
    subst h; exact Memref.set_access_whole main_v1
  exact key (fun a => (win0_5.index t0_0) a * main_v1.ty.shape.size a) (funext fun a => by fin_cases a <;> decide) (fun a => by fin_cases a <;> decide)

/-- The result ends at what every device stores. -/
theorem finalA_5 : finalA m c (5 : Fin 6) = outAt m c :=
  (dats m 0 c).arrAt_eq_of_cover (5 : Fin 6) (outAt m c)
    (fun t _ => by
      obtain rfl := fin_N0 t
      exact ((read_5 c (outAt m c)).symm : _))
    fun i => ⟨t0_0, flush0_5 _, (set_5 ▸ Finset.mem_univ i : i ∈ (win0_5.blk t0_0).view.set)⟩
end

section
variable (P : Dev nD → ℕ → ℕ → EReal)

/-- The devices whose partial products device `c` adds up for part `j`, in that order. -/
def path (j : Fin 3) (c : Dev nD) : Fin 8 → Dev nD :=
  ![c, par (axis j 0) c, par (axis j 1) c, par (axis j 0) (par (axis j 1) c),
    par (axis j 2) c, par (axis j 0) (par (axis j 2) c), par (axis j 1) (par (axis j 2) c), par (axis j 0) (par (axis j 1) (par (axis j 2) c))]

theorem path_inj : ∀ (j : Fin 3) (c : Dev nD) (s t : Fin 8), path j c s = path j c t → s = t := by decide +kernel

/-- The exchanges of a part go over the three axes of the cube: a device ends with the sum over all eight. -/
theorem A_sum (c : Dev nD) (j : Fin 3) (i k : ℕ) : A (F := Ideal) P c j 3 i k = ∑ d : Dev nD, P d i k := by
  have hb : Function.Bijective (path j c) := Finite.injective_iff_bijective.mp fun s t h => path_inj j c s t h
  rw [← hb.sum_comp (fun d => P d i k), Fin.sum_univ_eight]
  have e : A (F := Ideal) P c j 3 i k = (((P (path j c 0) i k + P (path j c 1) i k) + (P (path j c 2) i k + P (path j c 3) i k))
      + ((P (path j c 4) i k + P (path j c 5) i k) + (P (path j c 6) i k + P (path j c 7) i k)) : EReal) := rfl
  rw [e]
  ac_rfl

theorem O_sum (i k : ℕ) : O (F := Ideal) P i k = ∑ d : Dev nD, P d i k := A_sum P _ _ i k
end

end Cert.Cube

end
-- ==== Proof.Refer.lean ====
/-
# The reference, stage by stage

Each operation of the reference whose result is used more than once, or that ends a step of the attention, by a name; and
`whole_eq`: the reference's result is the last of them.
-/
module

public import proofs.«01_k».proof.Proof.Gen.ReferenceIdeal.Run
public import Idealize.ShloMosaic.Lib.Pointwise
public import Idealize.ShloMosaic.PureOps.Ideal.Laws

@[expose] public section

noncomputable section

namespace Cert.Whole

open Cert.ReferenceIdeal Cert.ReferenceIdeal.Gen Cert.ReferenceIdeal.Facts
open Idealize.ShloMosaic
open scoped BigOperators

variable (x : FVec Ideal S1024x1024 .f32) (wq : FVec Ideal S1024x8192 .f32) (k v : FVec Ideal S1024x64x128 .f32) (wo : FVec Ideal S8192x1024 .f32)

/-- Which key each query attends to. -/
def msk : IVec S1024x1024 1 :=
  ori (cmpi .sle (absi (subi (broadcastInDim S1024x1024 ![0, 1] bcast_S1024x1_S1024x1024_0_1 (broadcastInDim S1024x1 ![0] bcast_S1024_S1024x1_0 (iotaInDim S1024 32 0))) (broadcastInDim S1024x1024 ![0, 1] bcast_S1x1024_S1024x1024_0_1 (broadcastInDim S1x1024 ![1] bcast_S1024_S1x1024_1 (iotaInDim S1024 32 0))))) (broadcastInDim S1024x1024 ![] bcast_S_S1024x1024 (constantI S_ 32 128#32)))
    (ori (broadcastInDim S1024x1024 ![0, 1] bcast_S1x1024_S1024x1024_0_1 (cmpi .slt (broadcastInDim S1x1024 ![1] bcast_S1024_S1x1024_1 (iotaInDim S1024 32 0)) (broadcastInDim S1x1024 ![] bcast_S_S1x1024 (constantI S_ 32 32#32)))) (broadcastInDim S1024x1024 ![0, 1] bcast_S1024x1_S1024x1024_0_1 (cmpi .slt (broadcastInDim S1024x1 ![0] bcast_S1024_S1024x1_0 (iotaInDim S1024 32 0)) (broadcastInDim S1024x1 ![] bcast_S_S1024x1 (constantI S_ 32 32#32)))))

/-- Whether a query attends to any key. -/
def row : IVec S1024 1 := Host.reduce IntOp.ori msk (constantI S_ 1 0#1) reducesTo_S1024x1024_S1024_d1 h_S_

/-- The scores. -/
def sco : FVec Ideal S64x1024x1024 .f32 :=
  mulf (Host.dotGeneral dot_S1024x64x128_S1024x64x128_S64x1024x1024_2_2_0_0_1_1 none (shapeCast S1024x64x128 (Host.dotGeneral dot_S1024x1024_S1024x8192_S1024x8192_1_0_0_1_n_n none x wq) shapeCasts_S1024x8192_S1024x64x128) k) (broadcastInDim S64x1024x1024 ![] bcast_S_S64x1024x1024 (constant S_ .f32 0x3DB504F3#32))

/-- The scores, −∞ off the mask. -/
def cut : FVec Ideal S64x1024x1024 .f32 :=
  select (broadcastInDim S64x1024x1024 ![0, 1, 2] bcast_S1x1024x1024_S64x1024x1024_0_1_2 (broadcastInDim S1x1024x1024 ![1, 2] bcast_S1024x1024_S1x1024x1024_1_2 msk)) (sco x wq k) (broadcastInDim S64x1024x1024 ![] bcast_S_S64x1024x1024 (id (constant S_ .f32 0xFF800000#32)))

/-- The greatest score of each query. -/
def top : FVec Ideal S64x1024 .f32 := Host.reduce FloatOps.maximumf (cut x wq k) (constant S_ .f32 0xFF800000#32) reducesTo_S64x1024x1024_S64x1024_d2 h_S_

/-- The exponentials. -/
def pow : FVec Ideal S64x1024x1024 .f32 :=
  Host.exp (subf (cut x wq k) (broadcastInDim S64x1024x1024 ![0, 1, 2] bcast_S64x1024x1_S64x1024x1024_0_1_2 (broadcastInDim S64x1024x1 ![0, 1] bcast_S64x1024_S64x1024x1_0_1 (top x wq k))))

/-- Their sum, 1 for a query that attends to no key. -/
def tot : FVec Ideal S64x1024x1 .f32 :=
  select (broadcastInDim S64x1024x1 ![0, 1, 2] bcast_S1x1024x1_S64x1024x1_0_1_2 (broadcastInDim S1x1024x1 ![1] bcast_S1024_S1x1024x1_1 row)) (broadcastInDim S64x1024x1 ![0, 1] bcast_S64x1024_S64x1024x1_0_1 (Host.reduceAdd (pow x wq k) (constant S_ .f32 0x00000000#32) reducesTo_S64x1024x1024_S64x1024_d2 h_S_)) (broadcastInDim S64x1024x1 ![] bcast_S_S64x1024x1 (id (constant S_ .f32 0x3F800000#32)))

/-- The weights. -/
def wgt : FVec Ideal S64x1024x1024 .f32 :=
  select (broadcastInDim S64x1024x1024 ![0, 1, 2] bcast_S1x1024x1_S64x1024x1024_0_1_2 (broadcastInDim S1x1024x1 ![1] bcast_S1024_S1x1024x1_1 row)) (Host.divf (pow x wq k) (broadcastInDim S64x1024x1024 ![0, 1, 2] bcast_S64x1024x1_S64x1024x1024_0_1_2 (tot x wq k))) (broadcastInDim S64x1024x1024 ![] bcast_S_S64x1024x1024 (id (constant S_ .f32 0x00000000#32)))

/-- The heads side by side. -/
def ctx : FVec Ideal S1024x8192 .f32 :=
  shapeCast S1024x8192 (transpose S1024x64x128 [2, 0, 1] (Host.dotGeneral dot_S1024x64x128_S64x1024x1024_S64x128x1024_0_2_2_1_1_0 none v (wgt x wq k)) transposes_S64x128x1024_S1024x64x128_2_0_1) shapeCasts_S1024x64x128_S1024x8192

/-- The result. -/
def out : FVec Ideal S1024x1024 .f32 := Host.dotGeneral dot_S1024x8192_S8192x1024_S1024x1024_1_0_0_1_n_n none (ctx x wq k v) wo

set_option maxRecDepth 16384 in
/-- The reference's result is `out` of its arguments. -/
theorem whole_eq (m : (ℓ : Loc nD τ sig) → Buf (Elt Ideal) ℓ) (c : Dev nD) :
    Value.res_main_v42 m c = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold Value.res_main_v42
  rfl

end Cert.Whole

end
-- ==== Proof.Whole.lean ====
/-
# The reference, index by index

The reference's scores, mask and weights at an index, and its attention as `soft` of them: `ctx_at`, where the scores are real.
-/
module

public import proofs.«01_k».proof.Proof.Refer
public import proofs.«01_k».proof.Proof.Softmax
public import Idealize.ShloMosaic.Lib.Routing.OpsOrder

@[expose] public section

set_option maxRecDepth 16384

noncomputable section

namespace Cert.Whole

open Cert.ReferenceIdeal Cert.ReferenceIdeal.Gen Cert.ReferenceIdeal.Facts
open Idealize.ShloMosaic
open scoped BigOperators

variable (x : FVec Ideal S1024x1024 .f32) (wq : FVec Ideal S1024x8192 .f32) (k v : FVec Ideal S1024x64x128 .f32) (wo : FVec Ideal S8192x1024 .f32)

/-- The bits of −∞. -/
theorem bot_bits : Ideal.ofBits .f32 0xFF800000#32 = ⊥ := by simp [Ideal.ofBits, Ideal.ieee]

/-- The scale is real. -/
theorem scale_real : ∃ r : ℝ, Ideal.ofBits .f32 0x3DB504F3#32 = (r : EReal) := by
  unfold Ideal.ofBits Ideal.ieee
  simp only []
  rw [if_neg (by decide), if_neg (by decide)]
  exact ⟨_, rfl⟩

/-- The mask, at an index. -/
theorem msk_at (i j : Fin 1024) : msk (ix2 i j) = IntOp.ori (IntOp.cmpi CmpIPredicate.sle (IntOp.absi (IntOp.subi (BitVec.ofNat 32 i.val) (BitVec.ofNat 32 j.val))) 128#32)
      (IntOp.ori (IntOp.cmpi CmpIPredicate.slt (BitVec.ofNat 32 j.val) 32#32) (IntOp.cmpi CmpIPredicate.slt (BitVec.ofNat 32 i.val) 32#32)) := by
  pointwise! [msk]

/-- Every query attends to the key of its own number. -/
theorem msk_self (i : Fin 1024) : msk (ix2 i i) = 1#1 := by
  rw [msk_at, show IntOp.subi (BitVec.ofNat 32 i.val) (BitVec.ofNat 32 i.val) = 0#32 from BitVec.sub_self _]
  generalize IntOp.ori (IntOp.cmpi CmpIPredicate.slt (BitVec.ofNat 32 i.val) 32#32) (IntOp.cmpi CmpIPredicate.slt (BitVec.ofNat 32 i.val) 32#32) = b
  revert b
  decide

/-- So every query attends to some key. -/
theorem row_at (i : Fin 1024) : row (ix1 i) = 1#1 := by
  have h : row (ix1 i) = Finset.fold IntOp.ori 0#1 (fun j => msk (ix2 i j)) Finset.univ := by pointwise! [row]
  rw [h]
  exact (Routing.fold_ori _ _).mpr ⟨i, Finset.mem_univ _, msk_self i⟩

theorem sco_at (h : Fin 64) (i j : Fin 1024) : sco x wq k (ix3 h i j)
    = (∑ e : Fin 128, (∑ y : Fin 1024, x (ix2 i y) * wq (ix2 y ⟨h.val * 128 + e.val, by omega⟩)) * k (ix3 j h e)) * Ideal.ofBits .f32 0x3DB504F3#32 := by
  pointwise! [sco]

theorem cut_at (h : Fin 64) (i j : Fin 1024) : cut x wq k (ix3 h i j) = Soft.cut (fun j => msk (ix2 i j)) (fun j => sco x wq k (ix3 h i j)) j := by
  have e : cut x wq k (ix3 h i j) = Scalar.select (msk (ix2 i j)) (sco x wq k (ix3 h i j)) (id (constant (F := Ideal) S_ FTy.f32 0xFF800000#32) ix0) := by pointwise! [cut]
  rw [e]
  exact congrArg (Scalar.select _ _) bot_bits

theorem top_at (h : Fin 64) (i : Fin 1024) : top x wq k (ix2 h i) = Soft.top (fun j => msk (ix2 i j)) (fun j => sco x wq k (ix3 h i j)) := by
  have e : top x wq k (ix2 h i) = Finset.fold max (Ideal.ofBits FTy.f32 0xFF800000#32) (fun j => cut x wq k (ix3 h i j)) Finset.univ := by pointwise! [top]
  rw [e, bot_bits]
  unfold Soft.top
  simp only [cut_at]

theorem pow_at (h : Fin 64) (i j : Fin 1024) : pow x wq k (ix3 h i j)
    = Ideal.exp (Soft.cut (fun j => msk (ix2 i j)) (fun j => sco x wq k (ix3 h i j)) j - Soft.top (fun j => msk (ix2 i j)) (fun j => sco x wq k (ix3 h i j))) := by
  have e : pow x wq k (ix3 h i j) = Ideal.exp (cut x wq k (ix3 h i j) - top x wq k (ix2 h i)) := by pointwise! [pow]
  rw [e, cut_at, top_at]

theorem tot_at (h : Fin 64) (i : Fin 1024) : tot x wq k (ix3 h i 0) = ∑ j : Fin 1024, pow x wq k (ix3 h i j) := by
  have e : tot x wq k (ix3 h i 0) = Scalar.select (row (ix1 i)) (∑ j : Fin 1024, pow x wq k (ix3 h i j)) (id (constant (F := Ideal) S_ FTy.f32 0x3F800000#32) ix0) := by pointwise! [tot]
  rw [e, row_at]
  rfl

theorem wgt_at (h : Fin 64) (i j : Fin 1024) : wgt x wq k (ix3 h i j) = Ideal.div (pow x wq k (ix3 h i j)) (∑ j : Fin 1024, pow x wq k (ix3 h i j)) := by
  have e : wgt x wq k (ix3 h i j) = Scalar.select (row (ix1 i)) (Ideal.div (pow x wq k (ix3 h i j)) (tot x wq k (ix3 h i 0))) (id (constant (F := Ideal) S_ FTy.f32 0x00000000#32) ix0) := by pointwise! [wgt]
  rw [e, row_at, tot_at]
  rfl

/-- The heads side by side, where the scores are real. -/
theorem ctx_at (hs : ∀ h i j, ∃ r : ℝ, sco x wq k (ix3 h i j) = (r : EReal)) (i : Fin 1024) (n : Fin 8192) : ctx x wq k v (ix2 i n)
    = Soft.soft (fun j => msk (ix2 i j)) (fun j => sco x wq k (ix3 ⟨n.val / 128, by omega⟩ i j)) (fun j => v (ix3 j ⟨n.val / 128, by omega⟩ ⟨n.val % 128, by omega⟩)) := by
  have e : ctx x wq k v (ix2 i n) = ∑ j : Fin 1024, v (ix3 j ⟨n.val / 128, by omega⟩ ⟨n.val % 128, by omega⟩) * wgt x wq k (ix3 ⟨n.val / 128, by omega⟩ i j) := by pointwise! [ctx]
  rw [e]
  simp only [wgt_at, pow_at]
  exact Soft.soft_eq _ _ _ (hs _ i) ⟨i, msk_self i⟩

theorem out_at (i c : Fin 1024) : out x wq k v wo (ix2 i c) = ∑ n : Fin 8192, ctx x wq k v (ix2 i n) * wo (ix2 n c) := by
  pointwise! [out]

end Cert.Whole

end
-- ==== Proof.Equation.lean ====
/-
# The sum of the devices' partial products is the reference's result

Device `d`'s heads are the reference's heads `8 d … 8 d + 7`, so its partial product is the part of the reference's last
contraction over the columns of those heads; the eight parts make up the whole: `parts_eq`.
-/
module

public import proofs.«01_k».proof.Proof.Heads
public import proofs.«01_k».proof.Proof.Whole

@[expose] public section

set_option maxRecDepth 16384

noncomputable section

namespace Cert.Equation

open Idealize.ShloMosaic
open Cert.Cube (Ins head keep score part col)
open scoped BigOperators

abbrev S2 : Shape := ⟨2, ![1024, 1024]⟩

/-- A real number among the extended ones. -/
def IsReal (a : EReal) : Prop := ∃ r : ℝ, a = (r : EReal)

theorem IsReal.mul {a b : EReal} (ha : IsReal a) (hb : IsReal b) : IsReal (a * b) := by
  obtain ⟨r, rfl⟩ := ha; obtain ⟨s, rfl⟩ := hb
  exact ⟨r * s, (EReal.coe_mul r s).symm⟩
theorem IsReal.sum {n : ℕ} {f : Fin n → EReal} (h : ∀ j, IsReal (f j)) : IsReal (∑ j, f j) := by
  choose r hr using h
  exact ⟨∑ j, r j, by simp only [hr]; exact Soft.sum_real _ _⟩

variable (x : FVec Ideal ⟨2, ![1024, 1024]⟩ .f32) (wq : FVec Ideal ⟨2, ![1024, 8192]⟩ .f32) (k v : FVec Ideal ⟨3, ![1024, 64, 128]⟩ .f32) (wo : FVec Ideal ⟨2, ![8192, 1024]⟩ .f32)

/-- The scores are real when the activations, the query weights and the keys are. -/
theorem sco_real (hx : ∀ i j, IsReal (x (ix2 i j))) (hq : ∀ i j, IsReal (wq (ix2 i j))) (hk : ∀ i j e, IsReal (k (ix3 i j e))) (h : Fin 64) (i j : Fin 1024) :
    IsReal (Whole.sco x wq k (ix3 h i j)) := by
  rw [Whole.sco_at]
  exact (IsReal.sum fun e => (IsReal.sum fun y => (hx i y).mul (hq y _)).mul (hk j h e)).mul Whole.scale_real

/-- The kernel's mask is the reference's. -/
theorem keep_eq (i j : Fin 1024) : keep i j = Whole.msk (ix2 i j) := by
  have e : keep i j = IntOp.ori (IntOp.ori (IntOp.cmpi CmpIPredicate.sle (IntOp.absi (IntOp.subi (BitVec.ofNat 32 i.val) (BitVec.ofNat 32 j.val))) 128#32)
      (IntOp.cmpi CmpIPredicate.slt (BitVec.ofNat 32 j.val) 32#32)) (IntOp.cmpi CmpIPredicate.slt (BitVec.ofNat 32 i.val) 32#32) := by
    unfold keep
    pointwise! [Cert.KernelIdeal.Gen.k0_pay2]
  rw [e, Whole.msk_at]
  exact BitVec.or_assoc _ _ _

/-- A sum over the columns of all heads, device by device. -/
theorem sum_devices (f : Fin 8192 → EReal) : (∑ n : Fin 8192, f n) = ∑ d : Fin 8, ∑ n : Fin 1024, f ⟨d.val * 1024 + n.val, by omega⟩ := by
  rw [show (∑ n : Fin 8192, f n) = ∑ p : Fin 8 × Fin 1024, f (finProdFinEquiv p) from ((finProdFinEquiv (m := 8) (n := 1024)).sum_comp f).symm, Fintype.sum_prod_type]
  refine Finset.sum_congr rfl fun d _ => Finset.sum_congr rfl fun n _ => congrArg f (Fin.ext ?_)
  show n.val + 1024 * d.val = d.val * 1024 + n.val
  omega

/-- Device `d` holds the columns and the rows of its eight heads. -/
structure Holds (I : Ins Ideal) (d : Fin 8) : Prop where
  x : ∀ i j : Fin 1024, I.x (ix2 i j) = x (ix2 i j)
  wq : ∀ i j : Fin 1024, I.wq (ix2 i j) = wq (ix2 i ⟨d.val * 1024 + j.val, by omega⟩)
  k : ∀ (i : Fin 1024) (h : Fin 8) (e : Fin 128), I.k (ix3 i h e) = k (ix3 i ⟨d.val * 8 + h.val, by omega⟩ e)
  v : ∀ (i : Fin 1024) (h : Fin 8) (e : Fin 128), I.v (ix3 i h e) = v (ix3 i ⟨d.val * 8 + h.val, by omega⟩ e)
  wo : ∀ i j : Fin 1024, I.wo (ix2 i j) = wo (ix2 ⟨d.val * 1024 + i.val, by omega⟩ j)

variable {x wq k v wo}

/-- A device's scores are the reference's. -/
theorem score_eq {I : Ins Ideal} {d : Fin 8} (H : Holds x wq k v wo I d) (h : Fin 8) (i j : Fin 1024) :
    score I.x I.wq I.k h i j = Whole.sco x wq k (ix3 ⟨d.val * 8 + h.val, by omega⟩ i j) := by
  rw [Whole.sco_at]
  unfold score
  refine congrArg (fun t : EReal => t * Ideal.ofBits .f32 0x3DB504F3#32) (Finset.sum_congr rfl fun e _ => ?_)
  rw [H.k]
  refine congrArg (fun t : EReal => t * k (ix3 j ⟨d.val * 8 + h.val, by omega⟩ e)) (Finset.sum_congr rfl fun y _ => ?_)
  rw [H.x, H.wq]
  refine congrArg (fun n => x (ix2 i y) * wq (ix2 y n)) (Fin.ext ?_)
  show d.val * 1024 + (h.val * 128 + e.val) = (d.val * 8 + h.val) * 128 + e.val
  omega

/-- A device's heads are the reference's. -/
theorem head_eq {I : Ins Ideal} {d : Fin 8} (H : Holds x wq k v wo I d) (hs : ∀ h i j, IsReal (Whole.sco x wq k (ix3 h i j))) (i n : Fin 1024) :
    head I ⟨n.val / 128, by omega⟩ i ⟨n.val % 128, by omega⟩ = Whole.ctx x wq k v (ix2 i ⟨d.val * 1024 + n.val, by omega⟩) := by
  have e1 : (⟨(d.val * 1024 + n.val) / 128, by omega⟩ : Fin 64) = ⟨d.val * 8 + n.val / 128, by omega⟩ := Fin.ext (by show (d.val * 1024 + n.val) / 128 = d.val * 8 + n.val / 128; omega)
  have e2 : (⟨(d.val * 1024 + n.val) % 128, by omega⟩ : Fin 128) = ⟨n.val % 128, by omega⟩ := Fin.ext (by show (d.val * 1024 + n.val) % 128 = n.val % 128; omega)
  rw [Whole.ctx_at x wq k v hs]
  unfold head
  congr 1
  · exact funext fun j => keep_eq i j
  · funext j
    rw [score_eq H]
    exact congrArg (fun h => Whole.sco x wq k (ix3 h i j)) e1.symm
  · funext j
    rw [H.v]
    exact congrArg₂ (fun h e => v (ix3 j h e)) e1.symm e2.symm

/-- The devices' partial products add up to the reference's result. -/
theorem parts_eq {I : Fin 8 → Ins Ideal} (H : ∀ d, Holds x wq k v wo (I d) d) (hs : ∀ h i j, IsReal (Whole.sco x wq k (ix3 h i j))) (i c : Fin 1024) :
    (∑ d : Fin 8, part (I d) i.val c.val : EReal) = Whole.out x wq k v wo (ix2 i c) := by
  rw [Whole.out_at, sum_devices]
  refine Finset.sum_congr rfl fun d _ => (Cert.Cube.part_at (I d) i c).trans (Finset.sum_congr rfl fun n _ => ?_)
  rw [head_eq (H d) hs, (H d).wo]

end Cert.Equation

end
-- ==== Proof.Frames.lean ====
/-
# Termination

The kernel, its ideal program and the reference end, with their arguments as they were and every counter at zero.
-/
module

public import proofs.«01_k».proof.Defs
public import proofs.«01_k».proof.Proof.Gen.Kernel
public import proofs.«01_k».proof.Proof.Gen.ReferenceIdeal.Run
public import proofs.«01_k».proof.Proof.Launch2

@[expose] public section

noncomputable section

namespace Cert.Proof

open Idealize.ShloMosaic Idealize.SL.Sem

/-- The kernel's run, read at the argument arrays. -/
theorem args_same {F : FTy → Type} [FloatOps F] (m : (ℓ : Loc Cert.KernelIdeal.nD Cert.KernelIdeal.τ Cert.KernelIdeal.sig) → Buf (Elt F) ℓ)
    {r : PUnit × MemSt Cert.KernelIdeal.nD Cert.KernelIdeal.τ Cert.KernelIdeal.sig (Elt F)}
    (h : ∀ (c : Dev Cert.KernelIdeal.nD) (w : Fin Cert.KernelIdeal.cfg0.W), r.2.mem ((Cert.KernelIdeal.cfg0.win w).arr.view.loc (c.tc : Thread Cert.KernelIdeal.nD Cert.KernelIdeal.τ)) = Cert.Cube.finalA m c w)
    (c : Dev Cert.KernelIdeal.nD) :
    r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
    ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
    ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
    ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
    ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4) :=
  ⟨(h c (0 : Fin 6)).trans (Cert.Cube.finalA_0 m c), (h c (1 : Fin 6)).trans (Cert.Cube.finalA_1 m c), (h c (2 : Fin 6)).trans (Cert.Cube.finalA_2 m c),
    (h c (3 : Fin 6)).trans (Cert.Cube.finalA_3 m c), (h c (4 : Fin 6)).trans (Cert.Cube.finalA_4 m c)⟩

/-- The ideal program ends, its arguments as they were. -/
theorem frame_ideal : Cert.quiescent_KernelIdeal := fun m ρ _ =>
  (θ_run Cert.KernelIdeal.defs _ _).mono (fun _ h => ⟨args_same m h.1, h.2⟩) (Cert.Cube.run_main (F := Ideal) m ρ)

set_option maxRecDepth 20000 in
/-- The kernel and its ideal program call the same bodies. -/
theorem bodies_same : @Cert.Kernel.defs₀ Bits _ Cert.Kernel.Gen.facts = @Cert.KernelIdeal.defs₀ Bits _ Cert.KernelIdeal.Gen.facts := by
  unfold Cert.Kernel.defs₀ Cert.KernelIdeal.defs₀
  refine congrArg Defs.onTc ?_
  funext l a
  match l, a with
  | ⟨0, _⟩, (t, s) => rfl

set_option maxRecDepth 20000 in
/-- The two programs have the same table of bodies. -/
theorem defs_same : @Cert.Kernel.defs Bits _ Cert.Kernel.Gen.facts = @Cert.KernelIdeal.defs Bits _ Cert.KernelIdeal.Gen.facts := by
  unfold Cert.Kernel.defs Cert.KernelIdeal.defs
  exact congrArg (Pipeline.defs (@Cert.KernelIdeal.pcfgs Bits Cert.KernelIdeal.Gen.facts)) bodies_same

set_option maxRecDepth 8000 in
/-- The kernel ends, its arguments as they were. -/
theorem frame_kernel : Cert.quiescent_Kernel := fun m ρ _ => by
  have h := (θ_run Cert.KernelIdeal.defs _ _).mono (fun _ h => And.intro (args_same m h.1) h.2) (Cert.Cube.run_main (F := Bits) m ρ)
  rw [← defs_same] at h
  exact h

/-- The reference ends, its arguments as they were. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Value.lean ====
/-
# The value of the result

From finite activations, query weights and keys, every device's result is the reference's: `value`.
-/
module

public import proofs.«01_k».proof.Proof.Result
public import proofs.«01_k».proof.Proof.Equation
public import proofs.«01_k».proof.Proof.Frames

@[expose] public section

set_option maxRecDepth 16384

noncomputable section

namespace Cert.Proof

open Idealize.ShloMosaic Idealize.SL.Sem
open Cert.Equation (IsReal)

/-- The side conditions of the precondition. -/
theorem pre_kernel : Cert.Pre_finite_scores_KernelIdeal.Facts := ⟨by decide, by decide⟩
theorem pre_reference : Cert.Pre_finite_scores_ReferenceIdeal.Facts := ⟨by decide, by decide, by decide⟩

/-- A number whose magnitude is below +∞ is real. -/
theorem real_of_abs {a : EReal} (h : BitVec.ofBool (decide (FloatOps.absf (F := Ideal) (φ := .f32) a < Ideal.ofBits .f32 0x7F800000#32)) = 1#1) : IsReal a := by
  have ht : Ideal.ofBits .f32 0x7F800000#32 = ⊤ := by simp [Ideal.ofBits, Ideal.ieee]
  rw [ht] at h
  have h' : max a (-a) < ⊤ := by
    by_contra hc
    rw [show decide (FloatOps.absf (F := Ideal) (φ := .f32) a < (⊤ : EReal)) = false from decide_eq_false hc] at h
    exact absurd h (by decide)
  have h1 : a ≠ ⊤ := ((le_max_left _ _).trans_lt h').ne
  have h2 : a ≠ ⊥ := fun e => by
    rw [e, EReal.neg_bot] at h'
    exact absurd ((le_max_right _ _).trans_lt h') (lt_irrefl _)
  exact ⟨a.toReal, (EReal.coe_toReal h1 h2).symm⟩

section
open Cert.Pre_finite_scores_KernelIdeal
variable [Facts] (a b o : FVec Ideal S1024x1024 .f32) (k v : FVec Ideal S1024x8x128 .f32)
theorem pre_x (h : (fn a b k v o).1 = fun _ => 1#1) (i j : Fin 1024) : IsReal (a (ix2 i j)) := by
  refine real_of_abs ((?_ : _ = (fn a b k v o).1 (ix2 i j)).trans (congrFun h _))
  pointwise! [fn]
theorem pre_q (h : (fn a b k v o).2.1 = fun _ => 1#1) (i j : Fin 1024) : IsReal (b (ix2 i j)) := by
  refine real_of_abs ((?_ : _ = (fn a b k v o).2.1 (ix2 i j)).trans (congrFun h _))
  pointwise! [fn]
theorem pre_k (h : (fn a b k v o).2.2 = fun _ => 1#1) (i : Fin 1024) (j : Fin 8) (e : Fin 128) : IsReal (k (ix3 i j e)) := by
  refine real_of_abs ((?_ : _ = (fn a b k v o).2.2 (ix3 i j e)).trans (congrFun h _))
  pointwise! [fn]
end

open Cert.KernelIdeal Idealize.ShloMosaic.TcCoe in
/-- Every device's result is the reference's, of the whole arrays. -/
theorem value (m : (ℓ : Loc nD τ sig) → Buf (Elt Ideal) ℓ)
    (x : FVec Ideal ⟨2, ![1024, 1024]⟩ .f32) (wq : FVec Ideal ⟨2, ![1024, 8192]⟩ .f32) (k v : FVec Ideal ⟨3, ![1024, 64, 128]⟩ .f32) (wo : FVec Ideal ⟨2, ![8192, 1024]⟩ .f32)
    (hpre : @Cert.Pre_KernelIdeal_finite_scores_KernelIdeal pre_kernel m)
    (h : ∀ c : Dev nD, m ((c.tc : Thread nD τ).loc main_arg0) = x
      ∧ m ((c.tc : Thread nD τ).loc main_arg1) = Layout.block ⟨2, ![1024, 1024]⟩ ⟨2, ![1024, 8192]⟩ 1 8 c wq
      ∧ m ((c.tc : Thread nD τ).loc main_arg2) = Layout.block ⟨3, ![1024, 8, 128]⟩ ⟨3, ![1024, 64, 128]⟩ 1 8 c k
      ∧ m ((c.tc : Thread nD τ).loc main_arg3) = Layout.block ⟨3, ![1024, 8, 128]⟩ ⟨3, ![1024, 64, 128]⟩ 1 8 c v
      ∧ m ((c.tc : Thread nD τ).loc main_arg4) = Layout.block ⟨2, ![1024, 1024]⟩ ⟨2, ![8192, 1024]⟩ 0 8 c wo) (c : Dev nD) :
    Cert.Cube.finalA m c (5 : Fin 6) = Cert.Whole.out x wq k v wo := by
  have bq : ∀ (d : Fin 8) (i j : Fin 1024), Layout.block ⟨2, ![1024, 1024]⟩ ⟨2, ![1024, 8192]⟩ 1 8 d wq (by decide) (ix2 i j) = wq (ix2 i ⟨d.val * 1024 + j.val, by omega⟩) := fun d i j =>
    congrArg wq (funext fun a => match a with
      | ⟨0, _⟩ => rfl
      | ⟨1, _⟩ => rfl)
  have bo : ∀ (d : Fin 8) (i j : Fin 1024), Layout.block ⟨2, ![1024, 1024]⟩ ⟨2, ![8192, 1024]⟩ 0 8 d wo (by decide) (ix2 i j) = wo (ix2 ⟨d.val * 1024 + i.val, by omega⟩ j) := fun d i j =>
    congrArg wo (funext fun a => match a with
      | ⟨0, _⟩ => rfl
      | ⟨1, _⟩ => rfl)
  have b3 : ∀ (z : FVec Ideal ⟨3, ![1024, 64, 128]⟩ .f32) (d : Fin 8) (i : Fin 1024) (j : Fin 8) (e : Fin 128),
      Layout.block ⟨3, ![1024, 8, 128]⟩ ⟨3, ![1024, 64, 128]⟩ 1 8 d z (by decide) (ix3 i j e) = z (ix3 i ⟨d.val * 8 + j.val, by omega⟩ e) := fun z d i j e =>
    congrArg z (funext fun a => match a with
      | ⟨0, _⟩ => rfl
      | ⟨1, _⟩ => rfl
      | ⟨2, _⟩ => rfl)
  have H : ∀ d : Dev nD, Cert.Equation.Holds x wq k v wo (Cert.Cube.inp m d) d := fun d =>
    { x := fun i j => congrFun ((Cert.Cube.read_0 d _).trans (h d).1) _
      wq := fun i j => (congrFun ((Cert.Cube.read_1 d _).trans (h d).2.1) _).trans (bq d i j)
      k := fun i j e => (congrFun ((Cert.Cube.read_2 d _).trans (h d).2.2.1) _).trans (b3 k d i j e)
      v := fun i j e => (congrFun ((Cert.Cube.read_3 d _).trans (h d).2.2.2.1) _).trans (b3 v d i j e)
      wo := fun i j => (congrFun ((Cert.Cube.read_4 d _).trans (h d).2.2.2.2) _).trans (bo d i j) }
  have hx : ∀ i j : Fin 1024, IsReal (x (ix2 i j)) := fun i j => by
    have := @pre_x pre_kernel _ _ _ _ _ (hpre 0).1 i j
    rwa [(h 0).1] at this
  have hq : ∀ (i : Fin 1024) (n : Fin 8192), IsReal (wq (ix2 i n)) := fun i n => by
    have := @pre_q pre_kernel _ _ _ _ _ (hpre ⟨n.val / 1024, by have := n.isLt; show _ < 8; omega⟩).2.1 i ⟨n.val % 1024, by omega⟩
    rw [(h _).2.1, bq] at this
    rwa [show (⟨n.val / 1024 * 1024 + n.val % 1024, by omega⟩ : Fin 8192) = n from Fin.ext (by show n.val / 1024 * 1024 + n.val % 1024 = n.val; omega)] at this
  have hk : ∀ (i : Fin 1024) (n : Fin 64) (e : Fin 128), IsReal (k (ix3 i n e)) := fun i n e => by
    have := @pre_k pre_kernel _ _ _ _ _ (hpre ⟨n.val / 8, by have := n.isLt; show _ < 8; omega⟩).2.2 i ⟨n.val % 8, by omega⟩ e
    rw [(h _).2.2.1, b3] at this
    rwa [show (⟨n.val / 8 * 8 + n.val % 8, by omega⟩ : Fin 64) = n from Fin.ext (by show n.val / 8 * 8 + n.val % 8 = n.val; omega)] at this
  rw [Cert.Cube.finalA_5]
  funext i
  rw [show i = ix2 (i (0 : Fin 2)) (i (1 : Fin 2)) from funext fun a => match a with
    | ⟨0, _⟩ => rfl
    | ⟨1, _⟩ => rfl]
  exact (Cert.Cube.O_sum _ _ _).trans (Cert.Equation.parts_eq H (Cert.Equation.sco_real x wq k hx hq hk) _ _)

end Cert.Proof

end
-- ==== Proof.Algebraic.lean ====
/-
# The value claim

The kernel on its mesh and the reference on one device, from the same arrays: every device ends with the reference's result.
-/
module

public import proofs.«01_k».proof.Proof.Value

@[expose] public section

noncomputable section

namespace Cert.Proof

open Idealize.ShloMosaic Idealize.SL.Sem

/-- Every device's result is the reference's, from finite activations, query weights and keys. -/
theorem algebraic : @Cert.algebraic_KernelIdeal_ReferenceIdeal_pre_finite_scores_KernelIdeal Cert.KernelIdeal.Gen.facts Cert.ReferenceIdeal.Gen.facts pre_kernel :=
  fun m g m' g' hpre hagree =>
    ⟨Cert.ReferenceIdeal.Value.res_main_v42 m' 0,
      (θ_run Cert.KernelIdeal.defs _ _).mono
        (fun r h c => ⟨(h.1 c (5 : Fin 6)).trans ((value m _ _ _ _ _ hpre hagree c).trans (Cert.Whole.whole_eq m' 0).symm), args_same m h.1 c⟩)
        (Cert.Cube.run_main (F := Ideal) m g),
      (θ_run Cert.ReferenceIdeal.defs _ _).mono (fun r h => h 0) (Cert.ReferenceIdeal.Value.run (F := Ideal) m' g')⟩

/-- The ideal program ends under the precondition too. -/
theorem frame_ideal_pre : @Cert.quiescent_KernelIdeal_pre_finite_scores_KernelIdeal Cert.KernelIdeal.Gen.facts pre_kernel := fun m ρ _ => frame_ideal m ρ trivial

/-- So does the reference. -/
theorem frame_reference_pre : @Cert.quiescent_ReferenceIdeal_pre_finite_scores_ReferenceIdeal Cert.ReferenceIdeal.Gen.facts pre_reference := fun m ρ _ => frame_reference m ρ trivial

end Cert.Proof

end
-- ==== Proof.lean ====
/-
# The claims

The kernel and its ideal program run to the end on the mesh, from any memory; so does the reference; and from finite
activations, query weights and keys every device of the ideal program ends with the reference's result.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Algebraic

@[expose] public section

noncomputable section

namespace Cert.Proof

theorem claim : Cert.Claim := ⟨Cert.Kernel.Gen.facts, Cert.KernelIdeal.Gen.facts, Cert.ReferenceIdeal.Gen.facts, pre_kernel, pre_reference,
  frame_kernel, frame_ideal, frame_ideal_pre, frame_reference, frame_reference_pre, trivial, algebraic⟩

end Cert.Proof

end
